-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S1 : Shape := ⟨1, ![1]⟩
abbrev S4x32 : Shape := ⟨2, ![4, 32]⟩
abbrev S32x128x4096 : Shape := ⟨3, ![32, 128, 4096]⟩
abbrev S64 : Shape := ⟨1, ![64]⟩
abbrev S1x1 : Shape := ⟨2, ![1, 1]⟩
abbrev S_ : Shape := ⟨0, ![]⟩
abbrev S1x128x4096 : Shape := ⟨3, ![1, 128, 4096]⟩
abbrev S32x4096 : Shape := ⟨2, ![32, 4096]⟩
abbrev S1x32x4096 : Shape := ⟨3, ![1, 32, 4096]⟩
abbrev S128x64 : Shape := ⟨2, ![128, 64]⟩

abbrev nBuf : Space → Nat
  | .hbm => 7
  | .vmem => 4
  | .smem => 2
  | _ => 0

abbrev bufTy : (tb : Table) → Fin (tcTables nBuf tb) → BufTy
  | .hbm, ⟨0, _⟩ => ⟨S128x4096, .fp8e4m3⟩
  | .hbm, ⟨1, _⟩ => ⟨S4096x64, .fp8e5m2⟩
  | .hbm, ⟨2, _⟩ => ⟨S1, .f32⟩
  | .hbm, ⟨3, _⟩ => ⟨S1, .f32⟩
  | .hbm, ⟨4, _⟩ => ⟨S4x32, .i32⟩
  | .hbm, ⟨5, _⟩ => ⟨S1, .f32⟩
  | .hbm, ⟨6, _⟩ => ⟨S4096x64, .f32⟩
  | .local _ .vmem, ⟨0, _⟩ => ⟨S128x4096, .fp8e4m3⟩
  | .local _ .vmem, ⟨1, _⟩ => ⟨S4096x64, .fp8e5m2⟩
  | .local _ .vmem, ⟨2, _⟩ => ⟨S4096x64, .f32⟩
  | .local _ .vmem, ⟨3, _⟩ => ⟨S32x128x4096, .fp8e4m3⟩
  | .local _ .smem, ⟨0, _⟩ => ⟨S1, .f32⟩
  | .local _ .smem, ⟨1, _⟩ => ⟨S4x32, .i32⟩
  | _, _ => ⟨S128x4096, .fp8e4m3⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 261 → Bool
  | ⟨i, _⟩ => dmaSemScopedAt i

abbrev sig : RefSig :=
  (ofTc nBuf bufTy 1 261 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![1, v3.toNat]
def k0_off2 (d0 : Dev nD) : Fin 2 → Nat :=
  let c2 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : Index := Scalar.indexCast v2
  ![2, v5.toNat]
def k0_off3 (d0 : Dev nD) : Fin 2 → Nat :=
  let c3 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v7 : Index := Scalar.indexCast v2
  ![3, v7.toNat]
def k0_dev1 (v8 : BitVec 32) : Nat :=
  let c0_i32 : BitVec 32 := 0#32
  let c1_i32_1 : BitVec 32 := 1#32
  let v10 : BitVec 32 := Scalar.muli v8 c1_i32_1
  let v11 : BitVec 32 := Scalar.addi c0_i32 v10
  v11.toNat

def k0_dev2 (v6 : BitVec 32) : Nat :=
  let c0_i32_4 : BitVec 32 := 0#32
  let c1_i32_3 : BitVec 32 := 1#32
  let v12 : BitVec 32 := Scalar.muli v6 c1_i32_3
  let v13 : BitVec 32 := Scalar.addi c0_i32_4 v12
  v13.toNat

def k0_dev3 (v6 : BitVec 32) : Nat :=
  let c0_i32_9 : BitVec 32 := 0#32
  let c1_i32_8 : BitVec 32 := 1#32
  let v15 : BitVec 32 := Scalar.muli v6 c1_i32_8
  let v16 : BitVec 32 := Scalar.addi c0_i32_9 v15
  v16.toNat
def k0_dev4 (v8 : BitVec 32) : Nat :=
  let c0_i32_19 : BitVec 32 := 0#32
  let c1_i32_18 : BitVec 32 := 1#32
  let v25 : BitVec 32 := Scalar.muli v8 c1_i32_18
  let v26 : BitVec 32 := Scalar.addi c0_i32_19 v25
  v26.toNat
def k0_dev5 (v6 : BitVec 32) : Nat :=
  let c0_i32_30 : BitVec 32 := 0#32
  let c1_i32_29 : BitVec 32 := 1#32
  let v35 : BitVec 32 := Scalar.muli v6 c1_i32_29
  let v36 : BitVec 32 := Scalar.addi c0_i32_30 v35
  v36.toNat
def k0_dev6 (v8 : BitVec 32) : Nat :=
  let c0_i32_41 : BitVec 32 := 0#32
  let c1_i32_40 : BitVec 32 := 1#32
  let v45 : BitVec 32 := Scalar.muli v8 c1_i32_40
  let v46 : BitVec 32 := Scalar.addi c0_i32_41 v45
  v46.toNat
def k0_dev7 (v6 : BitVec 32) : Nat :=
  let c0_i32_52 : BitVec 32 := 0#32
  let c1_i32_51 : BitVec 32 := 1#32
  let v55 : BitVec 32 := Scalar.muli v6 c1_i32_51
  let v56 : BitVec 32 := Scalar.addi c0_i32_52 v55
  v56.toNat
def k0_dev8 (v8 : BitVec 32) : Nat :=
  let c0_i32_62 : BitVec 32 := 0#32
  let c1_i32_61 : BitVec 32 := 1#32
  let v65 : BitVec 32 := Scalar.muli v8 c1_i32_61
  let v66 : BitVec 32 := Scalar.addi c0_i32_62 v65
  v66.toNat
def k0_dev9 (v6 : BitVec 32) : Nat :=
  let c0_i32_72 : BitVec 32 := 0#32
  let c1_i32_71 : BitVec 32 := 1#32
  let v75 : BitVec 32 := Scalar.muli v6 c1_i32_71
  let v76 : BitVec 32 := Scalar.addi c0_i32_72 v75
  v76.toNat
def k0_dev10 (v8 : BitVec 32) : Nat :=
  let c0_i32_82 : BitVec 32 := 0#32
  let c1_i32_81 : BitVec 32 := 1#32
  let v85 : BitVec 32 := Scalar.muli v8 c1_i32_81
  let v86 : BitVec 32 := Scalar.addi c0_i32_82 v85
  v86.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v112 : BitVec 32 := Scalar.muli v2 c128_i32
  let v113 : Index := Scalar.indexCast v112
  let c0_97 : Index := 0#32
  ![v113.toNat, 0]
def k0_dev11 (v6 : BitVec 32) : Nat :=
  let c0_i32_113 : BitVec 32 := 0#32
  let c1_i32_112 : BitVec 32 := 1#32
  let v123 : BitVec 32 := Scalar.muli v6 c1_i32_112
  let v124 : BitVec 32 := Scalar.addi c0_i32_113 v123
  v124.toNat
def k0_dev12 (v8 : BitVec 32) : Nat :=
  let c0_i32_137 : BitVec 32 := 0#32
  let c1_i32_136 : BitVec 32 := 1#32
  let v143 : BitVec 32 := Scalar.muli v8 c1_i32_136
  let v144 : BitVec 32 := Scalar.addi c0_i32_137 v143
  v144.toNat
def k0_dev13 (v6 : BitVec 32) : Nat :=
  let c0_i32_161 : BitVec 32 := 0#32
  let c1_i32_160 : BitVec 32 := 1#32
  let v163 : BitVec 32 := Scalar.muli v6 c1_i32_160
  let v164 : BitVec 32 := Scalar.addi c0_i32_161 v163
  v164.toNat
def k0_dev14 (v8 : BitVec 32) : Nat :=
  let c0_i32_186 : BitVec 32 := 0#32
  let c1_i32_185 : BitVec 32 := 1#32
  let v183 : BitVec 32 := Scalar.muli v8 c1_i32_185
  let v184 : BitVec 32 := Scalar.addi c0_i32_186 v183
  v184.toNat
def k0_dev15 (v6 : BitVec 32) : Nat :=
  let c0_i32_210 : BitVec 32 := 0#32
  let c1_i32_209 : BitVec 32 := 1#32
  let v203 : BitVec 32 := Scalar.muli v6 c1_i32_209
  let v204 : BitVec 32 := Scalar.addi c0_i32_210 v203
  v204.toNat
def k0_dev16 (v8 : BitVec 32) : Nat :=
  let c0_i32_235 : BitVec 32 := 0#32
  let c1_i32_234 : BitVec 32 := 1#32
  let v223 : BitVec 32 := Scalar.muli v8 c1_i32_234
  let v224 : BitVec 32 := Scalar.addi c0_i32_235 v223
  v224.toNat
def k0_dev17 (v6 : BitVec 32) : Nat :=
  let c0_i32_259 : BitVec 32 := 0#32
  let c1_i32_258 : BitVec 32 := 1#32
  let v243 : BitVec 32 := Scalar.muli v6 c1_i32_258
  let v244 : BitVec 32 := Scalar.addi c0_i32_259 v243
  v244.toNat
def k0_dev18 (v8 : BitVec 32) : Nat :=
  let c0_i32_284 : BitVec 32 := 0#32
  let c1_i32_283 : BitVec 32 := 1#32
  let v263 : BitVec 32 := Scalar.muli v8 c1_i32_283
  let v264 : BitVec 32 := Scalar.addi c0_i32_284 v263
  v264.toNat
def k0_off5 (v4 : BitVec 32) : Fin 2 → Nat :=
  let c0_296 : Index := 0#32
  let c1_i32_293 : BitVec 32 := 1#32
  let v275 : BitVec 32 := Scalar.subi v4 c1_i32_293
  let c32_i32_294 : BitVec 32 := 32#32
  let v276 : BitVec 32 := Scalar.addi v275 c32_i32_294
  let c32_i32_295 : BitVec 32 := 32#32
  let v277 : BitVec 32 := Scalar.remsi v276 c32_i32_295
  let v278 : Index := Scalar.indexCast v277
  ![0, v278.toNat]

def k0_off6 (v279 : BitVec 32) : Fin 2 → Nat :=
  let c128_i32_307 : BitVec 32 := 128#32
  let v297 : BitVec 32 := Scalar.muli v279 c128_i32_307
  let v298 : Index := Scalar.indexCast v297
  let c0_308 : Index := 0#32
  ![v298.toNat, 0]

def k0_chk4 (v279 : BitVec 32) : Prop :=
  (∀ a, (k0_off6 v279) a + S128x64.size a ≤ S4096x64.size a)
theorem k0_off6_inb : ∀ (v279 : BitVec 32) (k0_hw4 : k0_chk4 v279), ∀ a, (k0_off6 v279) a + S128x64.size a ≤ S4096x64.size a := fun v279 k0_hw4 => k0_hw4

def k0_off7 (v4 : BitVec 32) : Fin 2 → Nat :=
  let c0_311 : Index := 0#32
  let c1_i32_309 : BitVec 32 := 1#32
  let v300 : BitVec 32 := Scalar.addi v4 c1_i32_309
  let c32_i32_310 : BitVec 32 := 32#32
  let v301 : BitVec 32 := Scalar.remsi v300 c32_i32_310
  let v302 : Index := Scalar.indexCast v301
  ![0, v302.toNat]
def k0_off8 (v303 : BitVec 32) : Fin 2 → Nat :=
  let c128_i32_321 : BitVec 32 := 128#32
  let v321 : BitVec 32 := Scalar.muli v303 c128_i32_321
  let v322 : Index := Scalar.indexCast v321
  let c0_322 : Index := 0#32
  ![v322.toNat, 0]

def k0_chk5 (v303 : BitVec 32) : Prop :=
  (∀ a, (k0_off8 v303) a + S128x64.size a ≤ S4096x64.size a)
theorem k0_off8_inb : ∀ (v303 : BitVec 32) (k0_hw5 : k0_chk5 v303), ∀ a, (k0_off8 v303) a + S128x64.size a ≤ S4096x64.size a := fun v303 k0_hw5 => k0_hw5

def k0_dev19 (v6 : BitVec 32) : Nat :=
  let c0_i32_341 : BitVec 32 := 0#32
  let c1_i32_340 : BitVec 32 := 1#32
  let v334 : BitVec 32 := Scalar.muli v6 c1_i32_340
  let v335 : BitVec 32 := Scalar.addi c0_i32_341 v334
  v335.toNat
def k0_dev20 (v8 : BitVec 32) : Nat :=
  let c0_i32_368 : BitVec 32 := 0#32
  let c1_i32_367 : BitVec 32 := 1#32
  let v356 : BitVec 32 := Scalar.muli v8 c1_i32_367
  let v357 : BitVec 32 := Scalar.addi c0_i32_368 v356
  v357.toNat
def k0_dev21 (v6 : BitVec 32) : Nat :=
  let c0_i32_395 : BitVec 32 := 0#32
  let c1_i32_394 : BitVec 32 := 1#32
  let v378 : BitVec 32 := Scalar.muli v6 c1_i32_394
  let v379 : BitVec 32 := Scalar.addi c0_i32_395 v378
  v379.toNat
def k0_dev22 (v8 : BitVec 32) : Nat :=
  let c0_i32_423 : BitVec 32 := 0#32
  let c1_i32_422 : BitVec 32 := 1#32
  let v400 : BitVec 32 := Scalar.muli v8 c1_i32_422
  let v401 : BitVec 32 := Scalar.addi c0_i32_423 v400
  v401.toNat
def k0_dev23 (v6 : BitVec 32) : Nat :=
  let c0_i32_450 : BitVec 32 := 0#32
  let c1_i32_449 : BitVec 32 := 1#32
  let v422 : BitVec 32 := Scalar.muli v6 c1_i32_449
  let v423 : BitVec 32 := Scalar.addi c0_i32_450 v422
  v423.toNat
def k0_dev24 (v8 : BitVec 32) : Nat :=
  let c0_i32_478 : BitVec 32 := 0#32
  let c1_i32_477 : BitVec 32 := 1#32
  let v444 : BitVec 32 := Scalar.muli v8 c1_i32_477
  let v445 : BitVec 32 := Scalar.addi c0_i32_478 v444
  v445.toNat
def k0_dev25 (v6 : BitVec 32) : Nat :=
  let c0_i32_505 : BitVec 32 := 0#32
  let c1_i32_504 : BitVec 32 := 1#32
  let v466 : BitVec 32 := Scalar.muli v6 c1_i32_504
  let v467 : BitVec 32 := Scalar.addi c0_i32_505 v466
  v467.toNat
def k0_dev26 (v8 : BitVec 32) : Nat :=
  let c0_i32_533 : BitVec 32 := 0#32
  let c1_i32_532 : BitVec 32 := 1#32
  let v488 : BitVec 32 := Scalar.muli v8 c1_i32_532
  let v489 : BitVec 32 := Scalar.addi c0_i32_533 v488
  v489.toNat
def k0_off9 (v4 : BitVec 32) : Fin 2 → Nat :=
  let c0_545 : Index := 0#32
  let c2_i32_542 : BitVec 32 := 2#32
  let v500 : BitVec 32 := Scalar.subi v4 c2_i32_542
  let c32_i32_543 : BitVec 32 := 32#32
  let v501 : BitVec 32 := Scalar.addi v500 c32_i32_543
  let c32_i32_544 : BitVec 32 := 32#32
  let v502 : BitVec 32 := Scalar.remsi v501 c32_i32_544
  let v503 : Index := Scalar.indexCast v502
  ![0, v503.toNat]
def k0_off10 (v504 : BitVec 32) : Fin 2 → Nat :=
  let c128_i32_556 : BitVec 32 := 128#32
  let v522 : BitVec 32 := Scalar.muli v504 c128_i32_556
  let v523 : Index := Scalar.indexCast v522
  let c0_557 : Index := 0#32
  ![v523.toNat, 0]

def k0_chk6 (v504 : BitVec 32) : Prop :=
  (∀ a, (k0_off10 v504) a + S128x64.size a ≤ S4096x64.size a)
theorem k0_off10_inb : ∀ (v504 : BitVec 32) (k0_hw6 : k0_chk6 v504), ∀ a, (k0_off10 v504) a + S128x64.size a ≤ S4096x64.size a := fun v504 k0_hw6 => k0_hw6

def k0_off11 (v4 : BitVec 32) : Fin 2 → Nat :=
  let c0_560 : Index := 0#32
  let c2_i32_558 : BitVec 32 := 2#32
  let v525 : BitVec 32 := Scalar.addi v4 c2_i32_558
  let c32_i32_559 : BitVec 32 := 32#32
  let v526 : BitVec 32 := Scalar.remsi v525 c32_i32_559
  let v527 : Index := Scalar.indexCast v526
  ![0, v527.toNat]
def k0_off12 (v528 : BitVec 32) : Fin 2 → Nat :=
  let c128_i32_570 : BitVec 32 := 128#32
  let v546 : BitVec 32 := Scalar.muli v528 c128_i32_570
  let v547 : Index := Scalar.indexCast v546
  let c0_571 : Index := 0#32
  ![v547.toNat, 0]

def k0_chk7 (v528 : BitVec 32) : Prop :=
  (∀ a, (k0_off12 v528) a + S128x64.size a ≤ S4096x64.size a)
theorem k0_off12_inb : ∀ (v528 : BitVec 32) (k0_hw7 : k0_chk7 v528), ∀ a, (k0_off12 v528) a + S128x64.size a ≤ S4096x64.size a := fun v528 k0_hw7 => k0_hw7

def k0_dev27 (v6 : BitVec 32) : Nat :=
  let c0_i32_590 : BitVec 32 := 0#32
  let c1_i32_589 : BitVec 32 := 1#32
  let v559 : BitVec 32 := Scalar.muli v6 c1_i32_589
  let v560 : BitVec 32 := Scalar.addi c0_i32_590 v559
  v560.toNat
def k0_dev28 (v8 : BitVec 32) : Nat :=
  let c0_i32_617 : BitVec 32 := 0#32
  let c1_i32_616 : BitVec 32 := 1#32
  let v581 : BitVec 32 := Scalar.muli v8 c1_i32_616
  let v582 : BitVec 32 := Scalar.addi c0_i32_617 v581
  v582.toNat
def k0_dev29 (v6 : BitVec 32) : Nat :=
  let c0_i32_644 : BitVec 32 := 0#32
  let c1_i32_643 : BitVec 32 := 1#32
  let v603 : BitVec 32 := Scalar.muli v6 c1_i32_643
  let v604 : BitVec 32 := Scalar.addi c0_i32_644 v603
  v604.toNat
def k0_dev30 (v8 : BitVec 32) : Nat :=
  let c0_i32_672 : BitVec 32 := 0#32
  let c1_i32_671 : BitVec 32 := 1#32
  let v625 : BitVec 32 := Scalar.muli v8 c1_i32_671
  let v626 : BitVec 32 := Scalar.addi c0_i32_672 v625
  v626.toNat
def k0_dev31 (v6 : BitVec 32) : Nat :=
  let c0_i32_699 : BitVec 32 := 0#32
  let c1_i32_698 : BitVec 32 := 1#32
  let v647 : BitVec 32 := Scalar.muli v6 c1_i32_698
  let v648 : BitVec 32 := Scalar.addi c0_i32_699 v647
  v648.toNat
def k0_dev32 (v8 : BitVec 32) : Nat :=
  let c0_i32_727 : BitVec 32 := 0#32
  let c1_i32_726 : BitVec 32 := 1#32
  let v669 : BitVec 32 := Scalar.muli v8 c1_i32_726
  let v670 : BitVec 32 := Scalar.addi c0_i32_727 v669
  v670.toNat
def k0_dev33 (v6 : BitVec 32) : Nat :=
  let c0_i32_754 : BitVec 32 := 0#32
  let c1_i32_753 : BitVec 32 := 1#32
  let v691 : BitVec 32 := Scalar.muli v6 c1_i32_753
  let v692 : BitVec 32 := Scalar.addi c0_i32_754 v691
  v692.toNat
def k0_dev34 (v8 : BitVec 32) : Nat :=
  let c0_i32_782 : BitVec 32 := 0#32
  let c1_i32_781 : BitVec 32 := 1#32
  let v713 : BitVec 32 := Scalar.muli v8 c1_i32_781
  let v714 : BitVec 32 := Scalar.addi c0_i32_782 v713
  v714.toNat
def k0_off13 (v4 : BitVec 32) : Fin 2 → Nat :=
  let c0_794 : Index := 0#32
  let c3_i32_791 : BitVec 32 := 3#32
  let v725 : BitVec 32 := Scalar.subi v4 c3_i32_791
  let c32_i32_792 : BitVec 32 := 32#32
  let v726 : BitVec 32 := Scalar.addi v725 c32_i32_792
  let c32_i32_793 : BitVec 32 := 32#32
  let v727 : BitVec 32 := Scalar.remsi v726 c32_i32_793
  let v728 : Index := Scalar.indexCast v727
  ![0, v728.toNat]
def k0_off14 (v729 : BitVec 32) : Fin 2 → Nat :=
  let c128_i32_805 : BitVec 32 := 128#32
  let v747 : BitVec 32 := Scalar.muli v729 c128_i32_805
  let v748 : Index := Scalar.indexCast v747
  let c0_806 : Index := 0#32
  ![v748.toNat, 0]

def k0_chk8 (v729 : BitVec 32) : Prop :=
  (∀ a, (k0_off14 v729) a + S128x64.size a ≤ S4096x64.size a)
theorem k0_off14_inb : ∀ (v729 : BitVec 32) (k0_hw8 : k0_chk8 v729), ∀ a, (k0_off14 v729) a + S128x64.size a ≤ S4096x64.size a := fun v729 k0_hw8 => k0_hw8

def k0_off15 (v4 : BitVec 32) : Fin 2 → Nat :=
  let c0_809 : Index := 0#32
  let c3_i32_807 : BitVec 32 := 3#32
  let v750 : BitVec 32 := Scalar.addi v4 c3_i32_807
  let c32_i32_808 : BitVec 32 := 32#32
  let v751 : BitVec 32 := Scalar.remsi v750 c32_i32_808
  let v752 : Index := Scalar.indexCast v751
  ![0, v752.toNat]
def k0_off16 (v753 : BitVec 32) : Fin 2 → Nat :=
  let c128_i32_819 : BitVec 32 := 128#32
  let v771 : BitVec 32 := Scalar.muli v753 c128_i32_819
  let v772 : Index := Scalar.indexCast v771
  let c0_820 : Index := 0#32
  ![v772.toNat, 0]

def k0_chk9 (v753 : BitVec 32) : Prop :=
  (∀ a, (k0_off16 v753) a + S128x64.size a ≤ S4096x64.size a)
theorem k0_off16_inb : ∀ (v753 : BitVec 32) (k0_hw9 : k0_chk9 v753), ∀ a, (k0_off16 v753) a + S128x64.size a ≤ S4096x64.size a := fun v753 k0_hw9 => k0_hw9

def k0_dev35 (v6 : BitVec 32) : Nat :=
  let c0_i32_839 : BitVec 32 := 0#32
  let c1_i32_838 : BitVec 32 := 1#32
  let v784 : BitVec 32 := Scalar.muli v6 c1_i32_838
  let v785 : BitVec 32 := Scalar.addi c0_i32_839 v784
  v785.toNat
def k0_dev36 (v8 : BitVec 32) : Nat :=
  let c0_i32_866 : BitVec 32 := 0#32
  let c1_i32_865 : BitVec 32 := 1#32
  let v806 : BitVec 32 := Scalar.muli v8 c1_i32_865
  let v807 : BitVec 32 := Scalar.addi c0_i32_866 v806
  v807.toNat
def k0_dev37 (v6 : BitVec 32) : Nat :=
  let c0_i32_894 : BitVec 32 := 0#32
  let c1_i32_893 : BitVec 32 := 1#32
  let v828 : BitVec 32 := Scalar.muli v6 c1_i32_893
  let v829 : BitVec 32 := Scalar.addi c0_i32_894 v828
  v829.toNat
def k0_dev38 (v8 : BitVec 32) : Nat :=
  let c0_i32_922 : BitVec 32 := 0#32
  let c1_i32_921 : BitVec 32 := 1#32
  let v850 : BitVec 32 := Scalar.muli v8 c1_i32_921
  let v851 : BitVec 32 := Scalar.addi c0_i32_922 v850
  v851.toNat
def k0_dev39 (v6 : BitVec 32) : Nat :=
  let c0_i32_950 : BitVec 32 := 0#32
  let c1_i32_949 : BitVec 32 := 1#32
  let v872 : BitVec 32 := Scalar.muli v6 c1_i32_949
  let v873 : BitVec 32 := Scalar.addi c0_i32_950 v872
  v873.toNat
def k0_dev40 (v8 : BitVec 32) : Nat :=
  let c0_i32_978 : BitVec 32 := 0#32
  let c1_i32_977 : BitVec 32 := 1#32
  let v894 : BitVec 32 := Scalar.muli v8 c1_i32_977
  let v895 : BitVec 32 := Scalar.addi c0_i32_978 v894
  v895.toNat
def k0_dev41 (v6 : BitVec 32) : Nat :=
  let c0_i32_1006 : BitVec 32 := 0#32
  let c1_i32_1005 : BitVec 32 := 1#32
  let v916 : BitVec 32 := Scalar.muli v6 c1_i32_1005
  let v917 : BitVec 32 := Scalar.addi c0_i32_1006 v916
  v917.toNat
def k0_dev42 (v8 : BitVec 32) : Nat :=
  let c0_i32_1034 : BitVec 32 := 0#32
  let c1_i32_1033 : BitVec 32 := 1#32
  let v938 : BitVec 32 := Scalar.muli v8 c1_i32_1033
  let v939 : BitVec 32 := Scalar.addi c0_i32_1034 v938
  v939.toNat
def k0_off17 (v4 : BitVec 32) : Fin 2 → Nat :=
  let c0_1046 : Index := 0#32
  let c4_i32_1043 : BitVec 32 := 4#32
  let v950 : BitVec 32 := Scalar.subi v4 c4_i32_1043
  let c32_i32_1044 : BitVec 32 := 32#32
  let v951 : BitVec 32 := Scalar.addi v950 c32_i32_1044
  let c32_i32_1045 : BitVec 32 := 32#32
  let v952 : BitVec 32 := Scalar.remsi v951 c32_i32_1045
  let v953 : Index := Scalar.indexCast v952
  ![0, v953.toNat]
def k0_off18 (v954 : BitVec 32) : Fin 2 → Nat :=
  let c128_i32_1056 : BitVec 32 := 128#32
  let v972 : BitVec 32 := Scalar.muli v954 c128_i32_1056
  let v973 : Index := Scalar.indexCast v972
  let c0_1057 : Index := 0#32
  ![v973.toNat, 0]

def k0_chk10 (v954 : BitVec 32) : Prop :=
  (∀ a, (k0_off18 v954) a + S128x64.size a ≤ S4096x64.size a)
theorem k0_off18_inb : ∀ (v954 : BitVec 32) (k0_hw10 : k0_chk10 v954), ∀ a, (k0_off18 v954) a + S128x64.size a ≤ S4096x64.size a := fun v954 k0_hw10 => k0_hw10

def k0_off19 (v4 : BitVec 32) : Fin 2 → Nat :=
  let c0_1060 : Index := 0#32
  let c4_i32_1058 : BitVec 32 := 4#32
  let v975 : BitVec 32 := Scalar.addi v4 c4_i32_1058
  let c32_i32_1059 : BitVec 32 := 32#32
  let v976 : BitVec 32 := Scalar.remsi v975 c32_i32_1059
  let v977 : Index := Scalar.indexCast v976
  ![0, v977.toNat]
def k0_off20 (v978 : BitVec 32) : Fin 2 → Nat :=
  let c128_i32_1070 : BitVec 32 := 128#32
  let v996 : BitVec 32 := Scalar.muli v978 c128_i32_1070
  let v997 : Index := Scalar.indexCast v996
  let c0_1071 : Index := 0#32
  ![v997.toNat, 0]

def k0_chk11 (v978 : BitVec 32) : Prop :=
  (∀ a, (k0_off20 v978) a + S128x64.size a ≤ S4096x64.size a)
theorem k0_off20_inb : ∀ (v978 : BitVec 32) (k0_hw11 : k0_chk11 v978), ∀ a, (k0_off20 v978) a + S128x64.size a ≤ S4096x64.size a := fun v978 k0_hw11 => k0_hw11

def k0_dev43 (v6 : BitVec 32) : Nat :=
  let c0_i32_1091 : BitVec 32 := 0#32
  let c1_i32_1090 : BitVec 32 := 1#32
  let v1009 : BitVec 32 := Scalar.muli v6 c1_i32_1090
  let v1010 : BitVec 32 := Scalar.addi c0_i32_1091 v1009
  v1010.toNat
def k0_dev44 (v8 : BitVec 32) : Nat :=
  let c0_i32_1118 : BitVec 32 := 0#32
  let c1_i32_1117 : BitVec 32 := 1#32
  let v1031 : BitVec 32 := Scalar.muli v8 c1_i32_1117
  let v1032 : BitVec 32 := Scalar.addi c0_i32_1118 v1031
  v1032.toNat
def k0_dev45 (v6 : BitVec 32) : Nat :=
  let c0_i32_1146 : BitVec 32 := 0#32
  let c1_i32_1145 : BitVec 32 := 1#32
  let v1053 : BitVec 32 := Scalar.muli v6 c1_i32_1145
  let v1054 : BitVec 32 := Scalar.addi c0_i32_1146 v1053
  v1054.toNat
def k0_dev46 (v8 : BitVec 32) : Nat :=
  let c0_i32_1174 : BitVec 32 := 0#32
  let c1_i32_1173 : BitVec 32 := 1#32
  let v1075 : BitVec 32 := Scalar.muli v8 c1_i32_1173
  let v1076 : BitVec 32 := Scalar.addi c0_i32_1174 v1075
  v1076.toNat
def k0_dev47 (v6 : BitVec 32) : Nat :=
  let c0_i32_1202 : BitVec 32 := 0#32
  let c1_i32_1201 : BitVec 32 := 1#32
  let v1097 : BitVec 32 := Scalar.muli v6 c1_i32_1201
  let v1098 : BitVec 32 := Scalar.addi c0_i32_1202 v1097
  v1098.toNat
def k0_dev48 (v8 : BitVec 32) : Nat :=
  let c0_i32_1230 : BitVec 32 := 0#32
  let c1_i32_1229 : BitVec 32 := 1#32
  let v1119 : BitVec 32 := Scalar.muli v8 c1_i32_1229
  let v1120 : BitVec 32 := Scalar.addi c0_i32_1230 v1119
  v1120.toNat
def k0_dev49 (v6 : BitVec 32) : Nat :=
  let c0_i32_1257 : BitVec 32 := 0#32
  let c1_i32_1256 : BitVec 32 := 1#32
  let v1141 : BitVec 32 := Scalar.muli v6 c1_i32_1256
  let v1142 : BitVec 32 := Scalar.addi c0_i32_1257 v1141
  v1142.toNat
def k0_dev50 (v8 : BitVec 32) : Nat :=
  let c0_i32_1285 : BitVec 32 := 0#32
  let c1_i32_1284 : BitVec 32 := 1#32
  let v1163 : BitVec 32 := Scalar.muli v8 c1_i32_1284
  let v1164 : BitVec 32 := Scalar.addi c0_i32_1285 v1163
  v1164.toNat
def k0_off21 (v4 : BitVec 32) : Fin 2 → Nat :=
  let c0_1297 : Index := 0#32
  let c5_i32_1294 : BitVec 32 := 5#32
  let v1175 : BitVec 32 := Scalar.subi v4 c5_i32_1294
  let c32_i32_1295 : BitVec 32 := 32#32
  let v1176 : BitVec 32 := Scalar.addi v1175 c32_i32_1295
  let c32_i32_1296 : BitVec 32 := 32#32
  let v1177 : BitVec 32 := Scalar.remsi v1176 c32_i32_1296
  let v1178 : Index := Scalar.indexCast v1177
  ![0, v1178.toNat]
def k0_off22 (v1179 : BitVec 32) : Fin 2 → Nat :=
  let c128_i32_1307 : BitVec 32 := 128#32
  let v1197 : BitVec 32 := Scalar.muli v1179 c128_i32_1307
  let v1198 : Index := Scalar.indexCast v1197
  let c0_1308 : Index := 0#32
  ![v1198.toNat, 0]

def k0_chk12 (v1179 : BitVec 32) : Prop :=
  (∀ a, (k0_off22 v1179) a + S128x64.size a ≤ S4096x64.size a)
theorem k0_off22_inb : ∀ (v1179 : BitVec 32) (k0_hw12 : k0_chk12 v1179), ∀ a, (k0_off22 v1179) a + S128x64.size a ≤ S4096x64.size a := fun v1179 k0_hw12 => k0_hw12

def k0_off23 (v4 : BitVec 32) : Fin 2 → Nat :=
  let c0_1311 : Index := 0#32
  let c5_i32_1309 : BitVec 32 := 5#32
  let v1200 : BitVec 32 := Scalar.addi v4 c5_i32_1309
  let c32_i32_1310 : BitVec 32 := 32#32
  let v1201 : BitVec 32 := Scalar.remsi v1200 c32_i32_1310
  let v1202 : Index := Scalar.indexCast v1201
  ![0, v1202.toNat]
def k0_off24 (v1203 : BitVec 32) : Fin 2 → Nat :=
  let c128_i32_1321 : BitVec 32 := 128#32
  let v1221 : BitVec 32 := Scalar.muli v1203 c128_i32_1321
  let v1222 : Index := Scalar.indexCast v1221
  let c0_1322 : Index := 0#32
  ![v1222.toNat, 0]

def k0_chk13 (v1203 : BitVec 32) : Prop :=
  (∀ a, (k0_off24 v1203) a + S128x64.size a ≤ S4096x64.size a)
theorem k0_off24_inb : ∀ (v1203 : BitVec 32) (k0_hw13 : k0_chk13 v1203), ∀ a, (k0_off24 v1203) a + S128x64.size a ≤ S4096x64.size a := fun v1203 k0_hw13 => k0_hw13

def k0_dev51 (v6 : BitVec 32) : Nat :=
  let c0_i32_1341 : BitVec 32 := 0#32
  let c1_i32_1340 : BitVec 32 := 1#32
  let v1234 : BitVec 32 := Scalar.muli v6 c1_i32_1340
  let v1235 : BitVec 32 := Scalar.addi c0_i32_1341 v1234
  v1235.toNat
def k0_dev52 (v8 : BitVec 32) : Nat :=
  let c0_i32_1369 : BitVec 32 := 0#32
  let c1_i32_1368 : BitVec 32 := 1#32
  let v1256 : BitVec 32 := Scalar.muli v8 c1_i32_1368
  let v1257 : BitVec 32 := Scalar.addi c0_i32_1369 v1256
  v1257.toNat
def k0_dev53 (v6 : BitVec 32) : Nat :=
  let c0_i32_1396 : BitVec 32 := 0#32
  let c1_i32_1395 : BitVec 32 := 1#32
  let v1278 : BitVec 32 := Scalar.muli v6 c1_i32_1395
  let v1279 : BitVec 32 := Scalar.addi c0_i32_1396 v1278
  v1279.toNat
def k0_dev54 (v8 : BitVec 32) : Nat :=
  let c0_i32_1424 : BitVec 32 := 0#32
  let c1_i32_1423 : BitVec 32 := 1#32
  let v1300 : BitVec 32 := Scalar.muli v8 c1_i32_1423
  let v1301 : BitVec 32 := Scalar.addi c0_i32_1424 v1300
  v1301.toNat
def k0_dev55 (v6 : BitVec 32) : Nat :=
  let c0_i32_1451 : BitVec 32 := 0#32
  let c1_i32_1450 : BitVec 32 := 1#32
  let v1322 : BitVec 32 := Scalar.muli v6 c1_i32_1450
  let v1323 : BitVec 32 := Scalar.addi c0_i32_1451 v1322
  v1323.toNat
def k0_dev56 (v8 : BitVec 32) : Nat :=
  let c0_i32_1479 : BitVec 32 := 0#32
  let c1_i32_1478 : BitVec 32 := 1#32
  let v1344 : BitVec 32 := Scalar.muli v8 c1_i32_1478
  let v1345 : BitVec 32 := Scalar.addi c0_i32_1479 v1344
  v1345.toNat
def k0_dev57 (v6 : BitVec 32) : Nat :=
  let c0_i32_1506 : BitVec 32 := 0#32
  let c1_i32_1505 : BitVec 32 := 1#32
  let v1366 : BitVec 32 := Scalar.muli v6 c1_i32_1505
  let v1367 : BitVec 32 := Scalar.addi c0_i32_1506 v1366
  v1367.toNat
def k0_dev58 (v8 : BitVec 32) : Nat :=
  let c0_i32_1534 : BitVec 32 := 0#32
  let c1_i32_1533 : BitVec 32 := 1#32
  let v1388 : BitVec 32 := Scalar.muli v8 c1_i32_1533
  let v1389 : BitVec 32 := Scalar.addi c0_i32_1534 v1388
  v1389.toNat
def k0_off25 (v4 : BitVec 32) : Fin 2 → Nat :=
  let c0_1546 : Index := 0#32
  let c6_i32_1543 : BitVec 32 := 6#32
  let v1400 : BitVec 32 := Scalar.subi v4 c6_i32_1543
  let c32_i32_1544 : BitVec 32 := 32#32
  let v1401 : BitVec 32 := Scalar.addi v1400 c32_i32_1544
  let c32_i32_1545 : BitVec 32 := 32#32
  let v1402 : BitVec 32 := Scalar.remsi v1401 c32_i32_1545
  let v1403 : Index := Scalar.indexCast v1402
  ![0, v1403.toNat]
def k0_off26 (v1404 : BitVec 32) : Fin 2 → Nat :=
  let c128_i32_1556 : BitVec 32 := 128#32
  let v1422 : BitVec 32 := Scalar.muli v1404 c128_i32_1556
  let v1423 : Index := Scalar.indexCast v1422
  let c0_1557 : Index := 0#32
  ![v1423.toNat, 0]

def k0_chk14 (v1404 : BitVec 32) : Prop :=
  (∀ a, (k0_off26 v1404) a + S128x64.size a ≤ S4096x64.size a)
theorem k0_off26_inb : ∀ (v1404 : BitVec 32) (k0_hw14 : k0_chk14 v1404), ∀ a, (k0_off26 v1404) a + S128x64.size a ≤ S4096x64.size a := fun v1404 k0_hw14 => k0_hw14

def k0_off27 (v4 : BitVec 32) : Fin 2 → Nat :=
  let c0_1560 : Index := 0#32
  let c6_i32_1558 : BitVec 32 := 6#32
  let v1425 : BitVec 32 := Scalar.addi v4 c6_i32_1558
  let c32_i32_1559 : BitVec 32 := 32#32
  let v1426 : BitVec 32 := Scalar.remsi v1425 c32_i32_1559
  let v1427 : Index := Scalar.indexCast v1426
  ![0, v1427.toNat]
def k0_off28 (v1428 : BitVec 32) : Fin 2 → Nat :=
  let c128_i32_1570 : BitVec 32 := 128#32
  let v1446 : BitVec 32 := Scalar.muli v1428 c128_i32_1570
  let v1447 : Index := Scalar.indexCast v1446
  let c0_1571 : Index := 0#32
  ![v1447.toNat, 0]

def k0_chk15 (v1428 : BitVec 32) : Prop :=
  (∀ a, (k0_off28 v1428) a + S128x64.size a ≤ S4096x64.size a)
theorem k0_off28_inb : ∀ (v1428 : BitVec 32) (k0_hw15 : k0_chk15 v1428), ∀ a, (k0_off28 v1428) a + S128x64.size a ≤ S4096x64.size a := fun v1428 k0_hw15 => k0_hw15

def k0_dev59 (v6 : BitVec 32) : Nat :=
  let c0_i32_1590 : BitVec 32 := 0#32
  let c1_i32_1589 : BitVec 32 := 1#32
  let v1459 : BitVec 32 := Scalar.muli v6 c1_i32_1589
  let v1460 : BitVec 32 := Scalar.addi c0_i32_1590 v1459
  v1460.toNat
def k0_dev60 (v8 : BitVec 32) : Nat :=
  let c0_i32_1618 : BitVec 32 := 0#32
  let c1_i32_1617 : BitVec 32 := 1#32
  let v1481 : BitVec 32 := Scalar.muli v8 c1_i32_1617
  let v1482 : BitVec 32 := Scalar.addi c0_i32_1618 v1481
  v1482.toNat
def k0_dev61 (v6 : BitVec 32) : Nat :=
  let c0_i32_1645 : BitVec 32 := 0#32
  let c1_i32_1644 : BitVec 32 := 1#32
  let v1503 : BitVec 32 := Scalar.muli v6 c1_i32_1644
  let v1504 : BitVec 32 := Scalar.addi c0_i32_1645 v1503
  v1504.toNat
def k0_dev62 (v8 : BitVec 32) : Nat :=
  let c0_i32_1673 : BitVec 32 := 0#32
  let c1_i32_1672 : BitVec 32 := 1#32
  let v1525 : BitVec 32 := Scalar.muli v8 c1_i32_1672
  let v1526 : BitVec 32 := Scalar.addi c0_i32_1673 v1525
  v1526.toNat
def k0_dev63 (v6 : BitVec 32) : Nat :=
  let c0_i32_1700 : BitVec 32 := 0#32
  let c1_i32_1699 : BitVec 32 := 1#32
  let v1547 : BitVec 32 := Scalar.muli v6 c1_i32_1699
  let v1548 : BitVec 32 := Scalar.addi c0_i32_1700 v1547
  v1548.toNat
def k0_dev64 (v8 : BitVec 32) : Nat :=
  let c0_i32_1728 : BitVec 32 := 0#32
  let c1_i32_1727 : BitVec 32 := 1#32
  let v1569 : BitVec 32 := Scalar.muli v8 c1_i32_1727
  let v1570 : BitVec 32 := Scalar.addi c0_i32_1728 v1569
  v1570.toNat
def k0_dev65 (v6 : BitVec 32) : Nat :=
  let c0_i32_1755 : BitVec 32 := 0#32
  let c1_i32_1754 : BitVec 32 := 1#32
  let v1591 : BitVec 32 := Scalar.muli v6 c1_i32_1754
  let v1592 : BitVec 32 := Scalar.addi c0_i32_1755 v1591
  v1592.toNat
def k0_dev66 (v8 : BitVec 32) : Nat :=
  let c0_i32_1783 : BitVec 32 := 0#32
  let c1_i32_1782 : BitVec 32 := 1#32
  let v1613 : BitVec 32 := Scalar.muli v8 c1_i32_1782
  let v1614 : BitVec 32 := Scalar.addi c0_i32_1783 v1613
  v1614.toNat
def k0_off29 (v4 : BitVec 32) : Fin 2 → Nat :=
  let c0_1795 : Index := 0#32
  let c7_i32_1792 : BitVec 32 := 7#32
  let v1625 : BitVec 32 := Scalar.subi v4 c7_i32_1792
  let c32_i32_1793 : BitVec 32 := 32#32
  let v1626 : BitVec 32 := Scalar.addi v1625 c32_i32_1793
  let c32_i32_1794 : BitVec 32 := 32#32
  let v1627 : BitVec 32 := Scalar.remsi v1626 c32_i32_1794
  let v1628 : Index := Scalar.indexCast v1627
  ![0, v1628.toNat]
def k0_off30 (v1629 : BitVec 32) : Fin 2 → Nat :=
  let c128_i32_1805 : BitVec 32 := 128#32
  let v1647 : BitVec 32 := Scalar.muli v1629 c128_i32_1805
  let v1648 : Index := Scalar.indexCast v1647
  let c0_1806 : Index := 0#32
  ![v1648.toNat, 0]

def k0_chk16 (v1629 : BitVec 32) : Prop :=
  (∀ a, (k0_off30 v1629) a + S128x64.size a ≤ S4096x64.size a)
theorem k0_off30_inb : ∀ (v1629 : BitVec 32) (k0_hw16 : k0_chk16 v1629), ∀ a, (k0_off30 v1629) a + S128x64.size a ≤ S4096x64.size a := fun v1629 k0_hw16 => k0_hw16

def k0_off31 (v4 : BitVec 32) : Fin 2 → Nat :=
  let c0_1809 : Index := 0#32
  let c7_i32_1807 : BitVec 32 := 7#32
  let v1650 : BitVec 32 := Scalar.addi v4 c7_i32_1807
  let c32_i32_1808 : BitVec 32 := 32#32
  let v1651 : BitVec 32 := Scalar.remsi v1650 c32_i32_1808
  let v1652 : Index := Scalar.indexCast v1651
  ![0, v1652.toNat]
def k0_off32 (v1653 : BitVec 32) : Fin 2 → Nat :=
  let c128_i32_1819 : BitVec 32 := 128#32
  let v1671 : BitVec 32 := Scalar.muli v1653 c128_i32_1819
  let v1672 : Index := Scalar.indexCast v1671
  let c0_1820 : Index := 0#32
  ![v1672.toNat, 0]

def k0_chk17 (v1653 : BitVec 32) : Prop :=
  (∀ a, (k0_off32 v1653) a + S128x64.size a ≤ S4096x64.size a)
theorem k0_off32_inb : ∀ (v1653 : BitVec 32) (k0_hw17 : k0_chk17 v1653), ∀ a, (k0_off32 v1653) a + S128x64.size a ≤ S4096x64.size a := fun v1653 k0_hw17 => k0_hw17

def k0_dev67 (v6 : BitVec 32) : Nat :=
  let c0_i32_1840 : BitVec 32 := 0#32
  let c1_i32_1839 : BitVec 32 := 1#32
  let v1684 : BitVec 32 := Scalar.muli v6 c1_i32_1839
  let v1685 : BitVec 32 := Scalar.addi c0_i32_1840 v1684
  v1685.toNat
def k0_dev68 (v8 : BitVec 32) : Nat :=
  let c0_i32_1868 : BitVec 32 := 0#32
  let c1_i32_1867 : BitVec 32 := 1#32
  let v1706 : BitVec 32 := Scalar.muli v8 c1_i32_1867
  let v1707 : BitVec 32 := Scalar.addi c0_i32_1868 v1706
  v1707.toNat
def k0_dev69 (v6 : BitVec 32) : Nat :=
  let c0_i32_1895 : BitVec 32 := 0#32
  let c1_i32_1894 : BitVec 32 := 1#32
  let v1728 : BitVec 32 := Scalar.muli v6 c1_i32_1894
  let v1729 : BitVec 32 := Scalar.addi c0_i32_1895 v1728
  v1729.toNat
def k0_dev70 (v8 : BitVec 32) : Nat :=
  let c0_i32_1923 : BitVec 32 := 0#32
  let c1_i32_1922 : BitVec 32 := 1#32
  let v1750 : BitVec 32 := Scalar.muli v8 c1_i32_1922
  let v1751 : BitVec 32 := Scalar.addi c0_i32_1923 v1750
  v1751.toNat
def k0_dev71 (v6 : BitVec 32) : Nat :=
  let c0_i32_1950 : BitVec 32 := 0#32
  let c1_i32_1949 : BitVec 32 := 1#32
  let v1772 : BitVec 32 := Scalar.muli v6 c1_i32_1949
  let v1773 : BitVec 32 := Scalar.addi c0_i32_1950 v1772
  v1773.toNat
def k0_dev72 (v8 : BitVec 32) : Nat :=
  let c0_i32_1978 : BitVec 32 := 0#32
  let c1_i32_1977 : BitVec 32 := 1#32
  let v1794 : BitVec 32 := Scalar.muli v8 c1_i32_1977
  let v1795 : BitVec 32 := Scalar.addi c0_i32_1978 v1794
  v1795.toNat
def k0_dev73 (v6 : BitVec 32) : Nat :=
  let c0_i32_2005 : BitVec 32 := 0#32
  let c1_i32_2004 : BitVec 32 := 1#32
  let v1816 : BitVec 32 := Scalar.muli v6 c1_i32_2004
  let v1817 : BitVec 32 := Scalar.addi c0_i32_2005 v1816
  v1817.toNat
def k0_dev74 (v8 : BitVec 32) : Nat :=
  let c0_i32_2033 : BitVec 32 := 0#32
  let c1_i32_2032 : BitVec 32 := 1#32
  let v1838 : BitVec 32 := Scalar.muli v8 c1_i32_2032
  let v1839 : BitVec 32 := Scalar.addi c0_i32_2033 v1838
  v1839.toNat
def k0_off33 (v4 : BitVec 32) : Fin 2 → Nat :=
  let c0_2045 : Index := 0#32
  let c8_i32_2042 : BitVec 32 := 8#32
  let v1850 : BitVec 32 := Scalar.subi v4 c8_i32_2042
  let c32_i32_2043 : BitVec 32 := 32#32
  let v1851 : BitVec 32 := Scalar.addi v1850 c32_i32_2043
  let c32_i32_2044 : BitVec 32 := 32#32
  let v1852 : BitVec 32 := Scalar.remsi v1851 c32_i32_2044
  let v1853 : Index := Scalar.indexCast v1852
  ![0, v1853.toNat]
def k0_off34 (v1854 : BitVec 32) : Fin 2 → Nat :=
  let c128_i32_2055 : BitVec 32 := 128#32
  let v1872 : BitVec 32 := Scalar.muli v1854 c128_i32_2055
  let v1873 : Index := Scalar.indexCast v1872
  let c0_2056 : Index := 0#32
  ![v1873.toNat, 0]

def k0_chk18 (v1854 : BitVec 32) : Prop :=
  (∀ a, (k0_off34 v1854) a + S128x64.size a ≤ S4096x64.size a)
theorem k0_off34_inb : ∀ (v1854 : BitVec 32) (k0_hw18 : k0_chk18 v1854), ∀ a, (k0_off34 v1854) a + S128x64.size a ≤ S4096x64.size a := fun v1854 k0_hw18 => k0_hw18

def k0_off35 (v4 : BitVec 32) : Fin 2 → Nat :=
  let c0_2059 : Index := 0#32
  let c8_i32_2057 : BitVec 32 := 8#32
  let v1875 : BitVec 32 := Scalar.addi v4 c8_i32_2057
  let c32_i32_2058 : BitVec 32 := 32#32
  let v1876 : BitVec 32 := Scalar.remsi v1875 c32_i32_2058
  let v1877 : Index := Scalar.indexCast v1876
  ![0, v1877.toNat]
def k0_off36 (v1878 : BitVec 32) : Fin 2 → Nat :=
  let c128_i32_2069 : BitVec 32 := 128#32
  let v1896 : BitVec 32 := Scalar.muli v1878 c128_i32_2069
  let v1897 : Index := Scalar.indexCast v1896
  let c0_2070 : Index := 0#32
  ![v1897.toNat, 0]

def k0_chk19 (v1878 : BitVec 32) : Prop :=
  (∀ a, (k0_off36 v1878) a + S128x64.size a ≤ S4096x64.size a)
theorem k0_off36_inb : ∀ (v1878 : BitVec 32) (k0_hw19 : k0_chk19 v1878), ∀ a, (k0_off36 v1878) a + S128x64.size a ≤ S4096x64.size a := fun v1878 k0_hw19 => k0_hw19

def k0_dev75 (v6 : BitVec 32) : Nat :=
  let c0_i32_2089 : BitVec 32 := 0#32
  let c1_i32_2088 : BitVec 32 := 1#32
  let v1909 : BitVec 32 := Scalar.muli v6 c1_i32_2088
  let v1910 : BitVec 32 := Scalar.addi c0_i32_2089 v1909
  v1910.toNat
def k0_dev76 (v8 : BitVec 32) : Nat :=
  let c0_i32_2117 : BitVec 32 := 0#32
  let c1_i32_2116 : BitVec 32 := 1#32
  let v1931 : BitVec 32 := Scalar.muli v8 c1_i32_2116
  let v1932 : BitVec 32 := Scalar.addi c0_i32_2117 v1931
  v1932.toNat
def k0_dev77 (v6 : BitVec 32) : Nat :=
  let c0_i32_2144 : BitVec 32 := 0#32
  let c1_i32_2143 : BitVec 32 := 1#32
  let v1953 : BitVec 32 := Scalar.muli v6 c1_i32_2143
  let v1954 : BitVec 32 := Scalar.addi c0_i32_2144 v1953
  v1954.toNat
def k0_dev78 (v8 : BitVec 32) : Nat :=
  let c0_i32_2172 : BitVec 32 := 0#32
  let c1_i32_2171 : BitVec 32 := 1#32
  let v1975 : BitVec 32 := Scalar.muli v8 c1_i32_2171
  let v1976 : BitVec 32 := Scalar.addi c0_i32_2172 v1975
  v1976.toNat
def k0_dev79 (v6 : BitVec 32) : Nat :=
  let c0_i32_2199 : BitVec 32 := 0#32
  let c1_i32_2198 : BitVec 32 := 1#32
  let v1997 : BitVec 32 := Scalar.muli v6 c1_i32_2198
  let v1998 : BitVec 32 := Scalar.addi c0_i32_2199 v1997
  v1998.toNat
def k0_dev80 (v8 : BitVec 32) : Nat :=
  let c0_i32_2227 : BitVec 32 := 0#32
  let c1_i32_2226 : BitVec 32 := 1#32
  let v2019 : BitVec 32 := Scalar.muli v8 c1_i32_2226
  let v2020 : BitVec 32 := Scalar.addi c0_i32_2227 v2019
  v2020.toNat
def k0_dev81 (v6 : BitVec 32) : Nat :=
  let c0_i32_2254 : BitVec 32 := 0#32
  let c1_i32_2253 : BitVec 32 := 1#32
  let v2041 : BitVec 32 := Scalar.muli v6 c1_i32_2253
  let v2042 : BitVec 32 := Scalar.addi c0_i32_2254 v2041
  v2042.toNat
def k0_dev82 (v8 : BitVec 32) : Nat :=
  let c0_i32_2282 : BitVec 32 := 0#32
  let c1_i32_2281 : BitVec 32 := 1#32
  let v2063 : BitVec 32 := Scalar.muli v8 c1_i32_2281
  let v2064 : BitVec 32 := Scalar.addi c0_i32_2282 v2063
  v2064.toNat
def k0_off37 (v4 : BitVec 32) : Fin 2 → Nat :=
  let c0_2294 : Index := 0#32
  let c9_i32_2291 : BitVec 32 := 9#32
  let v2075 : BitVec 32 := Scalar.subi v4 c9_i32_2291
  let c32_i32_2292 : BitVec 32 := 32#32
  let v2076 : BitVec 32 := Scalar.addi v2075 c32_i32_2292
  let c32_i32_2293 : BitVec 32 := 32#32
  let v2077 : BitVec 32 := Scalar.remsi v2076 c32_i32_2293
  let v2078 : Index := Scalar.indexCast v2077
  ![0, v2078.toNat]
def k0_off38 (v2079 : BitVec 32) : Fin 2 → Nat :=
  let c128_i32_2304 : BitVec 32 := 128#32
  let v2097 : BitVec 32 := Scalar.muli v2079 c128_i32_2304
  let v2098 : Index := Scalar.indexCast v2097
  let c0_2305 : Index := 0#32
  ![v2098.toNat, 0]

def k0_chk20 (v2079 : BitVec 32) : Prop :=
  (∀ a, (k0_off38 v2079) a + S128x64.size a ≤ S4096x64.size a)
theorem k0_off38_inb : ∀ (v2079 : BitVec 32) (k0_hw20 : k0_chk20 v2079), ∀ a, (k0_off38 v2079) a + S128x64.size a ≤ S4096x64.size a := fun v2079 k0_hw20 => k0_hw20

def k0_off39 (v4 : BitVec 32) : Fin 2 → Nat :=
  let c0_2308 : Index := 0#32
  let c9_i32_2306 : BitVec 32 := 9#32
  let v2100 : BitVec 32 := Scalar.addi v4 c9_i32_2306
  let c32_i32_2307 : BitVec 32 := 32#32
  let v2101 : BitVec 32 := Scalar.remsi v2100 c32_i32_2307
  let v2102 : Index := Scalar.indexCast v2101
  ![0, v2102.toNat]
def k0_off40 (v2103 : BitVec 32) : Fin 2 → Nat :=
  let c128_i32_2318 : BitVec 32 := 128#32
  let v2121 : BitVec 32 := Scalar.muli v2103 c128_i32_2318
  let v2122 : Index := Scalar.indexCast v2121
  let c0_2319 : Index := 0#32
  ![v2122.toNat, 0]

def k0_chk21 (v2103 : BitVec 32) : Prop :=
  (∀ a, (k0_off40 v2103) a + S128x64.size a ≤ S4096x64.size a)
theorem k0_off40_inb : ∀ (v2103 : BitVec 32) (k0_hw21 : k0_chk21 v2103), ∀ a, (k0_off40 v2103) a + S128x64.size a ≤ S4096x64.size a := fun v2103 k0_hw21 => k0_hw21

def k0_dev83 (v6 : BitVec 32) : Nat :=
  let c0_i32_2338 : BitVec 32 := 0#32
  let c1_i32_2337 : BitVec 32 := 1#32
  let v2134 : BitVec 32 := Scalar.muli v6 c1_i32_2337
  let v2135 : BitVec 32 := Scalar.addi c0_i32_2338 v2134
  v2135.toNat
def k0_dev84 (v8 : BitVec 32) : Nat :=
  let c0_i32_2366 : BitVec 32 := 0#32
  let c1_i32_2365 : BitVec 32 := 1#32
  let v2156 : BitVec 32 := Scalar.muli v8 c1_i32_2365
  let v2157 : BitVec 32 := Scalar.addi c0_i32_2366 v2156
  v2157.toNat
def k0_dev85 (v6 : BitVec 32) : Nat :=
  let c0_i32_2393 : BitVec 32 := 0#32
  let c1_i32_2392 : BitVec 32 := 1#32
  let v2178 : BitVec 32 := Scalar.muli v6 c1_i32_2392
  let v2179 : BitVec 32 := Scalar.addi c0_i32_2393 v2178
  v2179.toNat
def k0_dev86 (v8 : BitVec 32) : Nat :=
  let c0_i32_2421 : BitVec 32 := 0#32
  let c1_i32_2420 : BitVec 32 := 1#32
  let v2200 : BitVec 32 := Scalar.muli v8 c1_i32_2420
  let v2201 : BitVec 32 := Scalar.addi c0_i32_2421 v2200
  v2201.toNat
def k0_dev87 (v6 : BitVec 32) : Nat :=
  let c0_i32_2448 : BitVec 32 := 0#32
  let c1_i32_2447 : BitVec 32 := 1#32
  let v2222 : BitVec 32 := Scalar.muli v6 c1_i32_2447
  let v2223 : BitVec 32 := Scalar.addi c0_i32_2448 v2222
  v2223.toNat
def k0_dev88 (v8 : BitVec 32) : Nat :=
  let c0_i32_2476 : BitVec 32 := 0#32
  let c1_i32_2475 : BitVec 32 := 1#32
  let v2244 : BitVec 32 := Scalar.muli v8 c1_i32_2475
  let v2245 : BitVec 32 := Scalar.addi c0_i32_2476 v2244
  v2245.toNat
def k0_dev89 (v6 : BitVec 32) : Nat :=
  let c0_i32_2503 : BitVec 32 := 0#32
  let c1_i32_2502 : BitVec 32 := 1#32
  let v2266 : BitVec 32 := Scalar.muli v6 c1_i32_2502
  let v2267 : BitVec 32 := Scalar.addi c0_i32_2503 v2266
  v2267.toNat
def k0_dev90 (v8 : BitVec 32) : Nat :=
  let c0_i32_2531 : BitVec 32 := 0#32
  let c1_i32_2530 : BitVec 32 := 1#32
  let v2288 : BitVec 32 := Scalar.muli v8 c1_i32_2530
  let v2289 : BitVec 32 := Scalar.addi c0_i32_2531 v2288
  v2289.toNat
def k0_off41 (v4 : BitVec 32) : Fin 2 → Nat :=
  let c0_2543 : Index := 0#32
  let c10_i32_2540 : BitVec 32 := 10#32
  let v2300 : BitVec 32 := Scalar.subi v4 c10_i32_2540
  let c32_i32_2541 : BitVec 32 := 32#32
  let v2301 : BitVec 32 := Scalar.addi v2300 c32_i32_2541
  let c32_i32_2542 : BitVec 32 := 32#32
  let v2302 : BitVec 32 := Scalar.remsi v2301 c32_i32_2542
  let v2303 : Index := Scalar.indexCast v2302
  ![0, v2303.toNat]
def k0_off42 (v2304 : BitVec 32) : Fin 2 → Nat :=
  let c128_i32_2553 : BitVec 32 := 128#32
  let v2322 : BitVec 32 := Scalar.muli v2304 c128_i32_2553
  let v2323 : Index := Scalar.indexCast v2322
  let c0_2554 : Index := 0#32
  ![v2323.toNat, 0]

def k0_chk22 (v2304 : BitVec 32) : Prop :=
  (∀ a, (k0_off42 v2304) a + S128x64.size a ≤ S4096x64.size a)
theorem k0_off42_inb : ∀ (v2304 : BitVec 32) (k0_hw22 : k0_chk22 v2304), ∀ a, (k0_off42 v2304) a + S128x64.size a ≤ S4096x64.size a := fun v2304 k0_hw22 => k0_hw22

def k0_off43 (v4 : BitVec 32) : Fin 2 → Nat :=
  let c0_2557 : Index := 0#32
  let c10_i32_2555 : BitVec 32 := 10#32
  let v2325 : BitVec 32 := Scalar.addi v4 c10_i32_2555
  let c32_i32_2556 : BitVec 32 := 32#32
  let v2326 : BitVec 32 := Scalar.remsi v2325 c32_i32_2556
  let v2327 : Index := Scalar.indexCast v2326
  ![0, v2327.toNat]
def k0_off44 (v2328 : BitVec 32) : Fin 2 → Nat :=
  let c128_i32_2567 : BitVec 32 := 128#32
  let v2346 : BitVec 32 := Scalar.muli v2328 c128_i32_2567
  let v2347 : Index := Scalar.indexCast v2346
  let c0_2568 : Index := 0#32
  ![v2347.toNat, 0]

def k0_chk23 (v2328 : BitVec 32) : Prop :=
  (∀ a, (k0_off44 v2328) a + S128x64.size a ≤ S4096x64.size a)
theorem k0_off44_inb : ∀ (v2328 : BitVec 32) (k0_hw23 : k0_chk23 v2328), ∀ a, (k0_off44 v2328) a + S128x64.size a ≤ S4096x64.size a := fun v2328 k0_hw23 => k0_hw23

def k0_dev91 (v6 : BitVec 32) : Nat :=
  let c0_i32_2587 : BitVec 32 := 0#32
  let c1_i32_2586 : BitVec 32 := 1#32
  let v2359 : BitVec 32 := Scalar.muli v6 c1_i32_2586
  let v2360 : BitVec 32 := Scalar.addi c0_i32_2587 v2359
  v2360.toNat
def k0_dev92 (v8 : BitVec 32) : Nat :=
  let c0_i32_2615 : BitVec 32 := 0#32
  let c1_i32_2614 : BitVec 32 := 1#32
  let v2381 : BitVec 32 := Scalar.muli v8 c1_i32_2614
  let v2382 : BitVec 32 := Scalar.addi c0_i32_2615 v2381
  v2382.toNat
def k0_dev93 (v6 : BitVec 32) : Nat :=
  let c0_i32_2642 : BitVec 32 := 0#32
  let c1_i32_2641 : BitVec 32 := 1#32
  let v2403 : BitVec 32 := Scalar.muli v6 c1_i32_2641
  let v2404 : BitVec 32 := Scalar.addi c0_i32_2642 v2403
  v2404.toNat
def k0_dev94 (v8 : BitVec 32) : Nat :=
  let c0_i32_2670 : BitVec 32 := 0#32
  let c1_i32_2669 : BitVec 32 := 1#32
  let v2425 : BitVec 32 := Scalar.muli v8 c1_i32_2669
  let v2426 : BitVec 32 := Scalar.addi c0_i32_2670 v2425
  v2426.toNat
def k0_dev95 (v6 : BitVec 32) : Nat :=
  let c0_i32_2697 : BitVec 32 := 0#32
  let c1_i32_2696 : BitVec 32 := 1#32
  let v2447 : BitVec 32 := Scalar.muli v6 c1_i32_2696
  let v2448 : BitVec 32 := Scalar.addi c0_i32_2697 v2447
  v2448.toNat
def k0_dev96 (v8 : BitVec 32) : Nat :=
  let c0_i32_2725 : BitVec 32 := 0#32
  let c1_i32_2724 : BitVec 32 := 1#32
  let v2469 : BitVec 32 := Scalar.muli v8 c1_i32_2724
  let v2470 : BitVec 32 := Scalar.addi c0_i32_2725 v2469
  v2470.toNat
def k0_dev97 (v6 : BitVec 32) : Nat :=
  let c0_i32_2752 : BitVec 32 := 0#32
  let c1_i32_2751 : BitVec 32 := 1#32
  let v2491 : BitVec 32 := Scalar.muli v6 c1_i32_2751
  let v2492 : BitVec 32 := Scalar.addi c0_i32_2752 v2491
  v2492.toNat
def k0_dev98 (v8 : BitVec 32) : Nat :=
  let c0_i32_2780 : BitVec 32 := 0#32
  let c1_i32_2779 : BitVec 32 := 1#32
  let v2513 : BitVec 32 := Scalar.muli v8 c1_i32_2779
  let v2514 : BitVec 32 := Scalar.addi c0_i32_2780 v2513
  v2514.toNat
def k0_off45 (v4 : BitVec 32) : Fin 2 → Nat :=
  let c0_2792 : Index := 0#32
  let c11_i32_2789 : BitVec 32 := 11#32
  let v2525 : BitVec 32 := Scalar.subi v4 c11_i32_2789
  let c32_i32_2790 : BitVec 32 := 32#32
  let v2526 : BitVec 32 := Scalar.addi v2525 c32_i32_2790
  let c32_i32_2791 : BitVec 32 := 32#32
  let v2527 : BitVec 32 := Scalar.remsi v2526 c32_i32_2791
  let v2528 : Index := Scalar.indexCast v2527
  ![0, v2528.toNat]
def k0_off46 (v2529 : BitVec 32) : Fin 2 → Nat :=
  let c128_i32_2802 : BitVec 32 := 128#32
  let v2547 : BitVec 32 := Scalar.muli v2529 c128_i32_2802
  let v2548 : Index := Scalar.indexCast v2547
  let c0_2803 : Index := 0#32
  ![v2548.toNat, 0]

def k0_chk24 (v2529 : BitVec 32) : Prop :=
  (∀ a, (k0_off46 v2529) a + S128x64.size a ≤ S4096x64.size a)
theorem k0_off46_inb : ∀ (v2529 : BitVec 32) (k0_hw24 : k0_chk24 v2529), ∀ a, (k0_off46 v2529) a + S128x64.size a ≤ S4096x64.size a := fun v2529 k0_hw24 => k0_hw24

def k0_off47 (v4 : BitVec 32) : Fin 2 → Nat :=
  let c0_2806 : Index := 0#32
  let c11_i32_2804 : BitVec 32 := 11#32
  let v2550 : BitVec 32 := Scalar.addi v4 c11_i32_2804
  let c32_i32_2805 : BitVec 32 := 32#32
  let v2551 : BitVec 32 := Scalar.remsi v2550 c32_i32_2805
  let v2552 : Index := Scalar.indexCast v2551
  ![0, v2552.toNat]
def k0_off48 (v2553 : BitVec 32) : Fin 2 → Nat :=
  let c128_i32_2816 : BitVec 32 := 128#32
  let v2571 : BitVec 32 := Scalar.muli v2553 c128_i32_2816
  let v2572 : Index := Scalar.indexCast v2571
  let c0_2817 : Index := 0#32
  ![v2572.toNat, 0]

def k0_chk25 (v2553 : BitVec 32) : Prop :=
  (∀ a, (k0_off48 v2553) a + S128x64.size a ≤ S4096x64.size a)
theorem k0_off48_inb : ∀ (v2553 : BitVec 32) (k0_hw25 : k0_chk25 v2553), ∀ a, (k0_off48 v2553) a + S128x64.size a ≤ S4096x64.size a := fun v2553 k0_hw25 => k0_hw25

def k0_dev99 (v6 : BitVec 32) : Nat :=
  let c0_i32_2836 : BitVec 32 := 0#32
  let c1_i32_2835 : BitVec 32 := 1#32
  let v2584 : BitVec 32 := Scalar.muli v6 c1_i32_2835
  let v2585 : BitVec 32 := Scalar.addi c0_i32_2836 v2584
  v2585.toNat
def k0_dev100 (v8 : BitVec 32) : Nat :=
  let c0_i32_2864 : BitVec 32 := 0#32
  let c1_i32_2863 : BitVec 32 := 1#32
  let v2606 : BitVec 32 := Scalar.muli v8 c1_i32_2863
  let v2607 : BitVec 32 := Scalar.addi c0_i32_2864 v2606
  v2607.toNat
def k0_dev101 (v6 : BitVec 32) : Nat :=
  let c0_i32_2891 : BitVec 32 := 0#32
  let c1_i32_2890 : BitVec 32 := 1#32
  let v2628 : BitVec 32 := Scalar.muli v6 c1_i32_2890
  let v2629 : BitVec 32 := Scalar.addi c0_i32_2891 v2628
  v2629.toNat
def k0_dev102 (v8 : BitVec 32) : Nat :=
  let c0_i32_2919 : BitVec 32 := 0#32
  let c1_i32_2918 : BitVec 32 := 1#32
  let v2650 : BitVec 32 := Scalar.muli v8 c1_i32_2918
  let v2651 : BitVec 32 := Scalar.addi c0_i32_2919 v2650
  v2651.toNat
def k0_dev103 (v6 : BitVec 32) : Nat :=
  let c0_i32_2946 : BitVec 32 := 0#32
  let c1_i32_2945 : BitVec 32 := 1#32
  let v2672 : BitVec 32 := Scalar.muli v6 c1_i32_2945
  let v2673 : BitVec 32 := Scalar.addi c0_i32_2946 v2672
  v2673.toNat
def k0_dev104 (v8 : BitVec 32) : Nat :=
  let c0_i32_2974 : BitVec 32 := 0#32
  let c1_i32_2973 : BitVec 32 := 1#32
  let v2694 : BitVec 32 := Scalar.muli v8 c1_i32_2973
  let v2695 : BitVec 32 := Scalar.addi c0_i32_2974 v2694
  v2695.toNat
def k0_dev105 (v6 : BitVec 32) : Nat :=
  let c0_i32_3001 : BitVec 32 := 0#32
  let c1_i32_3000 : BitVec 32 := 1#32
  let v2716 : BitVec 32 := Scalar.muli v6 c1_i32_3000
  let v2717 : BitVec 32 := Scalar.addi c0_i32_3001 v2716
  v2717.toNat
def k0_dev106 (v8 : BitVec 32) : Nat :=
  let c0_i32_3029 : BitVec 32 := 0#32
  let c1_i32_3028 : BitVec 32 := 1#32
  let v2738 : BitVec 32 := Scalar.muli v8 c1_i32_3028
  let v2739 : BitVec 32 := Scalar.addi c0_i32_3029 v2738
  v2739.toNat
def k0_off49 (v4 : BitVec 32) : Fin 2 → Nat :=
  let c0_3041 : Index := 0#32
  let c12_i32_3038 : BitVec 32 := 12#32
  let v2750 : BitVec 32 := Scalar.subi v4 c12_i32_3038
  let c32_i32_3039 : BitVec 32 := 32#32
  let v2751 : BitVec 32 := Scalar.addi v2750 c32_i32_3039
  let c32_i32_3040 : BitVec 32 := 32#32
  let v2752 : BitVec 32 := Scalar.remsi v2751 c32_i32_3040
  let v2753 : Index := Scalar.indexCast v2752
  ![0, v2753.toNat]
def k0_off50 (v2754 : BitVec 32) : Fin 2 → Nat :=
  let c128_i32_3051 : BitVec 32 := 128#32
  let v2772 : BitVec 32 := Scalar.muli v2754 c128_i32_3051
  let v2773 : Index := Scalar.indexCast v2772
  let c0_3052 : Index := 0#32
  ![v2773.toNat, 0]

def k0_chk26 (v2754 : BitVec 32) : Prop :=
  (∀ a, (k0_off50 v2754) a + S128x64.size a ≤ S4096x64.size a)
theorem k0_off50_inb : ∀ (v2754 : BitVec 32) (k0_hw26 : k0_chk26 v2754), ∀ a, (k0_off50 v2754) a + S128x64.size a ≤ S4096x64.size a := fun v2754 k0_hw26 => k0_hw26

def k0_off51 (v4 : BitVec 32) : Fin 2 → Nat :=
  let c0_3055 : Index := 0#32
  let c12_i32_3053 : BitVec 32 := 12#32
  let v2775 : BitVec 32 := Scalar.addi v4 c12_i32_3053
  let c32_i32_3054 : BitVec 32 := 32#32
  let v2776 : BitVec 32 := Scalar.remsi v2775 c32_i32_3054
  let v2777 : Index := Scalar.indexCast v2776
  ![0, v2777.toNat]
def k0_off52 (v2778 : BitVec 32) : Fin 2 → Nat :=
  let c128_i32_3065 : BitVec 32 := 128#32
  let v2796 : BitVec 32 := Scalar.muli v2778 c128_i32_3065
  let v2797 : Index := Scalar.indexCast v2796
  let c0_3066 : Index := 0#32
  ![v2797.toNat, 0]

def k0_chk27 (v2778 : BitVec 32) : Prop :=
  (∀ a, (k0_off52 v2778) a + S128x64.size a ≤ S4096x64.size a)
theorem k0_off52_inb : ∀ (v2778 : BitVec 32) (k0_hw27 : k0_chk27 v2778), ∀ a, (k0_off52 v2778) a + S128x64.size a ≤ S4096x64.size a := fun v2778 k0_hw27 => k0_hw27

def k0_dev107 (v6 : BitVec 32) : Nat :=
  let c0_i32_3085 : BitVec 32 := 0#32
  let c1_i32_3084 : BitVec 32 := 1#32
  let v2809 : BitVec 32 := Scalar.muli v6 c1_i32_3084
  let v2810 : BitVec 32 := Scalar.addi c0_i32_3085 v2809
  v2810.toNat
def k0_dev108 (v8 : BitVec 32) : Nat :=
  let c0_i32_3113 : BitVec 32 := 0#32
  let c1_i32_3112 : BitVec 32 := 1#32
  let v2831 : BitVec 32 := Scalar.muli v8 c1_i32_3112
  let v2832 : BitVec 32 := Scalar.addi c0_i32_3113 v2831
  v2832.toNat
def k0_dev109 (v6 : BitVec 32) : Nat :=
  let c0_i32_3140 : BitVec 32 := 0#32
  let c1_i32_3139 : BitVec 32 := 1#32
  let v2853 : BitVec 32 := Scalar.muli v6 c1_i32_3139
  let v2854 : BitVec 32 := Scalar.addi c0_i32_3140 v2853
  v2854.toNat
def k0_dev110 (v8 : BitVec 32) : Nat :=
  let c0_i32_3168 : BitVec 32 := 0#32
  let c1_i32_3167 : BitVec 32 := 1#32
  let v2875 : BitVec 32 := Scalar.muli v8 c1_i32_3167
  let v2876 : BitVec 32 := Scalar.addi c0_i32_3168 v2875
  v2876.toNat
def k0_dev111 (v6 : BitVec 32) : Nat :=
  let c0_i32_3195 : BitVec 32 := 0#32
  let c1_i32_3194 : BitVec 32 := 1#32
  let v2897 : BitVec 32 := Scalar.muli v6 c1_i32_3194
  let v2898 : BitVec 32 := Scalar.addi c0_i32_3195 v2897
  v2898.toNat
def k0_dev112 (v8 : BitVec 32) : Nat :=
  let c0_i32_3223 : BitVec 32 := 0#32
  let c1_i32_3222 : BitVec 32 := 1#32
  let v2919 : BitVec 32 := Scalar.muli v8 c1_i32_3222
  let v2920 : BitVec 32 := Scalar.addi c0_i32_3223 v2919
  v2920.toNat
def k0_dev113 (v6 : BitVec 32) : Nat :=
  let c0_i32_3250 : BitVec 32 := 0#32
  let c1_i32_3249 : BitVec 32 := 1#32
  let v2941 : BitVec 32 := Scalar.muli v6 c1_i32_3249
  let v2942 : BitVec 32 := Scalar.addi c0_i32_3250 v2941
  v2942.toNat
def k0_dev114 (v8 : BitVec 32) : Nat :=
  let c0_i32_3278 : BitVec 32 := 0#32
  let c1_i32_3277 : BitVec 32 := 1#32
  let v2963 : BitVec 32 := Scalar.muli v8 c1_i32_3277
  let v2964 : BitVec 32 := Scalar.addi c0_i32_3278 v2963
  v2964.toNat
def k0_off53 (v4 : BitVec 32) : Fin 2 → Nat :=
  let c0_3290 : Index := 0#32
  let c13_i32_3287 : BitVec 32 := 13#32
  let v2975 : BitVec 32 := Scalar.subi v4 c13_i32_3287
  let c32_i32_3288 : BitVec 32 := 32#32
  let v2976 : BitVec 32 := Scalar.addi v2975 c32_i32_3288
  let c32_i32_3289 : BitVec 32 := 32#32
  let v2977 : BitVec 32 := Scalar.remsi v2976 c32_i32_3289
  let v2978 : Index := Scalar.indexCast v2977
  ![0, v2978.toNat]
def k0_off54 (v2979 : BitVec 32) : Fin 2 → Nat :=
  let c128_i32_3300 : BitVec 32 := 128#32
  let v2997 : BitVec 32 := Scalar.muli v2979 c128_i32_3300
  let v2998 : Index := Scalar.indexCast v2997
  let c0_3301 : Index := 0#32
  ![v2998.toNat, 0]

def k0_chk28 (v2979 : BitVec 32) : Prop :=
  (∀ a, (k0_off54 v2979) a + S128x64.size a ≤ S4096x64.size a)
theorem k0_off54_inb : ∀ (v2979 : BitVec 32) (k0_hw28 : k0_chk28 v2979), ∀ a, (k0_off54 v2979) a + S128x64.size a ≤ S4096x64.size a := fun v2979 k0_hw28 => k0_hw28

def k0_off55 (v4 : BitVec 32) : Fin 2 → Nat :=
  let c0_3304 : Index := 0#32
  let c13_i32_3302 : BitVec 32 := 13#32
  let v3000 : BitVec 32 := Scalar.addi v4 c13_i32_3302
  let c32_i32_3303 : BitVec 32 := 32#32
  let v3001 : BitVec 32 := Scalar.remsi v3000 c32_i32_3303
  let v3002 : Index := Scalar.indexCast v3001
  ![0, v3002.toNat]
def k0_off56 (v3003 : BitVec 32) : Fin 2 → Nat :=
  let c128_i32_3314 : BitVec 32 := 128#32
  let v3021 : BitVec 32 := Scalar.muli v3003 c128_i32_3314
  let v3022 : Index := Scalar.indexCast v3021
  let c0_3315 : Index := 0#32
  ![v3022.toNat, 0]

def k0_chk29 (v3003 : BitVec 32) : Prop :=
  (∀ a, (k0_off56 v3003) a + S128x64.size a ≤ S4096x64.size a)
theorem k0_off56_inb : ∀ (v3003 : BitVec 32) (k0_hw29 : k0_chk29 v3003), ∀ a, (k0_off56 v3003) a + S128x64.size a ≤ S4096x64.size a := fun v3003 k0_hw29 => k0_hw29

def k0_dev115 (v6 : BitVec 32) : Nat :=
  let c0_i32_3334 : BitVec 32 := 0#32
  let c1_i32_3333 : BitVec 32 := 1#32
  let v3034 : BitVec 32 := Scalar.muli v6 c1_i32_3333
  let v3035 : BitVec 32 := Scalar.addi c0_i32_3334 v3034
  v3035.toNat
def k0_dev116 (v8 : BitVec 32) : Nat :=
  let c0_i32_3362 : BitVec 32 := 0#32
  let c1_i32_3361 : BitVec 32 := 1#32
  let v3056 : BitVec 32 := Scalar.muli v8 c1_i32_3361
  let v3057 : BitVec 32 := Scalar.addi c0_i32_3362 v3056
  v3057.toNat
def k0_dev117 (v6 : BitVec 32) : Nat :=
  let c0_i32_3389 : BitVec 32 := 0#32
  let c1_i32_3388 : BitVec 32 := 1#32
  let v3078 : BitVec 32 := Scalar.muli v6 c1_i32_3388
  let v3079 : BitVec 32 := Scalar.addi c0_i32_3389 v3078
  v3079.toNat
def k0_dev118 (v8 : BitVec 32) : Nat :=
  let c0_i32_3417 : BitVec 32 := 0#32
  let c1_i32_3416 : BitVec 32 := 1#32
  let v3100 : BitVec 32 := Scalar.muli v8 c1_i32_3416
  let v3101 : BitVec 32 := Scalar.addi c0_i32_3417 v3100
  v3101.toNat
def k0_dev119 (v6 : BitVec 32) : Nat :=
  let c0_i32_3444 : BitVec 32 := 0#32
  let c1_i32_3443 : BitVec 32 := 1#32
  let v3122 : BitVec 32 := Scalar.muli v6 c1_i32_3443
  let v3123 : BitVec 32 := Scalar.addi c0_i32_3444 v3122
  v3123.toNat
def k0_dev120 (v8 : BitVec 32) : Nat :=
  let c0_i32_3472 : BitVec 32 := 0#32
  let c1_i32_3471 : BitVec 32 := 1#32
  let v3144 : BitVec 32 := Scalar.muli v8 c1_i32_3471
  let v3145 : BitVec 32 := Scalar.addi c0_i32_3472 v3144
  v3145.toNat
def k0_dev121 (v6 : BitVec 32) : Nat :=
  let c0_i32_3499 : BitVec 32 := 0#32
  let c1_i32_3498 : BitVec 32 := 1#32
  let v3166 : BitVec 32 := Scalar.muli v6 c1_i32_3498
  let v3167 : BitVec 32 := Scalar.addi c0_i32_3499 v3166
  v3167.toNat
def k0_dev122 (v8 : BitVec 32) : Nat :=
  let c0_i32_3527 : BitVec 32 := 0#32
  let c1_i32_3526 : BitVec 32 := 1#32
  let v3188 : BitVec 32 := Scalar.muli v8 c1_i32_3526
  let v3189 : BitVec 32 := Scalar.addi c0_i32_3527 v3188
  v3189.toNat
def k0_off57 (v4 : BitVec 32) : Fin 2 → Nat :=
  let c0_3539 : Index := 0#32
  let c14_i32_3536 : BitVec 32 := 14#32
  let v3200 : BitVec 32 := Scalar.subi v4 c14_i32_3536
  let c32_i32_3537 : BitVec 32 := 32#32
  let v3201 : BitVec 32 := Scalar.addi v3200 c32_i32_3537
  let c32_i32_3538 : BitVec 32 := 32#32
  let v3202 : BitVec 32 := Scalar.remsi v3201 c32_i32_3538
  let v3203 : Index := Scalar.indexCast v3202
  ![0, v3203.toNat]
def k0_off58 (v3204 : BitVec 32) : Fin 2 → Nat :=
  let c128_i32_3549 : BitVec 32 := 128#32
  let v3222 : BitVec 32 := Scalar.muli v3204 c128_i32_3549
  let v3223 : Index := Scalar.indexCast v3222
  let c0_3550 : Index := 0#32
  ![v3223.toNat, 0]

def k0_chk30 (v3204 : BitVec 32) : Prop :=
  (∀ a, (k0_off58 v3204) a + S128x64.size a ≤ S4096x64.size a)
theorem k0_off58_inb : ∀ (v3204 : BitVec 32) (k0_hw30 : k0_chk30 v3204), ∀ a, (k0_off58 v3204) a + S128x64.size a ≤ S4096x64.size a := fun v3204 k0_hw30 => k0_hw30

def k0_off59 (v4 : BitVec 32) : Fin 2 → Nat :=
  let c0_3553 : Index := 0#32
  let c14_i32_3551 : BitVec 32 := 14#32
  let v3225 : BitVec 32 := Scalar.addi v4 c14_i32_3551
  let c32_i32_3552 : BitVec 32 := 32#32
  let v3226 : BitVec 32 := Scalar.remsi v3225 c32_i32_3552
  let v3227 : Index := Scalar.indexCast v3226
  ![0, v3227.toNat]
def k0_off60 (v3228 : BitVec 32) : Fin 2 → Nat :=
  let c128_i32_3563 : BitVec 32 := 128#32
  let v3246 : BitVec 32 := Scalar.muli v3228 c128_i32_3563
  let v3247 : Index := Scalar.indexCast v3246
  let c0_3564 : Index := 0#32
  ![v3247.toNat, 0]

def k0_chk31 (v3228 : BitVec 32) : Prop :=
  (∀ a, (k0_off60 v3228) a + S128x64.size a ≤ S4096x64.size a)
theorem k0_off60_inb : ∀ (v3228 : BitVec 32) (k0_hw31 : k0_chk31 v3228), ∀ a, (k0_off60 v3228) a + S128x64.size a ≤ S4096x64.size a := fun v3228 k0_hw31 => k0_hw31

def k0_dev123 (v6 : BitVec 32) : Nat :=
  let c0_i32_3583 : BitVec 32 := 0#32
  let c1_i32_3582 : BitVec 32 := 1#32
  let v3259 : BitVec 32 := Scalar.muli v6 c1_i32_3582
  let v3260 : BitVec 32 := Scalar.addi c0_i32_3583 v3259
  v3260.toNat
def k0_dev124 (v6 : BitVec 32) : Nat :=
  let c0_i32_3624 : BitVec 32 := 0#32
  let c1_i32_3623 : BitVec 32 := 1#32
  let v3291 : BitVec 32 := Scalar.muli v6 c1_i32_3623
  let v3292 : BitVec 32 := Scalar.addi c0_i32_3624 v3291
  v3292.toNat

def k0_chk2_0 (v6 : BitVec 32) : Prop :=
  ((k0_dev2 v6) < nD) ∧
  ((k0_dev3 v6) < nD) ∧
  ((k0_dev5 v6) < nD) ∧
  ((k0_dev7 v6) < nD) ∧
  ((k0_dev9 v6) < nD) ∧
  ((k0_dev11 v6) < nD) ∧
  ((k0_dev13 v6) < nD) ∧
  ((k0_dev15 v6) < nD) ∧
  ((k0_dev17 v6) < nD) ∧
  ((k0_dev19 v6) < nD) ∧
  ((k0_dev21 v6) < nD) ∧
  ((k0_dev23 v6) < nD) ∧
  ((k0_dev25 v6) < nD) ∧
  ((k0_dev27 v6) < nD) ∧
  ((k0_dev29 v6) < nD) ∧
  ((k0_dev31 v6) < nD) ∧
  ((k0_dev33 v6) < nD) ∧
  ((k0_dev35 v6) < nD) ∧
  ((k0_dev37 v6) < nD) ∧
  ((k0_dev39 v6) < nD) ∧
  ((k0_dev41 v6) < nD) ∧
  ((k0_dev43 v6) < nD) ∧
  ((k0_dev45 v6) < nD) ∧
  ((k0_dev47 v6) < nD) ∧
  ((k0_dev49 v6) < nD) ∧
  ((k0_dev51 v6) < nD) ∧
  ((k0_dev53 v6) < nD) ∧
  ((k0_dev55 v6) < nD) ∧
  ((k0_dev57 v6) < nD) ∧
  ((k0_dev59 v6) < nD) ∧
  ((k0_dev61 v6) < nD) ∧
  ((k0_dev63 v6) < nD)
def k0_chk2_1 (v6 : BitVec 32) : Prop :=
  ((k0_dev65 v6) < nD) ∧
  ((k0_dev67 v6) < nD) ∧
  ((k0_dev69 v6) < nD) ∧
  ((k0_dev71 v6) < nD) ∧
  ((k0_dev73 v6) < nD) ∧
  ((k0_dev75 v6) < nD) ∧
  ((k0_dev77 v6) < nD) ∧
  ((k0_dev79 v6) < nD) ∧
  ((k0_dev81 v6) < nD) ∧
  ((k0_dev83 v6) < nD) ∧
  ((k0_dev85 v6) < nD) ∧
  ((k0_dev87 v6) < nD) ∧
  ((k0_dev89 v6) < nD) ∧
  ((k0_dev91 v6) < nD) ∧
  ((k0_dev93 v6) < nD) ∧
  ((k0_dev95 v6) < nD) ∧
  ((k0_dev97 v6) < nD) ∧
  ((k0_dev99 v6) < nD) ∧
  ((k0_dev101 v6) < nD) ∧
  ((k0_dev103 v6) < nD) ∧
  ((k0_dev105 v6) < nD) ∧
  ((k0_dev107 v6) < nD) ∧
  ((k0_dev109 v6) < nD) ∧
  ((k0_dev111 v6) < nD) ∧
  ((k0_dev113 v6) < nD) ∧
  ((k0_dev115 v6) < nD) ∧
  ((k0_dev117 v6) < nD) ∧
  ((k0_dev119 v6) < nD) ∧
  ((k0_dev121 v6) < nD) ∧
  ((k0_dev123 v6) < nD) ∧
  ((k0_dev124 v6) < nD)
def k0_chk2 (v6 : BitVec 32) : Prop :=
  k0_chk2_0 v6 ∧
  k0_chk2_1 v6
theorem k0_dev2_lt : ∀ (v6 : BitVec 32) (k0_hw2 : k0_chk2 v6), (k0_dev2 v6) < nD := fun v6 k0_hw2 => k0_hw2.1.1
theorem k0_dev3_lt : ∀ (v6 : BitVec 32) (k0_hw2 : k0_chk2 v6), (k0_dev3 v6) < nD := fun v6 k0_hw2 => k0_hw2.1.2.1
theorem k0_dev5_lt : ∀ (v6 : BitVec 32) (k0_hw2 : k0_chk2 v6), (k0_dev5 v6) < nD := fun v6 k0_hw2 => k0_hw2.1.2.2.1
theorem k0_dev7_lt : ∀ (v6 : BitVec 32) (k0_hw2 : k0_chk2 v6), (k0_dev7 v6) < nD := fun v6 k0_hw2 => k0_hw2.1.2.2.2.1
theorem k0_dev9_lt : ∀ (v6 : BitVec 32) (k0_hw2 : k0_chk2 v6), (k0_dev9 v6) < nD := fun v6 k0_hw2 => k0_hw2.1.2.2.2.2.1
theorem k0_dev11_lt : ∀ (v6 : BitVec 32) (k0_hw2 : k0_chk2 v6), (k0_dev11 v6) < nD := fun v6 k0_hw2 => k0_hw2.1.2.2.2.2.2.1
theorem k0_dev13_lt : ∀ (v6 : BitVec 32) (k0_hw2 : k0_chk2 v6), (k0_dev13 v6) < nD := fun v6 k0_hw2 => k0_hw2.1.2.2.2.2.2.2.1
theorem k0_dev15_lt : ∀ (v6 : BitVec 32) (k0_hw2 : k0_chk2 v6), (k0_dev15 v6) < nD := fun v6 k0_hw2 => k0_hw2.1.2.2.2.2.2.2.2.1
theorem k0_dev17_lt : ∀ (v6 : BitVec 32) (k0_hw2 : k0_chk2 v6), (k0_dev17 v6) < nD := fun v6 k0_hw2 => k0_hw2.1.2.2.2.2.2.2.2.2.1
theorem k0_dev19_lt : ∀ (v6 : BitVec 32) (k0_hw2 : k0_chk2 v6), (k0_dev19 v6) < nD := fun v6 k0_hw2 => k0_hw2.1.2.2.2.2.2.2.2.2.2.1
theorem k0_dev21_lt : ∀ (v6 : BitVec 32) (k0_hw2 : k0_chk2 v6), (k0_dev21 v6) < nD := fun v6 k0_hw2 => k0_hw2.1.2.2.2.2.2.2.2.2.2.2.1
theorem k0_dev23_lt : ∀ (v6 : BitVec 32) (k0_hw2 : k0_chk2 v6), (k0_dev23 v6) < nD := fun v6 k0_hw2 => k0_hw2.1.2.2.2.2.2.2.2.2.2.2.2.1
theorem k0_dev25_lt : ∀ (v6 : BitVec 32) (k0_hw2 : k0_chk2 v6), (k0_dev25 v6) < nD := fun v6 k0_hw2 => k0_hw2.1.2.2.2.2.2.2.2.2.2.2.2.2.1
theorem k0_dev27_lt : ∀ (v6 : BitVec 32) (k0_hw2 : k0_chk2 v6), (k0_dev27 v6) < nD := fun v6 k0_hw2 => k0_hw2.1.2.2.2.2.2.2.2.2.2.2.2.2.2.1
theorem k0_dev29_lt : ∀ (v6 : BitVec 32) (k0_hw2 : k0_chk2 v6), (k0_dev29 v6) < nD := fun v6 k0_hw2 => k0_hw2.1.2.2.2.2.2.2.2.2.2.2.2.2.2.2.1
theorem k0_dev31_lt : ∀ (v6 : BitVec 32) (k0_hw2 : k0_chk2 v6), (k0_dev31 v6) < nD := fun v6 k0_hw2 => k0_hw2.1.2.2.2.2.2.2.2.2.2.2.2.2.2.2.2.1
theorem k0_dev33_lt : ∀ (v6 : BitVec 32) (k0_hw2 : k0_chk2 v6), (k0_dev33 v6) < nD := fun v6 k0_hw2 => k0_hw2.1.2.2.2.2.2.2.2.2.2.2.2.2.2.2.2.2.1
theorem k0_dev35_lt : ∀ (v6 : BitVec 32) (k0_hw2 : k0_chk2 v6), (k0_dev35 v6) < nD := fun v6 k0_hw2 => k0_hw2.1.2.2.2.2.2.2.2.2.2.2.2.2.2.2.2.2.2.1
theorem k0_dev37_lt : ∀ (v6 : BitVec 32) (k0_hw2 : k0_chk2 v6), (k0_dev37 v6) < nD := fun v6 k0_hw2 => k0_hw2.1.2.2.2.2.2.2.2.2.2.2.2.2.2.2.2.2.2.2.1
theorem k0_dev39_lt : ∀ (v6 : BitVec 32) (k0_hw2 : k0_chk2 v6), (k0_dev39 v6) < nD := fun v6 k0_hw2 => k0_hw2.1.2.2.2.2.2.2.2.2.2.2.2.2.2.2.2.2.2.2.2.1
theorem k0_dev41_lt : ∀ (v6 : BitVec 32) (k0_hw2 : k0_chk2 v6), (k0_dev41 v6) < nD := fun v6 k0_hw2 => k0_hw2.1.2.2.2.2.2.2.2.2.2.2.2.2.2.2.2.2.2.2.2.2.1
theorem k0_dev43_lt : ∀ (v6 : BitVec 32) (k0_hw2 : k0_chk2 v6), (k0_dev43 v6) < nD := fun v6 k0_hw2 => k0_hw2.1.2.2.2.2.2.2.2.2.2.2.2.2.2.2.2.2.2.2.2.2.2.1
theorem k0_dev45_lt : ∀ (v6 : BitVec 32) (k0_hw2 : k0_chk2 v6), (k0_dev45 v6) < nD := fun v6 k0_hw2 => k0_hw2.1.2.2.2.2.2.2.2.2.2.2.2.2.2.2.2.2.2.2.2.2.2.2.1
theorem k0_dev47_lt : ∀ (v6 : BitVec 32) (k0_hw2 : k0_chk2 v6), (k0_dev47 v6) < nD := fun v6 k0_hw2 => k0_hw2.1.2.2.2.2.2.2.2.2.2.2.2.2.2.2.2.2.2.2.2.2.2.2.2.1
theorem k0_dev49_lt : ∀ (v6 : BitVec 32) (k0_hw2 : k0_chk2 v6), (k0_dev49 v6) < nD := fun v6 k0_hw2 => k0_hw2.1.2.2.2.2.2.2.2.2.2.2.2.2.2.2.2.2.2.2.2.2.2.2.2.2.1
theorem k0_dev51_lt : ∀ (v6 : BitVec 32) (k0_hw2 : k0_chk2 v6), (k0_dev51 v6) < nD := fun v6 k0_hw2 => k0_hw2.1.2.2.2.2.2.2.2.2.2.2.2.2.2.2.2.2.2.2.2.2.2.2.2.2.2.1
theorem k0_dev53_lt : ∀ (v6 : BitVec 32) (k0_hw2 : k0_chk2 v6), (k0_dev53 v6) < nD := fun v6 k0_hw2 => k0_hw2.1.2.2.2.2.2.2.2.2.2.2.2.2.2.2.2.2.2.2.2.2.2.2.2.2.2.2.1
theorem k0_dev55_lt : ∀ (v6 : BitVec 32) (k0_hw2 : k0_chk2 v6), (k0_dev55 v6) < nD := fun v6 k0_hw2 => k0_hw2.1.2.2.2.2.2.2.2.2.2.2.2.2.2.2.2.2.2.2.2.2.2.2.2.2.2.2.2.1
theorem k0_dev57_lt : ∀ (v6 : BitVec 32) (k0_hw2 : k0_chk2 v6), (k0_dev57 v6) < nD := fun v6 k0_hw2 => k0_hw2.1.2.2.2.2.2.2.2.2.2.2.2.2.2.2.2.2.2.2.2.2.2.2.2.2.2.2.2.2.1
theorem k0_dev59_lt : ∀ (v6 : BitVec 32) (k0_hw2 : k0_chk2 v6), (k0_dev59 v6) < nD := fun v6 k0_hw2 => k0_hw2.1.2.2.2.2.2.2.2.2.2.2.2.2.2.2.2.2.2.2.2.2.2.2.2.2.2.2.2.2.2.1
theorem k0_dev61_lt : ∀ (v6 : BitVec 32) (k0_hw2 : k0_chk2 v6), (k0_dev61 v6) < nD := fun v6 k0_hw2 => k0_hw2.1.2.2.2.2.2.2.2.2.2.2.2.2.2.2.2.2.2.2.2.2.2.2.2.2.2.2.2.2.2.2.1
theorem k0_dev63_lt : ∀ (v6 : BitVec 32) (k0_hw2 : k0_chk2 v6), (k0_dev63 v6) < nD := fun v6 k0_hw2 => k0_hw2.1.2.2.2.2.2.2.2.2.2.2.2.2.2.2.2.2.2.2.2.2.2.2.2.2.2.2.2.2.2.2.2
theorem k0_dev65_lt : ∀ (v6 : BitVec 32) (k0_hw2 : k0_chk2 v6), (k0_dev65 v6) < nD := fun v6 k0_hw2 => k0_hw2.2.1
theorem k0_dev67_lt : ∀ (v6 : BitVec 32) (k0_hw2 : k0_chk2 v6), (k0_dev67 v6) < nD := fun v6 k0_hw2 => k0_hw2.2.2.1
theorem k0_dev69_lt : ∀ (v6 : BitVec 32) (k0_hw2 : k0_chk2 v6), (k0_dev69 v6) < nD := fun v6 k0_hw2 => k0_hw2.2.2.2.1
theorem k0_dev71_lt : ∀ (v6 : BitVec 32) (k0_hw2 : k0_chk2 v6), (k0_dev71 v6) < nD := fun v6 k0_hw2 => k0_hw2.2.2.2.2.1
theorem k0_dev73_lt : ∀ (v6 : BitVec 32) (k0_hw2 : k0_chk2 v6), (k0_dev73 v6) < nD := fun v6 k0_hw2 => k0_hw2.2.2.2.2.2.1
theorem k0_dev75_lt : ∀ (v6 : BitVec 32) (k0_hw2 : k0_chk2 v6), (k0_dev75 v6) < nD := fun v6 k0_hw2 => k0_hw2.2.2.2.2.2.2.1
theorem k0_dev77_lt : ∀ (v6 : BitVec 32) (k0_hw2 : k0_chk2 v6), (k0_dev77 v6) < nD := fun v6 k0_hw2 => k0_hw2.2.2.2.2.2.2.2.1
theorem k0_dev79_lt : ∀ (v6 : BitVec 32) (k0_hw2 : k0_chk2 v6), (k0_dev79 v6) < nD := fun v6 k0_hw2 => k0_hw2.2.2.2.2.2.2.2.2.1
theorem k0_dev81_lt : ∀ (v6 : BitVec 32) (k0_hw2 : k0_chk2 v6), (k0_dev81 v6) < nD := fun v6 k0_hw2 => k0_hw2.2.2.2.2.2.2.2.2.2.1
theorem k0_dev83_lt : ∀ (v6 : BitVec 32) (k0_hw2 : k0_chk2 v6), (k0_dev83 v6) < nD := fun v6 k0_hw2 => k0_hw2.2.2.2.2.2.2.2.2.2.2.1
theorem k0_dev85_lt : ∀ (v6 : BitVec 32) (k0_hw2 : k0_chk2 v6), (k0_dev85 v6) < nD := fun v6 k0_hw2 => k0_hw2.2.2.2.2.2.2.2.2.2.2.2.1
theorem k0_dev87_lt : ∀ (v6 : BitVec 32) (k0_hw2 : k0_chk2 v6), (k0_dev87 v6) < nD := fun v6 k0_hw2 => k0_hw2.2.2.2.2.2.2.2.2.2.2.2.2.1
theorem k0_dev89_lt : ∀ (v6 : BitVec 32) (k0_hw2 : k0_chk2 v6), (k0_dev89 v6) < nD := fun v6 k0_hw2 => k0_hw2.2.2.2.2.2.2.2.2.2.2.2.2.2.1
theorem k0_dev91_lt : ∀ (v6 : BitVec 32) (k0_hw2 : k0_chk2 v6), (k0_dev91 v6) < nD := fun v6 k0_hw2 => k0_hw2.2.2.2.2.2.2.2.2.2.2.2.2.2.2.1
theorem k0_dev93_lt : ∀ (v6 : BitVec 32) (k0_hw2 : k0_chk2 v6), (k0_dev93 v6) < nD := fun v6 k0_hw2 => k0_hw2.2.2.2.2.2.2.2.2.2.2.2.2.2.2.2.1
theorem k0_dev95_lt : ∀ (v6 : BitVec 32) (k0_hw2 : k0_chk2 v6), (k0_dev95 v6) < nD := fun v6 k0_hw2 => k0_hw2.2.2.2.2.2.2.2.2.2.2.2.2.2.2.2.2.1
theorem k0_dev97_lt : ∀ (v6 : BitVec 32) (k0_hw2 : k0_chk2 v6), (k0_dev97 v6) < nD := fun v6 k0_hw2 => k0_hw2.2.2.2.2.2.2.2.2.2.2.2.2.2.2.2.2.2.1
theorem k0_dev99_lt : ∀ (v6 : BitVec 32) (k0_hw2 : k0_chk2 v6), (k0_dev99 v6) < nD := fun v6 k0_hw2 => k0_hw2.2.2.2.2.2.2.2.2.2.2.2.2.2.2.2.2.2.2.1
theorem k0_dev101_lt : ∀ (v6 : BitVec 32) (k0_hw2 : k0_chk2 v6), (k0_dev101 v6) < nD := fun v6 k0_hw2 => k0_hw2.2.2.2.2.2.2.2.2.2.2.2.2.2.2.2.2.2.2.2.1
theorem k0_dev103_lt : ∀ (v6 : BitVec 32) (k0_hw2 : k0_chk2 v6), (k0_dev103 v6) < nD := fun v6 k0_hw2 => k0_hw2.2.2.2.2.2.2.2.2.2.2.2.2.2.2.2.2.2.2.2.2.1
theorem k0_dev105_lt : ∀ (v6 : BitVec 32) (k0_hw2 : k0_chk2 v6), (k0_dev105 v6) < nD := fun v6 k0_hw2 => k0_hw2.2.2.2.2.2.2.2.2.2.2.2.2.2.2.2.2.2.2.2.2.2.1
theorem k0_dev107_lt : ∀ (v6 : BitVec 32) (k0_hw2 : k0_chk2 v6), (k0_dev107 v6) < nD := fun v6 k0_hw2 => k0_hw2.2.2.2.2.2.2.2.2.2.2.2.2.2.2.2.2.2.2.2.2.2.2.1
theorem k0_dev109_lt : ∀ (v6 : BitVec 32) (k0_hw2 : k0_chk2 v6), (k0_dev109 v6) < nD := fun v6 k0_hw2 => k0_hw2.2.2.2.2.2.2.2.2.2.2.2.2.2.2.2.2.2.2.2.2.2.2.2.1
theorem k0_dev111_lt : ∀ (v6 : BitVec 32) (k0_hw2 : k0_chk2 v6), (k0_dev111 v6) < nD := fun v6 k0_hw2 => k0_hw2.2.2.2.2.2.2.2.2.2.2.2.2.2.2.2.2.2.2.2.2.2.2.2.2.1
theorem k0_dev113_lt : ∀ (v6 : BitVec 32) (k0_hw2 : k0_chk2 v6), (k0_dev113 v6) < nD := fun v6 k0_hw2 => k0_hw2.2.2.2.2.2.2.2.2.2.2.2.2.2.2.2.2.2.2.2.2.2.2.2.2.2.1
theorem k0_dev115_lt : ∀ (v6 : BitVec 32) (k0_hw2 : k0_chk2 v6), (k0_dev115 v6) < nD := fun v6 k0_hw2 => k0_hw2.2.2.2.2.2.2.2.2.2.2.2.2.2.2.2.2.2.2.2.2.2.2.2.2.2.2.1
theorem k0_dev117_lt : ∀ (v6 : BitVec 32) (k0_hw2 : k0_chk2 v6), (k0_dev117 v6) < nD := fun v6 k0_hw2 => k0_hw2.2.2.2.2.2.2.2.2.2.2.2.2.2.2.2.2.2.2.2.2.2.2.2.2.2.2.2.1
theorem k0_dev119_lt : ∀ (v6 : BitVec 32) (k0_hw2 : k0_chk2 v6), (k0_dev119 v6) < nD := fun v6 k0_hw2 => k0_hw2.2.2.2.2.2.2.2.2.2.2.2.2.2.2.2.2.2.2.2.2.2.2.2.2.2.2.2.2.1
theorem k0_dev121_lt : ∀ (v6 : BitVec 32) (k0_hw2 : k0_chk2 v6), (k0_dev121 v6) < nD := fun v6 k0_hw2 => k0_hw2.2.2.2.2.2.2.2.2.2.2.2.2.2.2.2.2.2.2.2.2.2.2.2.2.2.2.2.2.2.1
theorem k0_dev123_lt : ∀ (v6 : BitVec 32) (k0_hw2 : k0_chk2 v6), (k0_dev123 v6) < nD := fun v6 k0_hw2 => k0_hw2.2.2.2.2.2.2.2.2.2.2.2.2.2.2.2.2.2.2.2.2.2.2.2.2.2.2.2.2.2.2.1
theorem k0_dev124_lt : ∀ (v6 : BitVec 32) (k0_hw2 : k0_chk2 v6), (k0_dev124 v6) < nD := fun v6 k0_hw2 => k0_hw2.2.2.2.2.2.2.2.2.2.2.2.2.2.2.2.2.2.2.2.2.2.2.2.2.2.2.2.2.2.2.2

def k0_dev125 (v8 : BitVec 32) : Nat :=
  let c0_i32_3679 : BitVec 32 := 0#32
  let c1_i32_3678 : BitVec 32 := 1#32
  let v3333 : BitVec 32 := Scalar.muli v8 c1_i32_3678
  let v3334 : BitVec 32 := Scalar.addi c0_i32_3679 v3333
  v3334.toNat
def k0_dev126 (v8 : BitVec 32) : Nat :=
  let c0_i32_3720 : BitVec 32 := 0#32
  let c1_i32_3719 : BitVec 32 := 1#32
  let v3365 : BitVec 32 := Scalar.muli v8 c1_i32_3719
  let v3366 : BitVec 32 := Scalar.addi c0_i32_3720 v3365
  v3366.toNat

def k0_chk1_0 (v8 : BitVec 32) : Prop :=
  ((k0_dev1 v8) < nD) ∧
  ((k0_dev4 v8) < nD) ∧
  ((k0_dev6 v8) < nD) ∧
  ((k0_dev8 v8) < nD) ∧
  ((k0_dev10 v8) < nD) ∧
  ((k0_dev12 v8) < nD) ∧
  ((k0_dev14 v8) < nD) ∧
  ((k0_dev16 v8) < nD) ∧
  ((k0_dev18 v8) < nD) ∧
  ((k0_dev20 v8) < nD) ∧
  ((k0_dev22 v8) < nD) ∧
  ((k0_dev24 v8) < nD) ∧
  ((k0_dev26 v8) < nD) ∧
  ((k0_dev28 v8) < nD) ∧
  ((k0_dev30 v8) < nD) ∧
  ((k0_dev32 v8) < nD) ∧
  ((k0_dev34 v8) < nD) ∧
  ((k0_dev36 v8) < nD) ∧
  ((k0_dev38 v8) < nD) ∧
  ((k0_dev40 v8) < nD) ∧
  ((k0_dev42 v8) < nD) ∧
  ((k0_dev44 v8) < nD) ∧
  ((k0_dev46 v8) < nD) ∧
  ((k0_dev48 v8) < nD) ∧
  ((k0_dev50 v8) < nD) ∧
  ((k0_dev52 v8) < nD) ∧
  ((k0_dev54 v8) < nD) ∧
  ((k0_dev56 v8) < nD) ∧
  ((k0_dev58 v8) < nD) ∧
  ((k0_dev60 v8) < nD) ∧
  ((k0_dev62 v8) < nD) ∧
  ((k0_dev64 v8) < nD)
def k0_chk1_1 (v8 : BitVec 32) : Prop :=
  ((k0_dev66 v8) < nD) ∧
  ((k0_dev68 v8) < nD) ∧
  ((k0_dev70 v8) < nD) ∧
  ((k0_dev72 v8) < nD) ∧
  ((k0_dev74 v8) < nD) ∧
  ((k0_dev76 v8) < nD) ∧
  ((k0_dev78 v8) < nD) ∧
  ((k0_dev80 v8) < nD) ∧
  ((k0_dev82 v8) < nD) ∧
  ((k0_dev84 v8) < nD) ∧
  ((k0_dev86 v8) < nD) ∧
  ((k0_dev88 v8) < nD) ∧
  ((k0_dev90 v8) < nD) ∧
  ((k0_dev92 v8) < nD) ∧
  ((k0_dev94 v8) < nD) ∧
  ((k0_dev96 v8) < nD) ∧
  ((k0_dev98 v8) < nD) ∧
  ((k0_dev100 v8) < nD) ∧
  ((k0_dev102 v8) < nD) ∧
  ((k0_dev104 v8) < nD) ∧
  ((k0_dev106 v8) < nD) ∧
  ((k0_dev108 v8) < nD) ∧
  ((k0_dev110 v8) < nD) ∧
  ((k0_dev112 v8) < nD) ∧
  ((k0_dev114 v8) < nD) ∧
  ((k0_dev116 v8) < nD) ∧
  ((k0_dev118 v8) < nD) ∧
  ((k0_dev120 v8) < nD) ∧
  ((k0_dev122 v8) < nD) ∧
  ((k0_dev125 v8) < nD) ∧
  ((k0_dev126 v8) < nD)
def k0_chk1 (v8 : BitVec 32) : Prop :=
  k0_chk1_0 v8 ∧
  k0_chk1_1 v8
theorem k0_dev1_lt : ∀ (v8 : BitVec 32) (k0_hw1 : k0_chk1 v8), (k0_dev1 v8) < nD := fun v8 k0_hw1 => k0_hw1.1.1
theorem k0_dev4_lt : ∀ (v8 : BitVec 32) (k0_hw1 : k0_chk1 v8), (k0_dev4 v8) < nD := fun v8 k0_hw1 => k0_hw1.1.2.1
theorem k0_dev6_lt : ∀ (v8 : BitVec 32) (k0_hw1 : k0_chk1 v8), (k0_dev6 v8) < nD := fun v8 k0_hw1 => k0_hw1.1.2.2.1
theorem k0_dev8_lt : ∀ (v8 : BitVec 32) (k0_hw1 : k0_chk1 v8), (k0_dev8 v8) < nD := fun v8 k0_hw1 => k0_hw1.1.2.2.2.1
theorem k0_dev10_lt : ∀ (v8 : BitVec 32) (k0_hw1 : k0_chk1 v8), (k0_dev10 v8) < nD := fun v8 k0_hw1 => k0_hw1.1.2.2.2.2.1
theorem k0_dev12_lt : ∀ (v8 : BitVec 32) (k0_hw1 : k0_chk1 v8), (k0_dev12 v8) < nD := fun v8 k0_hw1 => k0_hw1.1.2.2.2.2.2.1
theorem k0_dev14_lt : ∀ (v8 : BitVec 32) (k0_hw1 : k0_chk1 v8), (k0_dev14 v8) < nD := fun v8 k0_hw1 => k0_hw1.1.2.2.2.2.2.2.1
theorem k0_dev16_lt : ∀ (v8 : BitVec 32) (k0_hw1 : k0_chk1 v8), (k0_dev16 v8) < nD := fun v8 k0_hw1 => k0_hw1.1.2.2.2.2.2.2.2.1
theorem k0_dev18_lt : ∀ (v8 : BitVec 32) (k0_hw1 : k0_chk1 v8), (k0_dev18 v8) < nD := fun v8 k0_hw1 => k0_hw1.1.2.2.2.2.2.2.2.2.1
theorem k0_dev20_lt : ∀ (v8 : BitVec 32) (k0_hw1 : k0_chk1 v8), (k0_dev20 v8) < nD := fun v8 k0_hw1 => k0_hw1.1.2.2.2.2.2.2.2.2.2.1
theorem k0_dev22_lt : ∀ (v8 : BitVec 32) (k0_hw1 : k0_chk1 v8), (k0_dev22 v8) < nD := fun v8 k0_hw1 => k0_hw1.1.2.2.2.2.2.2.2.2.2.2.1
theorem k0_dev24_lt : ∀ (v8 : BitVec 32) (k0_hw1 : k0_chk1 v8), (k0_dev24 v8) < nD := fun v8 k0_hw1 => k0_hw1.1.2.2.2.2.2.2.2.2.2.2.2.1
theorem k0_dev26_lt : ∀ (v8 : BitVec 32) (k0_hw1 : k0_chk1 v8), (k0_dev26 v8) < nD := fun v8 k0_hw1 => k0_hw1.1.2.2.2.2.2.2.2.2.2.2.2.2.1
theorem k0_dev28_lt : ∀ (v8 : BitVec 32) (k0_hw1 : k0_chk1 v8), (k0_dev28 v8) < nD := fun v8 k0_hw1 => k0_hw1.1.2.2.2.2.2.2.2.2.2.2.2.2.2.1
theorem k0_dev30_lt : ∀ (v8 : BitVec 32) (k0_hw1 : k0_chk1 v8), (k0_dev30 v8) < nD := fun v8 k0_hw1 => k0_hw1.1.2.2.2.2.2.2.2.2.2.2.2.2.2.2.1
theorem k0_dev32_lt : ∀ (v8 : BitVec 32) (k0_hw1 : k0_chk1 v8), (k0_dev32 v8) < nD := fun v8 k0_hw1 => k0_hw1.1.2.2.2.2.2.2.2.2.2.2.2.2.2.2.2.1
theorem k0_dev34_lt : ∀ (v8 : BitVec 32) (k0_hw1 : k0_chk1 v8), (k0_dev34 v8) < nD := fun v8 k0_hw1 => k0_hw1.1.2.2.2.2.2.2.2.2.2.2.2.2.2.2.2.2.1
theorem k0_dev36_lt : ∀ (v8 : BitVec 32) (k0_hw1 : k0_chk1 v8), (k0_dev36 v8) < nD := fun v8 k0_hw1 => k0_hw1.1.2.2.2.2.2.2.2.2.2.2.2.2.2.2.2.2.2.1
theorem k0_dev38_lt : ∀ (v8 : BitVec 32) (k0_hw1 : k0_chk1 v8), (k0_dev38 v8) < nD := fun v8 k0_hw1 => k0_hw1.1.2.2.2.2.2.2.2.2.2.2.2.2.2.2.2.2.2.2.1
theorem k0_dev40_lt : ∀ (v8 : BitVec 32) (k0_hw1 : k0_chk1 v8), (k0_dev40 v8) < nD := fun v8 k0_hw1 => k0_hw1.1.2.2.2.2.2.2.2.2.2.2.2.2.2.2.2.2.2.2.2.1
theorem k0_dev42_lt : ∀ (v8 : BitVec 32) (k0_hw1 : k0_chk1 v8), (k0_dev42 v8) < nD := fun v8 k0_hw1 => k0_hw1.1.2.2.2.2.2.2.2.2.2.2.2.2.2.2.2.2.2.2.2.2.1
theorem k0_dev44_lt : ∀ (v8 : BitVec 32) (k0_hw1 : k0_chk1 v8), (k0_dev44 v8) < nD := fun v8 k0_hw1 => k0_hw1.1.2.2.2.2.2.2.2.2.2.2.2.2.2.2.2.2.2.2.2.2.2.1
theorem k0_dev46_lt : ∀ (v8 : BitVec 32) (k0_hw1 : k0_chk1 v8), (k0_dev46 v8) < nD := fun v8 k0_hw1 => k0_hw1.1.2.2.2.2.2.2.2.2.2.2.2.2.2.2.2.2.2.2.2.2.2.2.1
theorem k0_dev48_lt : ∀ (v8 : BitVec 32) (k0_hw1 : k0_chk1 v8), (k0_dev48 v8) < nD := fun v8 k0_hw1 => k0_hw1.1.2.2.2.2.2.2.2.2.2.2.2.2.2.2.2.2.2.2.2.2.2.2.2.1
theorem k0_dev50_lt : ∀ (v8 : BitVec 32) (k0_hw1 : k0_chk1 v8), (k0_dev50 v8) < nD := fun v8 k0_hw1 => k0_hw1.1.2.2.2.2.2.2.2.2.2.2.2.2.2.2.2.2.2.2.2.2.2.2.2.2.1
theorem k0_dev52_lt : ∀ (v8 : BitVec 32) (k0_hw1 : k0_chk1 v8), (k0_dev52 v8) < nD := fun v8 k0_hw1 => k0_hw1.1.2.2.2.2.2.2.2.2.2.2.2.2.2.2.2.2.2.2.2.2.2.2.2.2.2.1
theorem k0_dev54_lt : ∀ (v8 : BitVec 32) (k0_hw1 : k0_chk1 v8), (k0_dev54 v8) < nD := fun v8 k0_hw1 => k0_hw1.1.2.2.2.2.2.2.2.2.2.2.2.2.2.2.2.2.2.2.2.2.2.2.2.2.2.2.1
theorem k0_dev56_lt : ∀ (v8 : BitVec 32) (k0_hw1 : k0_chk1 v8), (k0_dev56 v8) < nD := fun v8 k0_hw1 => k0_hw1.1.2.2.2.2.2.2.2.2.2.2.2.2.2.2.2.2.2.2.2.2.2.2.2.2.2.2.2.1
theorem k0_dev58_lt : ∀ (v8 : BitVec 32) (k0_hw1 : k0_chk1 v8), (k0_dev58 v8) < nD := fun v8 k0_hw1 => k0_hw1.1.2.2.2.2.2.2.2.2.2.2.2.2.2.2.2.2.2.2.2.2.2.2.2.2.2.2.2.2.1
theorem k0_dev60_lt : ∀ (v8 : BitVec 32) (k0_hw1 : k0_chk1 v8), (k0_dev60 v8) < nD := fun v8 k0_hw1 => k0_hw1.1.2.2.2.2.2.2.2.2.2.2.2.2.2.2.2.2.2.2.2.2.2.2.2.2.2.2.2.2.2.1
theorem k0_dev62_lt : ∀ (v8 : BitVec 32) (k0_hw1 : k0_chk1 v8), (k0_dev62 v8) < nD := fun v8 k0_hw1 => k0_hw1.1.2.2.2.2.2.2.2.2.2.2.2.2.2.2.2.2.2.2.2.2.2.2.2.2.2.2.2.2.2.2.1
theorem k0_dev64_lt : ∀ (v8 : BitVec 32) (k0_hw1 : k0_chk1 v8), (k0_dev64 v8) < nD := fun v8 k0_hw1 => k0_hw1.1.2.2.2.2.2.2.2.2.2.2.2.2.2.2.2.2.2.2.2.2.2.2.2.2.2.2.2.2.2.2.2
theorem k0_dev66_lt : ∀ (v8 : BitVec 32) (k0_hw1 : k0_chk1 v8), (k0_dev66 v8) < nD := fun v8 k0_hw1 => k0_hw1.2.1
theorem k0_dev68_lt : ∀ (v8 : BitVec 32) (k0_hw1 : k0_chk1 v8), (k0_dev68 v8) < nD := fun v8 k0_hw1 => k0_hw1.2.2.1
theorem k0_dev70_lt : ∀ (v8 : BitVec 32) (k0_hw1 : k0_chk1 v8), (k0_dev70 v8) < nD := fun v8 k0_hw1 => k0_hw1.2.2.2.1
theorem k0_dev72_lt : ∀ (v8 : BitVec 32) (k0_hw1 : k0_chk1 v8), (k0_dev72 v8) < nD := fun v8 k0_hw1 => k0_hw1.2.2.2.2.1
theorem k0_dev74_lt : ∀ (v8 : BitVec 32) (k0_hw1 : k0_chk1 v8), (k0_dev74 v8) < nD := fun v8 k0_hw1 => k0_hw1.2.2.2.2.2.1
theorem k0_dev76_lt : ∀ (v8 : BitVec 32) (k0_hw1 : k0_chk1 v8), (k0_dev76 v8) < nD := fun v8 k0_hw1 => k0_hw1.2.2.2.2.2.2.1
theorem k0_dev78_lt : ∀ (v8 : BitVec 32) (k0_hw1 : k0_chk1 v8), (k0_dev78 v8) < nD := fun v8 k0_hw1 => k0_hw1.2.2.2.2.2.2.2.1
theorem k0_dev80_lt : ∀ (v8 : BitVec 32) (k0_hw1 : k0_chk1 v8), (k0_dev80 v8) < nD := fun v8 k0_hw1 => k0_hw1.2.2.2.2.2.2.2.2.1
theorem k0_dev82_lt : ∀ (v8 : BitVec 32) (k0_hw1 : k0_chk1 v8), (k0_dev82 v8) < nD := fun v8 k0_hw1 => k0_hw1.2.2.2.2.2.2.2.2.2.1
theorem k0_dev84_lt : ∀ (v8 : BitVec 32) (k0_hw1 : k0_chk1 v8), (k0_dev84 v8) < nD := fun v8 k0_hw1 => k0_hw1.2.2.2.2.2.2.2.2.2.2.1
theorem k0_dev86_lt : ∀ (v8 : BitVec 32) (k0_hw1 : k0_chk1 v8), (k0_dev86 v8) < nD := fun v8 k0_hw1 => k0_hw1.2.2.2.2.2.2.2.2.2.2.2.1
theorem k0_dev88_lt : ∀ (v8 : BitVec 32) (k0_hw1 : k0_chk1 v8), (k0_dev88 v8) < nD := fun v8 k0_hw1 => k0_hw1.2.2.2.2.2.2.2.2.2.2.2.2.1
theorem k0_dev90_lt : ∀ (v8 : BitVec 32) (k0_hw1 : k0_chk1 v8), (k0_dev90 v8) < nD := fun v8 k0_hw1 => k0_hw1.2.2.2.2.2.2.2.2.2.2.2.2.2.1
theorem k0_dev92_lt : ∀ (v8 : BitVec 32) (k0_hw1 : k0_chk1 v8), (k0_dev92 v8) < nD := fun v8 k0_hw1 => k0_hw1.2.2.2.2.2.2.2.2.2.2.2.2.2.2.1
theorem k0_dev94_lt : ∀ (v8 : BitVec 32) (k0_hw1 : k0_chk1 v8), (k0_dev94 v8) < nD := fun v8 k0_hw1 => k0_hw1.2.2.2.2.2.2.2.2.2.2.2.2.2.2.2.1
theorem k0_dev96_lt : ∀ (v8 : BitVec 32) (k0_hw1 : k0_chk1 v8), (k0_dev96 v8) < nD := fun v8 k0_hw1 => k0_hw1.2.2.2.2.2.2.2.2.2.2.2.2.2.2.2.2.1
theorem k0_dev98_lt : ∀ (v8 : BitVec 32) (k0_hw1 : k0_chk1 v8), (k0_dev98 v8) < nD := fun v8 k0_hw1 => k0_hw1.2.2.2.2.2.2.2.2.2.2.2.2.2.2.2.2.2.1
theorem k0_dev100_lt : ∀ (v8 : BitVec 32) (k0_hw1 : k0_chk1 v8), (k0_dev100 v8) < nD := fun v8 k0_hw1 => k0_hw1.2.2.2.2.2.2.2.2.2.2.2.2.2.2.2.2.2.2.1
theorem k0_dev102_lt : ∀ (v8 : BitVec 32) (k0_hw1 : k0_chk1 v8), (k0_dev102 v8) < nD := fun v8 k0_hw1 => k0_hw1.2.2.2.2.2.2.2.2.2.2.2.2.2.2.2.2.2.2.2.1
theorem k0_dev104_lt : ∀ (v8 : BitVec 32) (k0_hw1 : k0_chk1 v8), (k0_dev104 v8) < nD := fun v8 k0_hw1 => k0_hw1.2.2.2.2.2.2.2.2.2.2.2.2.2.2.2.2.2.2.2.2.1
theorem k0_dev106_lt : ∀ (v8 : BitVec 32) (k0_hw1 : k0_chk1 v8), (k0_dev106 v8) < nD := fun v8 k0_hw1 => k0_hw1.2.2.2.2.2.2.2.2.2.2.2.2.2.2.2.2.2.2.2.2.2.1
theorem k0_dev108_lt : ∀ (v8 : BitVec 32) (k0_hw1 : k0_chk1 v8), (k0_dev108 v8) < nD := fun v8 k0_hw1 => k0_hw1.2.2.2.2.2.2.2.2.2.2.2.2.2.2.2.2.2.2.2.2.2.2.1
theorem k0_dev110_lt : ∀ (v8 : BitVec 32) (k0_hw1 : k0_chk1 v8), (k0_dev110 v8) < nD := fun v8 k0_hw1 => k0_hw1.2.2.2.2.2.2.2.2.2.2.2.2.2.2.2.2.2.2.2.2.2.2.2.1
theorem k0_dev112_lt : ∀ (v8 : BitVec 32) (k0_hw1 : k0_chk1 v8), (k0_dev112 v8) < nD := fun v8 k0_hw1 => k0_hw1.2.2.2.2.2.2.2.2.2.2.2.2.2.2.2.2.2.2.2.2.2.2.2.2.1
theorem k0_dev114_lt : ∀ (v8 : BitVec 32) (k0_hw1 : k0_chk1 v8), (k0_dev114 v8) < nD := fun v8 k0_hw1 => k0_hw1.2.2.2.2.2.2.2.2.2.2.2.2.2.2.2.2.2.2.2.2.2.2.2.2.2.1
theorem k0_dev116_lt : ∀ (v8 : BitVec 32) (k0_hw1 : k0_chk1 v8), (k0_dev116 v8) < nD := fun v8 k0_hw1 => k0_hw1.2.2.2.2.2.2.2.2.2.2.2.2.2.2.2.2.2.2.2.2.2.2.2.2.2.2.1
theorem k0_dev118_lt : ∀ (v8 : BitVec 32) (k0_hw1 : k0_chk1 v8), (k0_dev118 v8) < nD := fun v8 k0_hw1 => k0_hw1.2.2.2.2.2.2.2.2.2.2.2.2.2.2.2.2.2.2.2.2.2.2.2.2.2.2.2.1
theorem k0_dev120_lt : ∀ (v8 : BitVec 32) (k0_hw1 : k0_chk1 v8), (k0_dev120 v8) < nD := fun v8 k0_hw1 => k0_hw1.2.2.2.2.2.2.2.2.2.2.2.2.2.2.2.2.2.2.2.2.2.2.2.2.2.2.2.2.1
theorem k0_dev122_lt : ∀ (v8 : BitVec 32) (k0_hw1 : k0_chk1 v8), (k0_dev122 v8) < nD := fun v8 k0_hw1 => k0_hw1.2.2.2.2.2.2.2.2.2.2.2.2.2.2.2.2.2.2.2.2.2.2.2.2.2.2.2.2.2.1
theorem k0_dev125_lt : ∀ (v8 : BitVec 32) (k0_hw1 : k0_chk1 v8), (k0_dev125 v8) < nD := fun v8 k0_hw1 => k0_hw1.2.2.2.2.2.2.2.2.2.2.2.2.2.2.2.2.2.2.2.2.2.2.2.2.2.2.2.2.2.2.1
theorem k0_dev126_lt : ∀ (v8 : BitVec 32) (k0_hw1 : k0_chk1 v8), (k0_dev126 v8) < nD := fun v8 k0_hw1 => k0_hw1.2.2.2.2.2.2.2.2.2.2.2.2.2.2.2.2.2.2.2.2.2.2.2.2.2.2.2.2.2.2.2

def k0_off61 (v4 : BitVec 32) : Fin 2 → Nat :=
  let c0_3732 : Index := 0#32
  let c15_i32_3729 : BitVec 32 := 15#32
  let v3377 : BitVec 32 := Scalar.subi v4 c15_i32_3729
  let c32_i32_3730 : BitVec 32 := 32#32
  let v3378 : BitVec 32 := Scalar.addi v3377 c32_i32_3730
  let c32_i32_3731 : BitVec 32 := 32#32
  let v3379 : BitVec 32 := Scalar.remsi v3378 c32_i32_3731
  let v3380 : Index := Scalar.indexCast v3379
  ![0, v3380.toNat]
def k0_off62 (v3381 : BitVec 32) : Fin 2 → Nat :=
  let c128_i32_3742 : BitVec 32 := 128#32
  let v3399 : BitVec 32 := Scalar.muli v3381 c128_i32_3742
  let v3400 : Index := Scalar.indexCast v3399
  let c0_3743 : Index := 0#32
  ![v3400.toNat, 0]

def k0_chk32 (v3381 : BitVec 32) : Prop :=
  (∀ a, (k0_off62 v3381) a + S128x64.size a ≤ S4096x64.size a)
theorem k0_off62_inb : ∀ (v3381 : BitVec 32) (k0_hw32 : k0_chk32 v3381), ∀ a, (k0_off62 v3381) a + S128x64.size a ≤ S4096x64.size a := fun v3381 k0_hw32 => k0_hw32

def k0_off63 (v4 : BitVec 32) : Fin 2 → Nat :=
  let c0_3746 : Index := 0#32
  let c15_i32_3744 : BitVec 32 := 15#32
  let v3402 : BitVec 32 := Scalar.addi v4 c15_i32_3744
  let c32_i32_3745 : BitVec 32 := 32#32
  let v3403 : BitVec 32 := Scalar.remsi v3402 c32_i32_3745
  let v3404 : Index := Scalar.indexCast v3403
  ![0, v3404.toNat]
def k0_off64 (v3405 : BitVec 32) : Fin 2 → Nat :=
  let c128_i32_3756 : BitVec 32 := 128#32
  let v3423 : BitVec 32 := Scalar.muli v3405 c128_i32_3756
  let v3424 : Index := Scalar.indexCast v3423
  let c0_3757 : Index := 0#32
  ![v3424.toNat, 0]

def k0_chk33 (v3405 : BitVec 32) : Prop :=
  (∀ a, (k0_off64 v3405) a + S128x64.size a ≤ S4096x64.size a)
theorem k0_off64_inb : ∀ (v3405 : BitVec 32) (k0_hw33 : k0_chk33 v3405), ∀ a, (k0_off64 v3405) a + S128x64.size a ≤ S4096x64.size a := fun v3405 k0_hw33 => k0_hw33

def k0_off65 (v4 : BitVec 32) : Fin 2 → Nat :=
  let c0_3816 : Index := 0#32
  let c16_i32_3814 : BitVec 32 := 16#32
  let v3466 : BitVec 32 := Scalar.addi v4 c16_i32_3814
  let c32_i32_3815 : BitVec 32 := 32#32
  let v3467 : BitVec 32 := Scalar.remsi v3466 c32_i32_3815
  let v3468 : Index := Scalar.indexCast v3467
  ![0, v3468.toNat]

def k0_chk3 (v4 : BitVec 32) : Prop :=
  (∀ a, (k0_off5 v4) a + S1x1.size a ≤ S4x32.size a) ∧
  (∀ a, (k0_off7 v4) a + S1x1.size a ≤ S4x32.size a) ∧
  (∀ a, (k0_off9 v4) a + S1x1.size a ≤ S4x32.size a) ∧
  (∀ a, (k0_off11 v4) a + S1x1.size a ≤ S4x32.size a) ∧
  (∀ a, (k0_off13 v4) a + S1x1.size a ≤ S4x32.size a) ∧
  (∀ a, (k0_off15 v4) a + S1x1.size a ≤ S4x32.size a) ∧
  (∀ a, (k0_off17 v4) a + S1x1.size a ≤ S4x32.size a) ∧
  (∀ a, (k0_off19 v4) a + S1x1.size a ≤ S4x32.size a) ∧
  (∀ a, (k0_off21 v4) a + S1x1.size a ≤ S4x32.size a) ∧
  (∀ a, (k0_off23 v4) a + S1x1.size a ≤ S4x32.size a) ∧
  (∀ a, (k0_off25 v4) a + S1x1.size a ≤ S4x32.size a) ∧
  (∀ a, (k0_off27 v4) a + S1x1.size a ≤ S4x32.size a) ∧
  (∀ a, (k0_off29 v4) a + S1x1.size a ≤ S4x32.size a) ∧
  (∀ a, (k0_off31 v4) a + S1x1.size a ≤ S4x32.size a) ∧
  (∀ a, (k0_off33 v4) a + S1x1.size a ≤ S4x32.size a) ∧
  (∀ a, (k0_off35 v4) a + S1x1.size a ≤ S4x32.size a) ∧
  (∀ a, (k0_off37 v4) a + S1x1.size a ≤ S4x32.size a) ∧
  (∀ a, (k0_off39 v4) a + S1x1.size a ≤ S4x32.size a) ∧
  (∀ a, (k0_off41 v4) a + S1x1.size a ≤ S4x32.size a) ∧
  (∀ a, (k0_off43 v4) a + S1x1.size a ≤ S4x32.size a) ∧
  (∀ a, (k0_off45 v4) a + S1x1.size a ≤ S4x32.size a) ∧
  (∀ a, (k0_off47 v4) a + S1x1.size a ≤ S4x32.size a) ∧
  (∀ a, (k0_off49 v4) a + S1x1.size a ≤ S4x32.size a) ∧
  (∀ a, (k0_off51 v4) a + S1x1.size a ≤ S4x32.size a) ∧
  (∀ a, (k0_off53 v4) a + S1x1.size a ≤ S4x32.size a) ∧
  (∀ a, (k0_off55 v4) a + S1x1.size a ≤ S4x32.size a) ∧
  (∀ a, (k0_off57 v4) a + S1x1.size a ≤ S4x32.size a) ∧
  (∀ a, (k0_off59 v4) a + S1x1.size a ≤ S4x32.size a) ∧
  (∀ a, (k0_off61 v4) a + S1x1.size a ≤ S4x32.size a) ∧
  (∀ a, (k0_off63 v4) a + S1x1.size a ≤ S4x32.size a) ∧
  (∀ a, (k0_off65 v4) a + S1x1.size a ≤ S4x32.size a)
theorem k0_off5_inb : ∀ (v4 : BitVec 32) (k0_hw3 : k0_chk3 v4), ∀ a, (k0_off5 v4) a + S1x1.size a ≤ S4x32.size a := fun v4 k0_hw3 => k0_hw3.1
theorem k0_off7_inb : ∀ (v4 : BitVec 32) (k0_hw3 : k0_chk3 v4), ∀ a, (k0_off7 v4) a + S1x1.size a ≤ S4x32.size a := fun v4 k0_hw3 => k0_hw3.2.1
theorem k0_off9_inb : ∀ (v4 : BitVec 32) (k0_hw3 : k0_chk3 v4), ∀ a, (k0_off9 v4) a + S1x1.size a ≤ S4x32.size a := fun v4 k0_hw3 => k0_hw3.2.2.1
theorem k0_off11_inb : ∀ (v4 : BitVec 32) (k0_hw3 : k0_chk3 v4), ∀ a, (k0_off11 v4) a + S1x1.size a ≤ S4x32.size a := fun v4 k0_hw3 => k0_hw3.2.2.2.1
theorem k0_off13_inb : ∀ (v4 : BitVec 32) (k0_hw3 : k0_chk3 v4), ∀ a, (k0_off13 v4) a + S1x1.size a ≤ S4x32.size a := fun v4 k0_hw3 => k0_hw3.2.2.2.2.1
theorem k0_off15_inb : ∀ (v4 : BitVec 32) (k0_hw3 : k0_chk3 v4), ∀ a, (k0_off15 v4) a + S1x1.size a ≤ S4x32.size a := fun v4 k0_hw3 => k0_hw3.2.2.2.2.2.1
theorem k0_off17_inb : ∀ (v4 : BitVec 32) (k0_hw3 : k0_chk3 v4), ∀ a, (k0_off17 v4) a + S1x1.size a ≤ S4x32.size a := fun v4 k0_hw3 => k0_hw3.2.2.2.2.2.2.1
theorem k0_off19_inb : ∀ (v4 : BitVec 32) (k0_hw3 : k0_chk3 v4), ∀ a, (k0_off19 v4) a + S1x1.size a ≤ S4x32.size a := fun v4 k0_hw3 => k0_hw3.2.2.2.2.2.2.2.1
theorem k0_off21_inb : ∀ (v4 : BitVec 32) (k0_hw3 : k0_chk3 v4), ∀ a, (k0_off21 v4) a + S1x1.size a ≤ S4x32.size a := fun v4 k0_hw3 => k0_hw3.2.2.2.2.2.2.2.2.1
theorem k0_off23_inb : ∀ (v4 : BitVec 32) (k0_hw3 : k0_chk3 v4), ∀ a, (k0_off23 v4) a + S1x1.size a ≤ S4x32.size a := fun v4 k0_hw3 => k0_hw3.2.2.2.2.2.2.2.2.2.1
theorem k0_off25_inb : ∀ (v4 : BitVec 32) (k0_hw3 : k0_chk3 v4), ∀ a, (k0_off25 v4) a + S1x1.size a ≤ S4x32.size a := fun v4 k0_hw3 => k0_hw3.2.2.2.2.2.2.2.2.2.2.1
theorem k0_off27_inb : ∀ (v4 : BitVec 32) (k0_hw3 : k0_chk3 v4), ∀ a, (k0_off27 v4) a + S1x1.size a ≤ S4x32.size a := fun v4 k0_hw3 => k0_hw3.2.2.2.2.2.2.2.2.2.2.2.1
theorem k0_off29_inb : ∀ (v4 : BitVec 32) (k0_hw3 : k0_chk3 v4), ∀ a, (k0_off29 v4) a + S1x1.size a ≤ S4x32.size a := fun v4 k0_hw3 => k0_hw3.2.2.2.2.2.2.2.2.2.2.2.2.1
theorem k0_off31_inb : ∀ (v4 : BitVec 32) (k0_hw3 : k0_chk3 v4), ∀ a, (k0_off31 v4) a + S1x1.size a ≤ S4x32.size a := fun v4 k0_hw3 => k0_hw3.2.2.2.2.2.2.2.2.2.2.2.2.2.1
theorem k0_off33_inb : ∀ (v4 : BitVec 32) (k0_hw3 : k0_chk3 v4), ∀ a, (k0_off33 v4) a + S1x1.size a ≤ S4x32.size a := fun v4 k0_hw3 => k0_hw3.2.2.2.2.2.2.2.2.2.2.2.2.2.2.1
theorem k0_off35_inb : ∀ (v4 : BitVec 32) (k0_hw3 : k0_chk3 v4), ∀ a, (k0_off35 v4) a + S1x1.size a ≤ S4x32.size a := fun v4 k0_hw3 => k0_hw3.2.2.2.2.2.2.2.2.2.2.2.2.2.2.2.1
theorem k0_off37_inb : ∀ (v4 : BitVec 32) (k0_hw3 : k0_chk3 v4), ∀ a, (k0_off37 v4) a + S1x1.size a ≤ S4x32.size a := fun v4 k0_hw3 => k0_hw3.2.2.2.2.2.2.2.2.2.2.2.2.2.2.2.2.1
theorem k0_off39_inb : ∀ (v4 : BitVec 32) (k0_hw3 : k0_chk3 v4), ∀ a, (k0_off39 v4) a + S1x1.size a ≤ S4x32.size a := fun v4 k0_hw3 => k0_hw3.2.2.2.2.2.2.2.2.2.2.2.2.2.2.2.2.2.1
theorem k0_off41_inb : ∀ (v4 : BitVec 32) (k0_hw3 : k0_chk3 v4), ∀ a, (k0_off41 v4) a + S1x1.size a ≤ S4x32.size a := fun v4 k0_hw3 => k0_hw3.2.2.2.2.2.2.2.2.2.2.2.2.2.2.2.2.2.2.1
theorem k0_off43_inb : ∀ (v4 : BitVec 32) (k0_hw3 : k0_chk3 v4), ∀ a, (k0_off43 v4) a + S1x1.size a ≤ S4x32.size a := fun v4 k0_hw3 => k0_hw3.2.2.2.2.2.2.2.2.2.2.2.2.2.2.2.2.2.2.2.1
theorem k0_off45_inb : ∀ (v4 : BitVec 32) (k0_hw3 : k0_chk3 v4), ∀ a, (k0_off45 v4) a + S1x1.size a ≤ S4x32.size a := fun v4 k0_hw3 => k0_hw3.2.2.2.2.2.2.2.2.2.2.2.2.2.2.2.2.2.2.2.2.1
theorem k0_off47_inb : ∀ (v4 : BitVec 32) (k0_hw3 : k0_chk3 v4), ∀ a, (k0_off47 v4) a + S1x1.size a ≤ S4x32.size a := fun v4 k0_hw3 => k0_hw3.2.2.2.2.2.2.2.2.2.2.2.2.2.2.2.2.2.2.2.2.2.1
theorem k0_off49_inb : ∀ (v4 : BitVec 32) (k0_hw3 : k0_chk3 v4), ∀ a, (k0_off49 v4) a + S1x1.size a ≤ S4x32.size a := fun v4 k0_hw3 => k0_hw3.2.2.2.2.2.2.2.2.2.2.2.2.2.2.2.2.2.2.2.2.2.2.1
theorem k0_off51_inb : ∀ (v4 : BitVec 32) (k0_hw3 : k0_chk3 v4), ∀ a, (k0_off51 v4) a + S1x1.size a ≤ S4x32.size a := fun v4 k0_hw3 => k0_hw3.2.2.2.2.2.2.2.2.2.2.2.2.2.2.2.2.2.2.2.2.2.2.2.1
theorem k0_off53_inb : ∀ (v4 : BitVec 32) (k0_hw3 : k0_chk3 v4), ∀ a, (k0_off53 v4) a + S1x1.size a ≤ S4x32.size a := fun v4 k0_hw3 => k0_hw3.2.2.2.2.2.2.2.2.2.2.2.2.2.2.2.2.2.2.2.2.2.2.2.2.1
theorem k0_off55_inb : ∀ (v4 : BitVec 32) (k0_hw3 : k0_chk3 v4), ∀ a, (k0_off55 v4) a + S1x1.size a ≤ S4x32.size a := fun v4 k0_hw3 => k0_hw3.2.2.2.2.2.2.2.2.2.2.2.2.2.2.2.2.2.2.2.2.2.2.2.2.2.1
theorem k0_off57_inb : ∀ (v4 : BitVec 32) (k0_hw3 : k0_chk3 v4), ∀ a, (k0_off57 v4) a + S1x1.size a ≤ S4x32.size a := fun v4 k0_hw3 => k0_hw3.2.2.2.2.2.2.2.2.2.2.2.2.2.2.2.2.2.2.2.2.2.2.2.2.2.2.1
theorem k0_off59_inb : ∀ (v4 : BitVec 32) (k0_hw3 : k0_chk3 v4), ∀ a, (k0_off59 v4) a + S1x1.size a ≤ S4x32.size a := fun v4 k0_hw3 => k0_hw3.2.2.2.2.2.2.2.2.2.2.2.2.2.2.2.2.2.2.2.2.2.2.2.2.2.2.2.1
theorem k0_off61_inb : ∀ (v4 : BitVec 32) (k0_hw3 : k0_chk3 v4), ∀ a, (k0_off61 v4) a + S1x1.size a ≤ S4x32.size a := fun v4 k0_hw3 => k0_hw3.2.2.2.2.2.2.2.2.2.2.2.2.2.2.2.2.2.2.2.2.2.2.2.2.2.2.2.2.1
theorem k0_off63_inb : ∀ (v4 : BitVec 32) (k0_hw3 : k0_chk3 v4), ∀ a, (k0_off63 v4) a + S1x1.size a ≤ S4x32.size a := fun v4 k0_hw3 => k0_hw3.2.2.2.2.2.2.2.2.2.2.2.2.2.2.2.2.2.2.2.2.2.2.2.2.2.2.2.2.2.1
theorem k0_off65_inb : ∀ (v4 : BitVec 32) (k0_hw3 : k0_chk3 v4), ∀ a, (k0_off65 v4) a + S1x1.size a ≤ S4x32.size a := fun v4 k0_hw3 => k0_hw3.2.2.2.2.2.2.2.2.2.2.2.2.2.2.2.2.2.2.2.2.2.2.2.2.2.2.2.2.2.2

def k0_off66 (v3469 : BitVec 32) : Fin 2 → Nat :=
  let c128_i32_3826 : BitVec 32 := 128#32
  let v3487 : BitVec 32 := Scalar.muli v3469 c128_i32_3826
  let v3488 : Index := Scalar.indexCast v3487
  let c0_3827 : Index := 0#32
  ![v3488.toNat, 0]

def k0_chk34 (v3469 : BitVec 32) : Prop :=
  (∀ a, (k0_off66 v3469) a + S128x64.size a ≤ S4096x64.size a)
theorem k0_off66_inb : ∀ (v3469 : BitVec 32) (k0_hw34 : k0_chk34 v3469), ∀ a, (k0_off66 v3469) a + S128x64.size a ≤ S4096x64.size a := fun v3469 k0_hw34 => k0_hw34

abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.K.Body.lean ====
/- The kernel's body is the program the other modules reason about. -/
module

public import proofs.«01_k».proof.Proof.K.Prog

@[expose] public section

noncomputable section

namespace Cert.Kernel.Ring

open Cert.Kernel Cert.Kernel.Gen
open Idealize.ShloMosaic Idealize.ShloMosaic.TcCoe
open Idealize.SL Idealize.SL.Sem

variable {F : FTy → Type} [FloatOps F]

/-- Two programs with one first operation agree when what follows agrees. -/
theorem op_congr.{v} {E : Type → Type v} {α β : Type} (e : E β) {k k' : β → Prog E α} (h : ∀ x, k x = k' x) :
    Prog.op e k = Prog.op e k' := congrArg _ (funext h)

set_option maxRecDepth 100000 in
set_option maxHeartbeats 4000000 in
theorem body_eq (h1 h2 h3 h4) : cc0_body (F := F) xM hx wM h1 scM h2 tabM h3 outM h4 commM hcomm cc0_scratch1 cc0_scratch2 cc0_scratch3 cc0_scratch4
    = bodyOp := by
  repeat refine op_congr _ (fun _ => ?_)
  rfl

end Cert.Kernel.Ring

end
-- ==== Proof.KI.Prog.lean ====
/- The kernel's body as a short program over its hops: one definition for every transfer, every wait and
   every block computed, indexed by the way round the ring, the hop and the segment. -/
module

import Mathlib.Tactic.IntervalCases
import Mathlib.Tactic.FinCases
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## The buffers and the semaphores -/

/-- The device's block of rows. -/
abbrev xM : Memref sig .tc .vmem S128x4096 .fp8e4m3 := Memref.whole cc0_stg0_0
/-- The device's block of columns of the weights. -/
abbrev wM : Memref sig .tc .vmem S4096x64 .fp8e5m2 := Memref.whole cc0_stg1_0
/-- The scale. -/
abbrev scM : Memref sig .tc .smem S1 .f32 := Memref.whole cc0_stg2_0
/-- The ring's tables. -/
abbrev tabM : Memref sig .tc .smem S4x32 .i32 := Memref.whole cc0_stg3_0
/-- The result. -/
abbrev outM : Memref sig .tc .vmem S4096x64 .f32 := Memref.whole cc0_stg4_0
/-- The landing slots. -/
abbrev commM : Memref sig .tc .vmem S32x128x4096 .fp8e4m3 := Memref.whole cc0_scratch0

abbrev hx : xM.IsWhole := Memref.isWhole_whole _
abbrev hcomm : commM.IsWhole := Memref.isWhole_whole _

/-- The semaphores a way's senders wait on (`true` clockwise). -/
def sendSems (w : Bool) : DmaSems sig S64 := bif w then cc0_scratch1 else cc0_scratch3
/-- The semaphores a way's receivers wait on. -/
def recvSems (w : Bool) : DmaSems sig S64 := bif w then cc0_scratch2 else cc0_scratch4

/-- A transfer's place in its way's arrays of semaphores: hop `h` (counted from 0), segment `r`. -/
def semIx (h : Fin 16) (r : Fin 4) : Fin 64 := ⟨4 * h.val + r.val, by omega⟩

theorem inbSem : ∀ (i : Fin 64) (a : Fin 1), (![i.val] : Fin 1 → Nat) a + S1.size a ≤ S64.size a := by decide

def semAt (A : DmaSems sig S64) (i : Fin 64) : DmaSem sig :=
  ((A.slice (Rect.unit (s := S64) ![i.val] S1.size (inbSem i))).squeeze S_ squeezes_S1_S_).sem

/-- The semaphore the sender of hop `h`, segment `r` waits on. -/
def sSem (w : Bool) (h : Fin 16) (r : Fin 4) : DmaSem sig := semAt (sendSems w) (semIx h r)
/-- The semaphore its receiver waits on. -/
def rSem (w : Bool) (h : Fin 16) (r : Fin 4) : DmaSem sig := semAt (recvSems w) (semIx h r)

/-- The slot a hop lands in: 1 to 16 clockwise, 17 to 31 and then 16 the other way. -/
def slotN (w : Bool) (h : Nat) : Nat := bif w then h + 1 else bif h == 15 then 16 else h + 17

theorem slotN_lt : ∀ (w : Bool) (h : Fin 16), slotN w h.val < 32 := by decide

def slot (w : Bool) (h : Fin 16) : Fin 32 := ⟨slotN w h.val, slotN_lt w h⟩

theorem inbLand (s : Fin 32) (r : Fin 4) (a : Fin 3) :
    (![s.val, 32 * r.val, 0] : Fin 3 → Nat) a + S1x32x4096.size a ≤ S32x128x4096.size a := by
  have := s.isLt; have := r.isLt
  match a with
  | 0 => show s.val + 1 ≤ 32; omega
  | 1 => show 32 * r.val + 32 ≤ 128; omega
  | 2 => show 0 + 4096 ≤ 4096; omega

theorem wordsLand (s : Fin 32) (r : Fin 4) :
    (Rect.unit (s := S32x128x4096) ![s.val, 32 * r.val, 0] S1x32x4096.size (inbLand s r)).WholeWords (EltTy.packing .fp8e4m3) := by
  refine .inl (.inr ⟨by decide, rfl, .inl ⟨?_, ?_⟩⟩)
  · show 4 ∣ 32 * r.val; omega
  · show 4 ∣ 32; omega

/-- Segment `r` of slot `s`. -/
def land (s : Fin 32) (r : Fin 4) : Memref sig .tc .vmem S32x4096 .fp8e4m3 :=
  (commM.slice (Rect.unit (s := S32x128x4096) ![s.val, 32 * r.val, 0] S1x32x4096.size (inbLand s r)) (fun _ => rfl)).squeeze
    S32x4096 squeezes_S1x32x4096_S32x4096

theorem land_words (s : Fin 32) (r : Fin 4) : (land s r).view.WordExact :=
  (hcomm.wordExact_slice rfl _ (wordsLand s r)).reshape _ _

theorem inbSeg (r : Fin 4) (a : Fin 2) :
    (![32 * r.val, 0] : Fin 2 → Nat) a + S32x4096.size a ≤ S128x4096.size a := by
  have := r.isLt
  match a with
  | 0 => show 32 * r.val + 32 ≤ 128; omega
  | 1 => show 0 + 4096 ≤ 4096; omega

theorem wordsSeg (r : Fin 4) :
    (Rect.unit (s := S128x4096) ![32 * r.val, 0] S32x4096.size (inbSeg r)).WholeWords (EltTy.packing .fp8e4m3) := by
  refine .inl (.inr ⟨by decide, rfl, .inl ⟨?_, ?_⟩⟩)
  · show 4 ∣ 32 * r.val; omega
  · show 4 ∣ 32; omega

/-- Segment `r` of the device's own block. -/
def seg (r : Fin 4) : Memref sig .tc .vmem S32x4096 .fp8e4m3 :=
  xM.slice (Rect.unit (s := S128x4096) ![32 * r.val, 0] S32x4096.size (inbSeg r)) (fun _ => rfl)

theorem seg_words (r : Fin 4) : (seg r).view.WordExact := hx.wordExact_slice rfl _ (wordsSeg r)

/-- What hop `h` sends: the device's own block at the first hop, else what the hop before it landed. -/
def srcN (w : Bool) (h : Fin 16) (r : Fin 4) : Memref sig .tc .vmem S32x4096 .fp8e4m3 :=
  bif h.val == 0 then seg r else land (slot w ⟨h.val - 1, by omega⟩) r

theorem srcN_words (w : Bool) (h : Fin 16) (r : Fin 4) : (srcN w h r).view.WordExact := by
  unfold srcN
  cases (h.val == 0)
  · exact land_words _ _
  · exact seg_words _

/-- The transfers there are: every segment at hops 0 to 14, half of them each way at hop 15. -/
def live (w : Bool) (h : Nat) (r : Fin 4) : Bool :=
  bif Nat.blt h 15 then true else bif h == 15 then (bif w then Nat.blt r.val 2 else Nat.ble 2 r.val) else false

/-! ## The operations -/

/-- Send hop `h`, segment `r` to `q`. -/
def sendOp (q : Dev nD) (w : Bool) (h : Fin 16) (r : Fin 4) : Prog (TpuEff nD τ sig (Elt F) Λ₀ .tc) PUnit :=
  Prog.lift (.enqueueDma (srcN w h r) (.remote (Dev.tc q) (land (slot w h) r) (.dma (sSem w h r))) (.dma (rSem w h r))
    (srcN_words w h r) (land_words _ r) ⟨⟨rfl, Or.inl rfl⟩, trivial⟩)

/-- Wait for hop `h`, segment `r` to land here. -/
def recvOp (w : Bool) (h : Fin 16) (r : Fin 4) : Prog (TpuEff nD τ sig (Elt F) Λ₀ .tc) PUnit :=
  Prog.lift (.waitDma2 (rSem w h r) (srcN w h r) (land (slot w h) r) (srcN_words w h r) (land_words _ r))

/-- Wait for hop `h`, segment `r` to have left. -/
def sentOp (w : Bool) (h : Fin 16) (r : Fin 4) : Prog (TpuEff nD τ sig (Elt F) Λ₀ .tc) PUnit :=
  Prog.lift (.waitDma2 (sSem w h r) (land (slot w h) r) (srcN w h r) (land_words _ r) (srcN_words w h r))

/-- Where the row block `o` lies in the result. -/
def rowOff (o : BitVec 32) : Fin 2 → Nat :=
  ![(Scalar.indexCast (Scalar.muli o 128#32)).toNat, 0]

def rowIn (o : BitVec 32) : Prop := ∀ a, (rowOff o) a + S128x64.size a ≤ S4096x64.size a

set_option synthInstance.maxSize 1000000 in set_option synthInstance.maxHeartbeats 0 in
instance rowIn.dec : ∀ (o : BitVec 32), Decidable (rowIn o) := fun o => decidable_of_iff' _ (Iff.of_eq (rowIn.eq_1 o))

/-- Where the table says whose block hop `h` brought: `h + 1` places back clockwise, `h + 1` places on the other way. -/
def lookOff (w : Bool) (h : Nat) (pos : BitVec 32) : Fin 2 → Nat :=
  bif w then ![0, (Scalar.indexCast (Scalar.remsi (Scalar.addi (Scalar.subi pos (BitVec.ofNat 32 (h + 1))) 32#32) 32#32)).toNat]
  else ![0, (Scalar.indexCast (Scalar.remsi (Scalar.addi pos (BitVec.ofNat 32 (h + 1))) 32#32)).toNat]

/-- The block hops read: clockwise 0 to 14, the other way 0 to 15. -/
theorem inbLook (pos : BitVec 32) (hp : k0_chk3 pos) (w : Bool) (h : Nat) (hh : h < bif w then 15 else 16) :
    ∀ a, (lookOff w h pos) a + S1x1.size a ≤ S4x32.size a := by
  unfold k0_chk3 at hp
  obtain ⟨h1, h2, h3, h4, h5, h6, h7, h8, h9, h10, h11, h12, h13, h14, h15, h16, h17, h18, h19, h20, h21, h22, h23, h24, h25,
    h26, h27, h28, h29, h30, h31⟩ := hp
  cases w
  · have hh : h < 16 := hh
    interval_cases h
    · exact h2
    · exact h4
    · exact h6
    · exact h8
    · exact h10
    · exact h12
    · exact h14
    · exact h16
    · exact h18
    · exact h20
    · exact h22
    · exact h24
    · exact h26
    · exact h28
    · exact h30
    · exact h31
  · have hh : h < 15 := hh
    interval_cases h
    · exact h1
    · exact h3
    · exact h5
    · exact h7
    · exact h9
    · exact h11
    · exact h13
    · exact h15
    · exact h17
    · exact h19
    · exact h21
    · exact h23
    · exact h25
    · exact h27
    · exact h29

theorem inbSlot (s : Fin 32) (a : Fin 3) :
    (![s.val, 0, 0] : Fin 3 → Nat) a + S1x128x4096.size a ≤ S32x128x4096.size a := by
  have := s.isLt
  match a with
  | 0 => show s.val + 1 ≤ 32; omega
  | 1 => show 0 + 128 ≤ 128; omega
  | 2 => show 0 + 4096 ≤ 4096; omega

/-- Multiply the block in slot `s`, whose owner the table gives at hop `h`, into its rows of the result. -/
def blockOp (pos : BitVec 32) (hp : k0_chk3 pos) (sc : Elt F .f32) (w : Bool) (h : Nat) (hh : h < bif w then 15 else 16) (s : Fin 32) :
    Prog (TpuEff nD τ sig (Elt F) Λ₀ .tc) PUnit := do
  let o : Elt F .i32 ← smemLoad tabM (Rect.unit (s := S4x32) (lookOff w h pos) S1x1.size (inbLook pos hp w h hh)) numel1_S1x1 rfl
  have ho : rowIn o := (← Prog.lift (TpuEff.assume (rowIn o) (rowIn.dec o))).down
  let xv : Vec F S1x128x4096 .fp8e4m3 ← Prog.lift (.load commM (Rect.unit (s := S32x128x4096) ![s.val, 0, 0] S1x128x4096.size (inbSlot s)).toLoadRect (View.loadsAt_vmem h_S1x128x4096))
  let wv : Vec F S4096x64 .fp8e5m2 ← Prog.lift (.load wM (Rect.unit (s := S4096x64) ![0, 0] S4096x64.size inb_S4096x64_S4096x64_0_0).toLoadRect (View.loadsAt_vmem h_S4096x64))
  let _ : Vec F S128x64 .f32 ← Prog.lift (.load outM (Rect.unit (s := S4096x64) (rowOff o) S128x64.size ho).toLoadRect (View.loadsAt_vmem h_S128x64))
  Prog.lift (.store outM (Rect.unit (s := S4096x64) (rowOff o) S128x64.size ho) (k0_pay2 sc xv wv) Finset.univ (View.stores_vmem_bits_univ h_S128x64 rfl) (.inl rfl))

/-- Multiply the device's own block into its rows of the result. -/
def ownOp (d : Dev nD) (sc : Elt F .f32) : Prog (TpuEff nD τ sig (Elt F) Λ₀ .tc) PUnit := do
  let xv : Vec F S128x4096 .fp8e4m3 ← Prog.lift (.load xM (Rect.unit (s := S128x4096) ![0, 0] S128x4096.size inb_S128x4096_S128x4096_0_0).toLoadRect (View.loadsAt_vmem h_S128x4096))
  let wv : Vec F S4096x64 .fp8e5m2 ← Prog.lift (.load wM (Rect.unit (s := S4096x64) ![0, 0] S4096x64.size inb_S4096x64_S4096x64_0_0).toLoadRect (View.loadsAt_vmem h_S4096x64))
  let _ : Vec F S128x64 .f32 ← Prog.lift (.load outM (Rect.unit (s := S4096x64) (k0_off4 d) S128x64.size (k0_off4_inb d)).toLoadRect (View.loadsAt_vmem h_S128x64))
  Prog.lift (.store outM (Rect.unit (s := S4096x64) (k0_off4 d) S128x64.size (k0_off4_inb d)) (k0_pay1 sc xv wv) Finset.univ (View.stores_vmem_bits_univ h_S128x64 rfl) (.inl rfl))

/-! ## The program -/

/-- One operation after another over a list. -/
def each {α : Type} (f : α → Prog (TpuEff nD τ sig (Elt F) Λ₀ .tc) PUnit) : List α → Prog (TpuEff nD τ sig (Elt F) Λ₀ .tc) PUnit
  | [] => pure ⟨⟩
  | a :: l => f a >>= fun _ => each f l

/-- An operation at the transfers there are. -/
def onLive (w : Bool) (h : Nat) (r : Fin 4) (p : h < 16 → Prog (TpuEff nD τ sig (Elt F) Λ₀ .tc) PUnit) :
    Prog (TpuEff nD τ sig (Elt F) Λ₀ .tc) PUnit :=
  if hh : h < 16 then (bif live w h r then p hh else pure ⟨⟩) else pure ⟨⟩

abbrev segs4 : List (Fin 4) := [0, 1, 2, 3]
abbrev hops15 : List (Fin 15) := [0, 1, 2, 3, 4, 5, 6, 7, 8, 9, 10, 11, 12, 13, 14]
abbrev hops16 : List (Fin 16) := [0, 1, 2, 3, 4, 5, 6, 7, 8, 9, 10, 11, 12, 13, 14, 15]

/-- One segment of a round: what landed clockwise goes on clockwise, then the same the other way. -/
def stepOp (q : Bool → Dev nD) (h : Fin 16) (r : Fin 4) : Prog (TpuEff nD τ sig (Elt F) Λ₀ .tc) PUnit := do
  onLive true h.val r fun _ => recvOp true h r
  onLive true (h.val + 1) r fun hh => sendOp (q true) true ⟨h.val + 1, hh⟩ r
  onLive false h.val r fun _ => recvOp false h r
  onLive false (h.val + 1) r fun hh => sendOp (q false) false ⟨h.val + 1, hh⟩ r

/-- One round but the last: four segments, then the two blocks that are whole now. -/
def roundOp (q : Bool → Dev nD) (pos : BitVec 32) (hp : k0_chk3 pos) (sc : Elt F .f32) (h : Fin 15) :
    Prog (TpuEff nD τ sig (Elt F) Λ₀ .tc) PUnit := do
  each (stepOp q ⟨h.val, by omega⟩) segs4
  blockOp pos hp sc true h.val h.isLt (slot true ⟨h.val, by omega⟩)
  blockOp pos hp sc false h.val (Nat.lt_succ_of_lt h.isLt) (slot false ⟨h.val, by omega⟩)

/-- The waits for what one way sent. -/
def sentAll (w : Bool) (h : Fin 16) : Prog (TpuEff nD τ sig (Elt F) Λ₀ .tc) PUnit :=
  each (fun r => onLive w h.val r fun _ => sentOp w h r) segs4

/-- The body after the tables are read. -/
def ringOp (d : Dev nD) (q : Bool → Dev nD) (pos : BitVec 32) (hp : k0_chk3 pos) : Prog (TpuEff nD τ sig (Elt F) Λ₀ .tc) PUnit := do
  semSignalWord (q false) (sig.barrier 0 rfl) 1#32
  semSignalWord (q true) (sig.barrier 0 rfl) 1#32
  semWaitWord (sig.barrier 0 rfl) 2#32
  let sc : Elt F .f32 ← smemLoad scM (Rect.unit (s := S1) ![0] S1.size inb_S1_S1_0) numel1_S1 rfl
  each (fun r => sendOp (q true) true 0 r >>= fun _ => sendOp (q false) false 0 r) segs4
  ownOp d sc
  each (roundOp q pos hp sc) hops15
  each (stepOp q 15) segs4
  blockOp pos hp sc false 15 (Nat.lt_succ_self 15) 16
  each (sentAll true) hops16
  each (sentAll false) hops16

/-- The body. -/
def bodyOp : Prog (TpuEff nD τ sig (Elt F) Λ₀ .tc) PUnit := do
  let d : Dev nD ← Prog.lift .deviceId
  let pos : Elt F .i32 ← smemLoad tabM (Rect.unit (s := S4x32) (k0_off1 d) S1x1.size (k0_off1_inb d)) numel1_S1x1 rfl
  have hp : k0_chk3 pos := (← Prog.lift (TpuEff.assume (k0_chk3 pos) (k0_chk3.dec pos))).down
  let rt : Elt F .i32 ← smemLoad tabM (Rect.unit (s := S4x32) (k0_off2 d) S1x1.size (k0_off2_inb d)) numel1_S1x1 rfl
  have hr : k0_chk2 rt := (← Prog.lift (TpuEff.assume (k0_chk2 rt) (k0_chk2.dec rt))).down
  let lf : Elt F .i32 ← smemLoad tabM (Rect.unit (s := S4x32) (k0_off3 d) S1x1.size (k0_off3_inb d)) numel1_S1x1 rfl
  have hl : k0_chk1 lf := (← Prog.lift (TpuEff.assume (k0_chk1 lf) (k0_chk1.dec lf))).down
  ringOp d (fun w => bif w then ⟨k0_dev2 rt, k0_dev2_lt rt hr⟩ else ⟨k0_dev1 lf, k0_dev1_lt lf hl⟩) pos hp

end Cert.KernelIdeal.Ring

end
-- ==== Proof.KI.Tab.lean ====
/- The ring the tables describe: each device's place, its two neighbours, and whose block each landing slot holds. -/
module

public import proofs.«01_k».proof.Proof.KI.Prog

@[expose] public section

noncomputable section

namespace Cert.KernelIdeal.Ring

open Cert.KernelIdeal Cert.KernelIdeal.Gen
open Idealize.ShloMosaic Idealize.ShloMosaic.TcCoe

/-- Entry `t` of row `i` of the tables. -/
def tab (i : Fin 4) (t : Fin 32) : BitVec 32 := lit0 ⟨32 * i.val + t.val, by omega⟩

/-- The device at place `t` of the ring. -/
def permD (t : Fin 32) : Dev nD := ⟨(tab 0 t).toNat % 32, Nat.mod_lt _ (by decide)⟩
/-- A device's place. -/
def posN (c : Dev nD) : Nat := (tab 1 c).toNat
/-- The neighbour a device sends to, clockwise (`true`) or the other way. -/
def nb (w : Bool) (c : Dev nD) : Dev nD :=
  bif w then ⟨(tab 2 c).toNat % 32, Nat.mod_lt _ (by decide)⟩ else ⟨(tab 3 c).toNat % 32, Nat.mod_lt _ (by decide)⟩
/-- The device whose block slot `s` of device `c` is to hold (slot 0: its own, never landed). -/
def org (c : Dev nD) (s : Fin 32) : Dev nD :=
  permD ⟨(if s.val ≤ 16 then posN c + 32 - s.val else posN c + s.val - 16) % 32, Nat.mod_lt _ (by decide)⟩

theorem nb_nb : ∀ (w : Bool) (c : Dev nD), nb (!w) (nb w c) = c := by decide +kernel
theorem nb_nb' (w : Bool) (c : Dev nD) : nb w (nb (!w) c) = c := by simpa using nb_nb (!w) c

/-- The devices, each replaced by its neighbour. -/
def ringE (w : Bool) : Dev nD ≃ Dev nD := ⟨nb w, nb (!w), nb_nb w, nb_nb' w⟩

/-- What a device lands from its own block at a neighbour is named for it there, -/
theorem org_first : ∀ (w : Bool) (c : Dev nD), org (nb w c) (slot w 0) = c := by decide +kernel
/-- and what it passes on keeps its name. -/
theorem org_next : ∀ (w : Bool) (c : Dev nD) (h : Fin 15),
    org (nb w c) (slot w ⟨h.val + 1, by omega⟩) = org c (slot w ⟨h.val, by omega⟩) := by decide +kernel
/-- Every block but the device's own has a slot. -/
theorem org_all : ∀ (c o : Dev nD), o = c ∨ (∃ h : Fin 15, o = org c (slot true ⟨h.val, by omega⟩))
    ∨ (∃ h : Fin 15, o = org c (slot false ⟨h.val, by omega⟩)) ∨ o = org c 16 := by decide +kernel

/-! ## What the body reads of the tables -/

theorem chk3 : ∀ c : Dev nD, k0_chk3 (tab 1 c) := by decide +kernel
theorem chk2 : ∀ c : Dev nD, k0_chk2 (tab 2 c) := by decide +kernel
theorem chk1 : ∀ c : Dev nD, k0_chk1 (tab 3 c) := by decide +kernel
theorem dev2 : ∀ c : Dev nD, k0_dev2 (tab 2 c) = (nb true c).val := by decide +kernel
theorem dev1 : ∀ c : Dev nD, k0_dev1 (tab 3 c) = (nb false c).val := by decide +kernel

/-- Where the tables are looked up for the block in a slot, -/
theorem look_off : ∀ (w : Bool) (c : Dev nD) (h : Fin 16),
    lookOff w h.val (tab 1 c) = ![0, (if (bif w then h.val + 1 else h.val + 17) ≤ 16 then posN c + 32 - (bif w then h.val + 1 else h.val + 17) else posN c + (bif w then h.val + 1 else h.val + 17) - 16) % 32] := by
  decide +kernel

theorem rowIn_of : ∀ o : Dev nD, rowIn (BitVec.ofNat 32 o.val) := by decide +kernel
theorem rowOff_of : ∀ o : Dev nD, rowOff (BitVec.ofNat 32 o.val) = ![128 * o.val, 0] := by decide +kernel
theorem tab0_of : ∀ t : Fin 32, tab 0 t = BitVec.ofNat 32 (permD t).val := by decide +kernel

end Cert.KernelIdeal.Ring

end
-- ==== Proof.KI.Geo.lean ====
/- The pieces of the landing buffer, of the device's own block and of the result: which elements each is, and what reading
   one gives. -/
module

public import proofs.«01_k».proof.Proof.KI.Tab
public import Idealize.ShloMosaic.Lib.ValueLayout
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe Idealize.ShloMosaic.ValueIdx

variable {F : FTy → Type} [FloatOps F]

/-! ## The pieces' elements -/

/-- The elements of segment `r` of slot `s`, -/
def landS (s : Fin 32) (r : Fin 4) : Finset S32x128x4096.Idx := (land s r).view.set
/-- of segment `r` of the own block, -/
def segS (r : Fin 4) : Finset S128x4096.Idx := (seg r).view.set
/-- The rectangle of a whole slot. -/
abbrev slotRect (s : Fin 32) : Rect S32x128x4096 := Rect.unit (s := S32x128x4096) ![s.val, 0, 0] S1x128x4096.size (inbSlot s)
/-- of a whole slot. -/
def slotS (s : Fin 32) : Finset S32x128x4096.Idx := (commM.access (slotRect s)).set

/-- A segment is the elements of its slot whose row is one of its 32. -/
theorem mem_land (s : Fin 32) (r : Fin 4) (i : S32x128x4096.Idx) :
    i ∈ landS s r ↔ (i 0).val = s.val ∧ (i 1).val / 32 = r.val := by
  have h : landS s r = (Rect.unit (s := S32x128x4096) ![s.val, 32 * r.val, 0] S1x32x4096.size (inbLand s r)).set :=
    (View.set_reshape _ _).trans (View.set_slice_whole _ _)
  rw [h, Rect.mem_set_unit]
  have h2 : (i 2).val < 4096 := (i 2).isLt
  constructor
  · intro h
    have a := h 0
    have b := h 1
    have a' : s.val ≤ (i 0).val ∧ (i 0).val < s.val + 1 := a
    have b' : 32 * r.val ≤ (i 1).val ∧ (i 1).val < 32 * r.val + 32 := b
    omega
  · rintro ⟨h0, h1⟩ a
    match a with
    | 0 => show s.val ≤ (i 0).val ∧ (i 0).val < s.val + 1; omega
    | 1 => show 32 * r.val ≤ (i 1).val ∧ (i 1).val < 32 * r.val + 32; omega
    | 2 => show 0 ≤ (i 2).val ∧ (i 2).val < 0 + 4096; omega

/-- Where a segment's element lies in the buffer. -/
theorem land_emb (s : Fin 32) (r : Fin 4) (p : Fin 32) (k : Fin 4096) :
    (land s r).view.emb (ix2 p k) = (ix3 s (⟨32 * r.val + p.val, by omega⟩ : Fin 128) k : S32x128x4096.Idx) := by
  show (Rect.unit (s := S32x128x4096) ![s.val, 32 * r.val, 0] S1x32x4096.size (inbLand s r)).emb
      (Shape.reshapeEquiv squeezes_S1x32x4096_S32x4096.numel_eq (ix2 p k)) = _
  rw [show Shape.reshapeEquiv squeezes_S1x32x4096_S32x4096.numel_eq (ix2 p k) = ix3 (⟨0, Nat.one_pos⟩ : Fin 1) p k from
    reshapeEquiv_ix2_1ab _ p k]
  funext a
  apply Fin.ext
  rw [ValueKit.rect_emb_unit_val]
  match a with
  | 0 => show s.val + 0 = s.val; omega
  | 1 => rfl
  | 2 => show 0 + k.val = k.val; omega

theorem seg_emb (r : Fin 4) (p : Fin 32) (k : Fin 4096) :
    (seg r).view.emb (ix2 p k) = (ix2 (⟨32 * r.val + p.val, by omega⟩ : Fin 128) k : S128x4096.Idx) := by
  show (Rect.unit (s := S128x4096) ![32 * r.val, 0] S32x4096.size (inbSeg r)).emb (ix2 p k) = _
  funext a
  apply Fin.ext
  rw [ValueKit.rect_emb_unit_val]
  match a with
  | 0 => rfl
  | 1 => show 0 + k.val = k.val; omega

theorem mem_seg (r : Fin 4) (i : S128x4096.Idx) : i ∈ segS r ↔ (i 0).val / 32 = r.val := by
  have h : segS r = (Rect.unit (s := S128x4096) ![32 * r.val, 0] S32x4096.size (inbSeg r)).set :=
    View.set_slice_whole _ _
  rw [h, Rect.mem_set_unit]
  have h2 : (i 1).val < 4096 := (i 1).isLt
  constructor
  · intro h
    have b := h 0
    have b' : 32 * r.val ≤ (i 0).val ∧ (i 0).val < 32 * r.val + 32 := b
    omega
  · rintro h1 a
    match a with
    | 0 => show 32 * r.val ≤ (i 0).val ∧ (i 0).val < 32 * r.val + 32; omega
    | 1 => show 0 ≤ (i 1).val ∧ (i 1).val < 0 + 4096; omega

theorem mem_slot (s : Fin 32) (i : S32x128x4096.Idx) : i ∈ slotS s ↔ (i 0).val = s.val := by
  have h : slotS s = (slotRect s).set := View.set_slice_whole _ _
  rw [h, Rect.mem_set_unit]
  have h1 : (i 1).val < 128 := (i 1).isLt
  have h2 : (i 2).val < 4096 := (i 2).isLt
  constructor
  · intro h
    have a := h 0
    have a' : s.val ≤ (i 0).val ∧ (i 0).val < s.val + 1 := a
    omega
  · rintro h0 a
    match a with
    | 0 => show s.val ≤ (i 0).val ∧ (i 0).val < s.val + 1; omega
    | 1 => show 0 ≤ (i 1).val ∧ (i 1).val < 0 + 128; omega
    | 2 => show 0 ≤ (i 2).val ∧ (i 2).val < 0 + 4096; omega

theorem slot_emb (s : Fin 32) (z : Fin 1) (p : Fin 128) (k : Fin 4096) :
    (commM.access (slotRect s)).emb (ix3 z p k) = (ix3 s p k : S32x128x4096.Idx) := by
  show (slotRect s).emb (ix3 z p k) = _
  funext a
  apply Fin.ext
  rw [ValueKit.rect_emb_unit_val]
  match a with
  | 0 => show s.val + z.val = s.val; omega
  | 1 => show 0 + p.val = p.val; omega
  | 2 => show 0 + k.val = k.val; omega

theorem land_disj (s s' : Fin 32) (r r' : Fin 4) (h : (s, r) ≠ (s', r')) : Disjoint (landS s r) (landS s' r') := by
  rw [Finset.disjoint_left]
  intro i hi hi'
  rw [mem_land] at hi hi'
  exact h (Prod.ext (Fin.ext (by show s.val = s'.val; omega)) (Fin.ext (by show r.val = r'.val; omega)))

theorem seg_disj (r r' : Fin 4) (h : r ≠ r') : Disjoint (segS r) (segS r') := by
  rw [Finset.disjoint_left]
  intro i hi hi'
  rw [mem_seg] at hi hi'
  exact h (Fin.ext (by omega))

/-- A slot's four segments cover it, -/
theorem land_cover (s : Fin 32) : Finset.univ.biUnion (landS s) = slotS s := by
  ext i
  rw [Finset.mem_biUnion, mem_slot]
  have h1 : (i 1).val < 128 := (i 1).isLt
  constructor
  · rintro ⟨r, -, h⟩; exact ((mem_land s r i).1 h).1
  · intro h; exact ⟨⟨(i 1).val / 32, by omega⟩, Finset.mem_univ _, (mem_land _ _ _).2 ⟨h, rfl⟩⟩

/-- all slots' segments the landing buffer, -/
theorem land_univ : Finset.univ.biUnion (fun p : Fin 32 × Fin 4 => landS p.1 p.2) = Finset.univ := by
  ext i
  rw [Finset.mem_biUnion]
  have h0 : (i 0).val < 32 := (i 0).isLt
  have h1 : (i 1).val < 128 := (i 1).isLt
  exact ⟨fun _ => Finset.mem_univ _, fun _ => ⟨(⟨(i 0).val, h0⟩, ⟨(i 1).val / 32, by omega⟩), Finset.mem_univ _, (mem_land _ _ _).2 ⟨rfl, rfl⟩⟩⟩

/-- and the own block's segments the own block. -/
theorem seg_univ : Finset.univ.biUnion segS = Finset.univ := by
  ext i
  rw [Finset.mem_biUnion]
  have h1 : (i 0).val < 128 := (i 0).isLt
  exact ⟨fun _ => Finset.mem_univ _, fun _ => ⟨⟨(i 0).val / 32, by omega⟩, Finset.mem_univ _, (mem_seg _ _).2 rfl⟩⟩

/-! ## What the pieces hold -/

variable (X : Dev nD → S128x4096.Idx → Elt F .fp8e4m3)

/-- What device `c`'s landing buffer holds once everything has landed: in each slot the block of the slot's owner. -/
def G (c : Dev nD) : S32x128x4096.Idx → Elt F .fp8e4m3 := fun i => X (org c (i 0)) (ix2 (i 1) (i 2))

/-- What segment `r` of slot `s` reads, -/
def readL (s : Fin 32) (r : Fin 4) (f : S32x128x4096.Idx → Elt F .fp8e4m3) : S32x4096.Idx → Elt F .fp8e4m3 :=
  (land s r).view.read (Elt F) f
/-- and segment `r` of an own block. -/
def readS (r : Fin 4) (f : S128x4096.Idx → Elt F .fp8e4m3) : S32x4096.Idx → Elt F .fp8e4m3 :=
  (seg r).view.read (Elt F) f

theorem readL_apply (c : Dev nD) (s : Fin 32) (r : Fin 4) (p : Fin 32) (k : Fin 4096) :
    readL s r (G X c) (ix2 p k) = X (org c s) (ix2 (⟨32 * r.val + p.val, by omega⟩ : Fin 128) k) :=
  congrArg (G X c) (land_emb s r p k)

theorem readS_apply (f : S128x4096.Idx → Elt F .fp8e4m3) (r : Fin 4) (p : Fin 32) (k : Fin 4096) :
    readS r f (ix2 p k) = f (ix2 (⟨32 * r.val + p.val, by omega⟩ : Fin 128) k) :=
  congrArg f (seg_emb r p k)

/-- A block passed on reads as the block received, -/
theorem read_next (c c' : Dev nD) (s s' : Fin 32) (r : Fin 4) (h : org c' s' = org c s) :
    readL s r (G X c) = readL s' r (G X c') := by
  funext j
  rw [eq_ix2 j]
  exact (readL_apply X c s r _ _).trans ((congrArg (fun o => X o _) h.symm).trans (readL_apply X c' s' r _ _).symm)

/-- and a block first sent as the own block. -/
theorem read_first (c c' : Dev nD) (s' : Fin 32) (r : Fin 4) (h : org c' s' = c) :
    readS r (X c) = readL s' r (G X c') := by
  funext j
  rw [eq_ix2 j]
  exact (readS_apply (X c) r _ _).trans ((congrArg (fun o => X o _) h.symm).trans (readL_apply X c' s' r _ _).symm)

/-- Writing what a piece of `f` reads leaves the piece as it is in `f`. -/
theorem write_land (s : Fin 32) (r : Fin 4) (fd f : S32x128x4096.Idx → Elt F .fp8e4m3) :
    ∀ i ∈ landS s r, ((land s r).view.write (Elt F) fd (readL s r f) Finset.univ : S32x128x4096.Idx → Elt F .fp8e4m3) i = f i := by
  intro i hi
  obtain ⟨x, -, rfl⟩ := Finset.mem_map.mp hi
  exact View.write_emb_of_mem (v := (land s r).view) fd (readL s r f) (Finset.mem_univ x)

end Cert.KernelIdeal.Ring

end
-- ==== Proof.KI.Sched.lean ====
/- The protocol: what each semaphore's units stand for, what a device owes at the start and in what order it may wait. -/
module

public import proofs.«01_k».proof.Proof.KI.Geo
public import proofs.«01_k».proof.Proof.Gen.KernelIdeal.Frame
public import Idealize.ShloMosaic.Lib.Rounds
public import Idealize.ShloMosaic.Lib.Pipeline.Regions
public import Idealize.ShloMosaic.Lib.Pipeline.Kit
public import Idealize.ShloMosaic.Lib.Pipeline.RegionTalk
public import Idealize.ShloMosaic.Lib.StableHlo
public import Idealize.ShloMosaic.Lib.Tactic

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's and the ring's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-- A transfer: which way, which hop, which segment. -/
abbrev Job : Type := Bool × Fin 16 × Fin 4

abbrev barS : Sem sig := sig.barrier 0 rfl
abbrev sL (j : Job) : SemLoc sig := .dma (sSem j.1 j.2.1 j.2.2)
abbrev rL (j : Job) : SemLoc sig := .dma (rSem j.1 j.2.1 j.2.2)
abbrev barCell (c : Dev nD) : GSem nD τ sig := ((c : Thread nD τ), .reg barS)
abbrev sCell (c : Dev nD) (j : Job) : GSem nD τ sig := ((c : Thread nD τ), sL j)
abbrev rCell (c : Dev nD) (j : Job) : GSem nD τ sig := ((c : Thread nD τ), rL j)

/-- Whether a transfer is one there is. -/
abbrev liv (j : Job) : Bool := live j.1 j.2.1.val j.2.2

/-- The transfer a semaphore counts, and on which side (`true` the receiver's). -/
def jobOf (s : DmaSem sig) : Option (Bool × Job) :=
  if 5 ≤ s.val then
    some (Nat.beq ((s.val - 5) / 64 % 2) 1, Nat.blt ((s.val - 5) / 64) 2,
      ⟨(s.val - 5) % 64 / 4, by omega⟩, ⟨(s.val - 5) % 4, by omega⟩)
  else none

theorem jobOf_s : ∀ w h r, jobOf (sSem w h r) = some (false, w, h, r) := by decide +kernel
theorem jobOf_r : ∀ w h r, jobOf (rSem w h r) = some (true, w, h, r) := by decide +kernel

/-- A segment's bytes in a semaphore's units. -/
abbrev N : ℕ := (land 1 0).view.dmaCredit
theorem N_pos : 0 < N := View.dmaCredit_pos _ (by decide)
theorem land_credit (s : Fin 32) (r : Fin 4) : (land s r).view.dmaCredit = N := rfl
theorem seg_credit (r : Fin 4) : (seg r).view.dmaCredit = N := rfl
theorem src_credit (w : Bool) (h : Fin 16) (r : Fin 4) : (srcN w h r).view.dmaCredit = N := by
  unfold srcN
  cases (h.val == 0)
  · exact land_credit _ _
  · exact seg_credit _

/-! ## Points-tos -/

abbrev commL (c : Dev nD) : Loc nD τ sig := (c : Thread nD τ).loc cc0_scratch0
abbrev xL (c : Dev nD) : Loc nD τ sig := (c : Thread nD τ).loc cc0_stg0_0

/-- Segment `r` of slot `s` of device `c`, holding its part of `f`. -/
def landPts (c : Dev nD) (s : Fin 32) (r : Fin 4) (q : PosShare TreeShare) (f : S32x128x4096.Idx → Elt F .fp8e4m3) : sProp 𝕄 :=
  commL c ↦[landS s r]{q} f
/-- Segment `r` of device `c`'s own block. -/
def segPts (c : Dev nD) (r : Fin 4) (q : PosShare TreeShare) (f : S128x4096.Idx → Elt F .fp8e4m3) : sProp 𝕄 :=
  xL c ↦[segS r]{q} f

/-- The half of the own block's left half that one way sends. -/
def wayShare (w : Bool) : PosShare TreeShare := bif w then fullShare.left.left else fullShare.left.right

variable (X : Dev nD → S128x4096.Idx → Elt F .fp8e4m3)

/-- What a receiver's semaphore hands over: the segment, holding the block meant for it. -/
def recvPay (c : Dev nD) (j : Job) : sProp 𝕄 := landPts c (slot j.1 j.2.1) j.2.2 fullShare (G X c)
/-- What a sender's hands back: its share of the source. -/
def sendPay (c : Dev nD) (j : Job) : sProp 𝕄 :=
  if j.2.1.val = 0 then segPts c j.2.2 (wayShare j.1) (X c)
  else landPts c (slot j.1 ⟨j.2.1.val - 1, by omega⟩) j.2.2 fullShare.left (G X c)
/-- What device `c` lets its neighbour write: the landing segments of one way, each with its semaphore ready. -/
def giveSeg (c : Dev nD) (j : Job) : sProp 𝕄 :=
  iprop((∃ f, landPts c (slot j.1 j.2.1) j.2.2 fullShare f) ∗ reached ER (rCell c j) 0)
def give (c : Dev nD) (w : Bool) : sProp (MT nD τ sig Unit (Elt F) ℕ UU ℕ) :=
  bigSep Finset.univ fun h : Fin 16 => bigSep Finset.univ fun r : Fin 4 =>
    bif live w h.val r then giveSeg c (w, h, r) else iprop(emp)
/-- A barrier's unit `w` is the neighbour's, to whom device `c` sends way `w`. -/
def barPay (c : Dev nD) (w : Bool) : sProp (MT nD τ sig Unit (Elt F) ℕ UU ℕ) := give (nb w c) w

/-! ## The schedule -/

/-- The payments a semaphore expects. -/
def dutiesOf : SemLoc sig → Finset Bool
  | .reg s => if s = barS then Finset.univ else ∅
  | .dma s => match jobOf s with
    | some (_, j) => if liv j = true then {true} else ∅
    | none => ∅

def payOf (c : Dev nD) (d : Bool) : SemLoc sig → sProp (MT nD τ sig Unit (Elt F) ℕ UU ℕ)
  | .reg _ => barPay c d
  | .dma s => match jobOf s with
    | some (true, j) => recvPay X c j
    | some (false, j) => sendPay X c j
    | none => iprop(emp)

def ringRd : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := payOf X g.1.1 d g.2
  amount_pos g _ _ _ := by
    cases g.2
    · exact Nat.one_pos
    · exact N_pos

instance landPts_storable (c : Dev nD) (s r q f) : BI.Storable (upEmb : UEmb _ 𝕄) (landPts (F := F) c s r q f) := by
  unfold landPts; infer_instance
instance segPts_storable (c : Dev nD) (r q f) : BI.Storable (upEmb : UEmb _ 𝕄) (segPts (F := F) c r q f) := by
  unfold segPts; infer_instance
instance give_storable (c : Dev nD) (w : Bool) : BI.Storable (upEmb : UEmb _ 𝕄) (give (F := F) c w) := by
  unfold give
  have : ∀ (h : Fin 16) (r : Fin 4), BI.Storable (upEmb : UEmb _ 𝕄) (bif live w h.val r then giveSeg (F := F) c (w, h, r) else iprop(emp)) := by
    intro h r
    cases live w h.val r
    · show BI.Storable upEmb (iprop(emp) : sProp 𝕄); infer_instance
    · show BI.Storable upEmb (giveSeg (F := F) c (w, h, r)); unfold giveSeg; infer_instance
  infer_instance

instance ringRd_payload_storable (g : GSem nD τ sig) (r : ℕ) (d : Bool) :
    BI.Storable (upEmb : UEmb _ 𝕄) ((ringRd (F := F) X).payload g r d) := by
  show BI.Storable upEmb (payOf X g.1.1 d g.2)
  unfold payOf recvPay sendPay barPay
  (repeat' split) <;> infer_instance

section Sched

variable (c : Dev nD) (j : Job)

theorem duties_bar : (ringRd (F := F) X).duties (barCell c) 0 = Finset.univ := by
  dsimp only [ringRd]; rw [if_pos ⟨rfl, rfl⟩]; unfold dutiesOf; exact if_pos rfl
theorem dutiesOf_s : dutiesOf (sL j) = if liv j = true then {true} else ∅ := by
  unfold dutiesOf; simp only [jobOf_s]
theorem dutiesOf_r : dutiesOf (rL j) = if liv j = true then {true} else ∅ := by
  unfold dutiesOf; simp only [jobOf_r]
theorem duties_s (hj : liv j = true) : (ringRd (F := F) X).duties (sCell c j) 0 = {true} := by
  dsimp only [ringRd]; rw [if_pos ⟨rfl, rfl⟩, dutiesOf_s, if_pos hj]
theorem duties_r (hj : liv j = true) : (ringRd (F := F) X).duties (rCell c j) 0 = {true} := by
  dsimp only [ringRd]; rw [if_pos ⟨rfl, rfl⟩, dutiesOf_r, if_pos hj]
theorem duties_later (g : GSem nD τ sig) : ∀ r, 1 ≤ r → (ringRd (F := F) X).duties g r = ∅ :=
  fun r hr => by dsimp only [ringRd]; rw [if_neg (fun h => by omega)]

theorem amount_bar (d : Bool) : (ringRd (F := F) X).amount (barCell c) 0 d = 1 := rfl
theorem amount_s (d : Bool) : (ringRd (F := F) X).amount (sCell c j) 0 d = N := rfl
theorem amount_r (d : Bool) : (ringRd (F := F) X).amount (rCell c j) 0 d = N := rfl

theorem expect_bar : (ringRd (F := F) X).expect (barCell c) 0 = 2 := by
  unfold Schedule.expect Schedule.amountOf; rw [duties_bar]; rfl
theorem expect_s (hj : liv j = true) : (ringRd (F := F) X).expect (sCell c j) 0 = N := by
  unfold Schedule.expect Schedule.amountOf; rw [duties_s X c j hj, Finset.sum_singleton, amount_s]
theorem expect_r (hj : liv j = true) : (ringRd (F := F) X).expect (rCell c j) 0 = N := by
  unfold Schedule.expect Schedule.amountOf; rw [duties_r X c j hj, Finset.sum_singleton, amount_r]

theorem payload_bar (d : Bool) : (ringRd (F := F) X).payload (barCell c) 0 d = barPay c d := rfl
theorem payload_s (d : Bool) : (ringRd (F := F) X).payload (sCell c j) 0 d = sendPay X c j := by
  show payOf X c d (sL j) = _
  unfold payOf; simp only [jobOf_s]
theorem payload_r (d : Bool) : (ringRd (F := F) X).payload (rCell c j) 0 d = recvPay X c j := by
  show payOf X c d (rL j) = _
  unfold payOf; simp only [jobOf_r]

theorem rest_bar : bigSep ((ringRd (F := F) X).duties (barCell c) 0 \ ∅) (fun d => (ringRd (F := F) X).payload (barCell c) 0 d)
    = iprop(barPay c false ∗ barPay c true) := by
  rw [Finset.sdiff_empty, duties_bar]
  exact bigSep_univ_eq_bigSepL [false, true] (by decide) (by decide) _
theorem rest_s (hj : liv j = true) :
    bigSep ((ringRd (F := F) X).duties (sCell c j) 0 \ ∅) (fun d => (ringRd (F := F) X).payload (sCell c j) 0 d) = sendPay X c j := by
  rw [Finset.sdiff_empty, duties_s X c j hj, bigSep_singleton, payload_s]
theorem rest_r (hj : liv j = true) :
    bigSep ((ringRd (F := F) X).duties (rCell c j) 0 \ ∅) (fun d => (ringRd (F := F) X).payload (rCell c j) 0 d) = recvPay X c j := by
  rw [Finset.sdiff_empty, duties_r X c j hj, bigSep_singleton, payload_r]

end Sched

/-! ## What a device owes; the levels -/

/-- What a device owes for one transfer, where there is one. -/
def gO (c : Dev nD) (w : Bool) (h : Nat) (r : Fin 4) : CellTallies nD τ sig Unit :=
  if hh : h < 16 then (bif live w h r then tallyAt (rCell (nb w c) (w, ⟨h, hh⟩, r)) () N else 0) else 0
/-- For a segment both ways, -/
def segO (c : Dev nD) (h : Nat) (r : Fin 4) : CellTallies nD τ sig Unit := gO c true h r + gO c false h r
/-- for some segments of a hop, -/
def segsO (c : Dev nD) (h : Nat) (l : List (Fin 4)) : CellTallies nD τ sig Unit := (l.map (segO c h)).sum
/-- for what the rounds `l` send. -/
def roundsO (c : Dev nD) (l : List (Fin 15)) : CellTallies nD τ sig Unit := (l.map fun h => segsO c (h.val + 1) segs4).sum
/-- For all its transfers. -/
def sendsO (c : Dev nD) : CellTallies nD τ sig Unit := roundsO c hops15 + segsO c 0 segs4
/-- At the start a unit of each neighbour's barrier too. -/
def O₀ (c : Dev nD) : CellTallies nD τ sig Unit :=
  sendsO c + tallyAt (barCell (nb true c)) () 1 + tallyAt (barCell (nb false c)) () 1

def L (g : GSem nD τ sig) : Finset Unit := if g.1.2 = .tc then {()} else ∅
/-- The barrier first, then a receiver's semaphores by hop. -/
def lvOf : SemLoc sig → ℕ
  | .reg s => if s = barS then 1 else 0
  | .dma s => match jobOf s with
    | some (true, j) => 2 + j.2.1.val
    | _ => 0
def lv (g : GSem nD τ sig) (_ : Unit) : ℕ := lvOf g.2

theorem lv_bar : lvOf (.reg barS) = 1 := by unfold lvOf; exact if_pos rfl
theorem lv_r (j : Job) : lvOf (rL j) = 2 + j.2.1.val := by unfold lvOf; simp only [jobOf_r]

theorem L_of_ne (g : GSem nD τ sig) (h : g.1.2 ≠ .tc) : L g = ∅ := if_neg h
theorem L_tc (c : Dev nD) (sm : SemLoc sig) : L ((c : Thread nD τ), sm) = {()} := if_pos rfl

/-- All that is owed lies above a level. -/
def Above (n : ℕ) (O : CellTallies nD τ sig Unit) : Prop := ∀ g u, 0 < O g u → g.1.2 = .tc ∧ n < lvOf g.2

theorem above_zero (n : ℕ) : Above n 0 := fun g u h => absurd h (Nat.lt_irrefl 0)
theorem above_add {n : ℕ} {O O' : CellTallies nD τ sig Unit} (h : Above n O) (h' : Above n O') : Above n (O + O') := by
  intro g u hg
  have : 0 < O g u + O' g u := hg
  rcases Nat.eq_zero_or_pos (O g u) with h0 | h0
  · exact h' g u (by omega)
  · exact h g u h0
theorem above_sum {n : ℕ} {l : List (CellTallies nD τ sig Unit)} (h : ∀ O ∈ l, Above n O) : Above n l.sum := by
  induction l with
  | nil => exact above_zero n
  | cons O l ih =>
    rw [List.sum_cons]
    exact above_add (h O (List.mem_cons_self ..)) (ih fun O' h' => h O' (List.mem_cons_of_mem _ h'))
theorem above_gO {n : ℕ} (c : Dev nD) (w : Bool) (h : Nat) (r : Fin 4) (hn : n < 2 + h) : Above n (gO c w h r) := by
  unfold gO
  split
  · cases live w h r
    · exact above_zero n
    · intro g u hg
      simp only [cond_true, tallyAt_apply] at hg
      split at hg
      · rename_i hh e
        rw [e.1]
        exact ⟨rfl, by rw [lv_r]; exact hn⟩
      · exact absurd hg (Nat.lt_irrefl 0)
  · exact above_zero n
theorem above_segO {n : ℕ} (c : Dev nD) (h : Nat) (r : Fin 4) (hn : n < 2 + h) : Above n (segO c h r) :=
  above_add (above_gO c true h r hn) (above_gO c false h r hn)
theorem above_segsO {n : ℕ} (c : Dev nD) (h : Nat) (l : List (Fin 4)) (hn : n < 2 + h) : Above n (segsO c h l) :=
  above_sum fun O hO => by obtain ⟨r, -, rfl⟩ := List.mem_map.mp hO; exact above_segO c h r hn
theorem above_roundsO {n : ℕ} (c : Dev nD) (l : List (Fin 15)) (hn : ∀ h ∈ l, n < 2 + (h.val + 1)) : Above n (roundsO c l) :=
  above_sum fun O hO => by obtain ⟨h, hh, rfl⟩ := List.mem_map.mp hO; exact above_segsO c _ _ (hn h hh)

/-- A device may wait on a cell below all it owes. -/
theorem mayWait (c : Dev nD) (sm : SemLoc sig) (O : CellTallies nD τ sig Unit) (h : Above (lvOf sm) O) :
    (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

end Cert.KernelIdeal.Ring

end
-- ==== Proof.KI.Ops.lean ====
/- What each operation of the body needs and gives: sending a segment, waiting for one to land, waiting for one to have
   left; and how such specifications join along a program. -/
module

public import proofs.«01_k».proof.Proof.KI.Sched

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Specifications -/

/-- From `P`, device `c` runs `p` to `Q`. -/
def Spec (c : Dev nD) (p : Prog (TpuEff nD τ sig (Elt F) Λ₀ .tc) PUnit.{1}) (P Q : sProp 𝕄) : Prop :=
  ∀ Kt : PUnit → sProp 𝕄, iprop(P ∗ (Q -∗ Kt ⟨⟩)) ⊢ wp frame (wpE (defs₀ (F := F)) 𝒱₀ (c : Thread nD τ) none) Set.univ p Kt

section Spec

variable {c : Dev nD} {p q : Prog (TpuEff nD τ sig (Elt F) Λ₀ .tc) PUnit.{1}}

theorem spec_seq {P Q R : sProp 𝕄} (h : Spec c p P Q) (h' : Spec c q Q R) : Spec c (p >>= fun _ => q) P R := by
  intro Kt
  rw [wp_bind_eq]
  iintro ⟨HP, Hk⟩
  iapply (h fun _ => wp frame (wpE (defs₀ (F := F)) 𝒱₀ (c : Thread nD τ) none) Set.univ q Kt)
  isplitl [HP]; · iexact HP
  iintro HQ
  iapply (h' Kt)
  isplitl [HQ]; · iexact HQ
  iexact Hk

theorem spec_conseq {P Q P' Q' : sProp 𝕄} (h : Spec c p P Q) (hP : P' ⊢ P) (hQ : Q ⊢ Q') : Spec c p P' Q' := by
  intro Kt
  iintro ⟨HP, Hk⟩
  iapply (h Kt)
  isplitl [HP]; · iapply hP; iexact HP
  iintro HQ
  iapply Hk
  iapply hQ; iexact HQ

theorem spec_frame {P Q : sProp 𝕄} (R : sProp 𝕄) (h : Spec c p P Q) : Spec c p iprop(P ∗ R) iprop(Q ∗ R) := by
  intro Kt
  iintro ⟨⟨HP, HR⟩, Hk⟩
  iapply (h Kt)
  isplitl [HP]; · iexact HP
  iintro HQ
  iapply Hk
  isplitl [HQ]; · iexact HQ
  iexact HR

theorem spec_pure {P : sProp 𝕄} : Spec c (pure ⟨⟩) P P := by
  intro Kt
  show _ ⊢ wp frame (wpE (defs₀ (F := F)) 𝒱₀ (c : Thread nD τ) none) Set.univ (.ret ⟨⟩) Kt
  rw [wp_ret]
  iintro ⟨HP, Hk⟩
  imodintro
  iapply Hk; iexact HP

theorem listed_cons {α : Type} (a : α) (l : List α) (A : α → sProp 𝕄) : (bigSepL (a :: l) A : sProp 𝕄) = iprop(A a ∗ bigSepL l A) :=
  bigSepL_cons a l A

/-- One operation after another: what is common goes down the list, what each needs becomes what each gives. -/
theorem spec_each {α : Type} {f : α → Prog (TpuEff nD τ sig (Elt F) Λ₀ .tc) PUnit.{1}} (T : α → α → Prop) (I : List α → sProp 𝕄) (A B : α → sProp 𝕄)
    (h : ∀ a l, (∀ b ∈ l, T a b) → Spec c (f a) iprop(I (a :: l) ∗ A a) iprop(I l ∗ B a)) :
    ∀ l : List α, l.Pairwise T → Spec c (each f l) iprop(I l ∗ bigSepL l A) iprop(I [] ∗ bigSepL l B) := by
  intro l
  induction l with
  | nil => exact fun _ => spec_pure
  | cons a l ih =>
    intro hl
    rw [List.pairwise_cons] at hl
    refine spec_seq (spec_conseq (spec_frame (bigSepL l A) (h a l hl.1)) ?_ ?_ (Q' := iprop((I l ∗ bigSepL l A) ∗ B a)))
      (spec_conseq (spec_frame (B a) (ih hl.2)) .rfl ?_)
    · rw [listed_cons]
      iintro ⟨HI, HA, Hl⟩
      isplitr [Hl]
      · isplitl [HI] <;> iassumption
      · iexact Hl
    · iintro ⟨⟨HI, HB⟩, Hl⟩
      isplitr [HB]
      · isplitl [HI] <;> iassumption
      · iexact HB
    · rw [listed_cons]
      iintro ⟨⟨HI, Hl⟩, HB⟩
      isplitl [HI]; · iexact HI
      isplitl [HB] <;> iassumption

/-- The same over all of a finite type, listed. -/
theorem spec_all {α : Type} [Fintype α] [DecidableEq α] {f : α → Prog (TpuEff nD τ sig (Elt F) Λ₀ .tc) PUnit.{1}} (T : α → α → Prop) (I : List α → sProp 𝕄) (A B : α → sProp 𝕄)
    (h : ∀ a l, (∀ b ∈ l, T a b) → Spec c (f a) iprop(I (a :: l) ∗ A a) iprop(I l ∗ B a))
    (l : List α) (hl : l.Pairwise T) (hn : l.Nodup) (hu : (Finset.univ : Finset α) = l.toFinset) :
    Spec c (each f l) iprop(I l ∗ bigSep Finset.univ A) iprop(I [] ∗ bigSep Finset.univ B) := by
  rw [bigSep_eq_bigSepL_of_eq l hu hn A, bigSep_eq_bigSepL_of_eq l hu hn B]
  exact spec_each T I A B h l hl

end Spec

/-! ## The context -/

theorem pick {α : Type} [DecidableEq α] {s : Finset α} {i : α} (h : i ∈ s) {Φ : α → sProp 𝕄} : (bigSep s Φ : sProp 𝕄) ⊢ Φ i := bigSep_elim h

variable (X : Dev nD → S128x4096.Idx → Elt F .fp8e4m3)

/-- The semaphores of one device, each in its protocol. -/
def devInvs (K : GSem nD τ sig → ℕ) (c : Dev nD) : sProp 𝕄 :=
  iprop(cellInv ER (ringRd X) (K (barCell c)) (barCell c)
    ∗ bigSep Finset.univ fun j : Job => if liv j = true then
        iprop(cellInv ER (ringRd X) (K (sCell c j)) (sCell c j) ∗ cellInv ER (ringRd X) (K (rCell c j)) (rCell c j)) else iprop(emp))

instance devInvs_persistent (K : GSem nD τ sig → ℕ) (c : Dev nD) : BI.Persistent (devInvs X K c) := by
  unfold devInvs
  have : ∀ j : Job, BI.Persistent (if liv j = true then
        iprop(cellInv ER (ringRd X) (K (sCell c j)) (sCell c j) ∗ cellInv ER (ringRd X) (K (rCell c j)) (rCell c j)) else (iprop(emp) : sProp 𝕄)) := by
    intro j; split <;> infer_instance
  infer_instance

/-- Every device's. -/
def invs (K : GSem nD τ sig → ℕ) : sProp 𝕄 := bigSep Finset.univ fun c : Dev nD => devInvs X K c
instance invs_persistent (K : GSem nD τ sig → ℕ) : BI.Persistent (invs X K) := by unfold invs; infer_instance

/-- What holds throughout: the protocols and the levels. -/
def Ctx (K : GSem nD τ sig → ℕ) : sProp 𝕄 := iprop(invs X K ∗ levAts L lv)
instance Ctx_persistent (K : GSem nD τ sig → ℕ) : BI.Persistent (Ctx X K) := by unfold Ctx; infer_instance

variable (K : GSem nD τ sig → ℕ) (c : Dev nD)

theorem invs_dev : invs X K ⊢ devInvs X K c := bigSep_elim (Finset.mem_univ c)
theorem inv_bar : invs X K ⊢ (cellInv ER (ringRd X) (K (barCell c)) (barCell c) : sProp 𝕄) :=
  (invs_dev X K c).trans (by unfold devInvs; iintro ⟨H, -⟩; iexact H)
theorem inv_job (j : Job) (hj : liv j = true) : invs X K
    ⊢ iprop(cellInv ER (ringRd X) (K (sCell c j)) (sCell c j) ∗ cellInv ER (ringRd X) (K (rCell c j)) (rCell c j)) := by
  have h := pick (F := F) (Finset.mem_univ j) (Φ := fun j : Job => if liv j = true then
    iprop(cellInv ER (ringRd X) (K (sCell c j)) (sCell c j) ∗ cellInv ER (ringRd X) (K (rCell c j)) (rCell c j)) else iprop(emp))
  rw [if_pos hj] at h
  refine (invs_dev X K c).trans ?_
  unfold devInvs
  iintro ⟨-, H⟩
  iapply h
  iexact H

/-- A device owing `O`, whatever it has waited on. -/
def OW (c : Dev nD) (O : CellTallies nD τ sig Unit) : sProp 𝕄 := iprop(∃ W, owes (c : Thread nD τ) O W)

/-- What waiting for a landing needs. -/
def RK (c : Dev nD) (j : Job) : sProp 𝕄 := iprop(atPos ER (rCell c j) 0 ∅ 0 ∗ cred (tallyAt (rCell c j) () N))
/-- What sending needs beside the source. -/
def SK (c : Dev nD) (j : Job) : sProp 𝕄 :=
  iprop(dutyTok ER (sCell c j) 0 true ∗ dutyTok ER (rCell (nb j.1 c) j) 0 true ∗ reached ER (sCell c j) 0 ∗ giveSeg (nb j.1 c) j)
/-- What waiting for a transfer to have left needs: the place, and the credit the send gave. -/
def WK (c : Dev nD) (j : Job) : sProp 𝕄 := atPos ER (sCell c j) 0 ∅ 0
def Sent (c : Dev nD) (j : Job) : sProp 𝕄 := cred (tallyAt (sCell c j) () N)

theorem close (κ : ℕ) (g : GSem nD τ sig) :
    iprop(cellInv ER (ringRd X) κ g ∗ atPos ER g (0 + 1) ∅ 0) ⊢ (|={Set.univ}=> semVal g 0 : sProp 𝕄) :=
  Rounds.cell_close ER (ringRd X) (Set.mem_univ κ) id (duties_later X g)

/-! ## The three operations -/

theorem recv_spec (w : Bool) (h : Fin 16) (r : Fin 4) (hj : live w h.val r = true) (O : CellTallies nD τ sig Unit) (hO : Above (2 + h.val) O) :
    Spec c (recvOp w h r) iprop(Ctx X K ∗ OW c O ∗ RK c (w, h, r))
      iprop(OW c O ∗ semVal (rCell c (w, h, r)) 0 ∗ recvPay X c (w, h, r)) := by
  intro Kt
  unfold recvOp Ctx OW RK
  show _ ⊢ wp frame _ _ (Prog.op _ Prog.ret) _
  iintro ⟨⟨⟨#HI, #Hlev⟩, ⟨%W, HO⟩, Hat, Hc⟩, Hk⟩
  ihave HIj := (inv_job X K c (w, h, r) hj) $$ HI
  icases HIj with ⟨-, #HIr⟩
  iapply (Rounds.wp_wait_rest_token 𝒱₀ ER (ringRd X) (c : Thread nD τ) none (κ := K (rCell c (w, h, r)))
      (wpE_waitDma2_eq (src := srcN w h r) (dst := land (slot w h) r) (hsrc := srcN_words w h r) (hdst := land_words _ r) 𝒱₀ (c : Thread nD τ) none Set.univ) (Set.mem_univ _) () (O := O) (W := W) (R := 0) (m := 0) (T := ∅)
      ((Nat.zero_add _).trans (expect_r X c (w, h, r) hj).symm)) $$ [Hc HO Hat]
  · isplitr; · iexact HIr
    isplitl [Hc]; · iexact Hc
    isplitl [HO]; · iexact HO
    isplitr; · iapply (mayWait c (rL (w, h, r)) O (by rw [lv_r]; exact hO)); iexact Hlev
    iexact Hat
  iintro ⟨HO, Hat, -, Hpay⟩
  ihave Hp := (Entails.of_eq (rest_r X c (w, h, r) hj)) $$ Hpay
  rw [wp_ret]
  imod (close X (K (rCell c (w, h, r))) (rCell c (w, h, r))) $$ [Hat] with H0
  · isplitr; · iexact HIr
    iexact Hat
  imodintro
  iapply Hk
  isplitl [HO]; · iexists _; iexact HO
  isplitl [H0]; · iexact H0
  iexact Hp

theorem sent_spec (w : Bool) (h : Fin 16) (r : Fin 4) (hj : live w h.val r = true) :
    Spec c (sentOp w h r) iprop(Ctx X K ∗ OW c 0 ∗ WK c (w, h, r) ∗ Sent c (w, h, r))
      iprop(OW c 0 ∗ semVal (sCell c (w, h, r)) 0 ∗ sendPay X c (w, h, r)) := by
  intro Kt
  unfold sentOp Ctx OW WK Sent
  show _ ⊢ wp frame _ _ (Prog.op _ Prog.ret) _
  iintro ⟨⟨⟨#HI, #Hlev⟩, ⟨%W, HO⟩, Hat, Hc⟩, Hk⟩
  ihave HIj := (inv_job X K c (w, h, r) hj) $$ HI
  icases HIj with ⟨#HIs, -⟩
  iapply (Rounds.wp_wait_rest_token 𝒱₀ ER (ringRd X) (c : Thread nD τ) none (κ := K (sCell c (w, h, r)))
      (wpE_waitDma2_eq (src := land (slot w h) r) (dst := srcN w h r) (hsrc := land_words _ r) (hdst := srcN_words w h r) 𝒱₀ (c : Thread nD τ) none Set.univ) (Set.mem_univ _) () (O := 0) (W := W) (R := 0) (m := 0) (T := ∅)
      ((Nat.zero_add _).trans ((src_credit w h r).trans (expect_s X c (w, h, r) hj).symm))) $$ [Hc HO Hat]
  · isplitr; · iexact HIs
    isplitl [Hc]; · rw [src_credit]; iexact Hc
    isplitl [HO]; · iexact HO
    isplitr; · rw [MayWait_zero]; iempintro
    iexact Hat
  iintro ⟨HO, Hat, -, Hpay⟩
  ihave Hp := (Entails.of_eq (rest_s X c (w, h, r) hj)) $$ Hpay
  rw [wp_ret]
  imod (close X (K (sCell c (w, h, r))) (sCell c (w, h, r))) $$ [Hat] with H0
  · isplitr; · iexact HIs
    iexact Hat
  imodintro
  iapply Hk
  isplitl [HO]; · iexists _; iexact HO
  isplitl [H0]; · iexact H0
  iexact Hp

theorem send_core (w : Bool) (h : Fin 16) (r : Fin 4) (hj : live w h.val r = true) (O : CellTallies nD τ sig Unit)
    (src : Memref sig .tc .vmem S32x4096 .fp8e4m3) (hsrc : src.view.WordExact) (q : PosShare TreeShare)
    (fs : Buf (Elt F) (src.view.loc (c : Thread nD τ)))
    (hpay : (src.view.loc (c : Thread nD τ) ↦[src.view.set]{q} fs : sProp 𝕄) = sendPay X c (w, h, r))
    (hread : src.view.read (Elt F) fs = readL (slot w h) r (G X (nb w c))) (hsem) :
    Spec c (Prog.lift (.enqueueDma src (.remote (Dev.tc (nb w c)) (land (slot w h) r) (.dma (sSem w h r))) (.dma (rSem w h r)) hsrc (land_words _ r) hsem))
      iprop(Ctx X K ∗ OW c (O + gO c w h.val r) ∗ SK c (w, h, r) ∗ sendPay X c (w, h, r))
      iprop(OW c O ∗ Sent c (w, h, r)) := by
  intro Kt
  have hg : gO c w h.val r = tallyAt (rCell (nb w c) (w, h, r)) () N := by
    unfold gO; rw [dif_pos h.isLt, hj]; rfl
  rw [hg, ← hpay]
  unfold Ctx OW SK giveSeg landPts Sent
  show _ ⊢ wp frame _ _ (Prog.op _ Prog.ret) _
  iintro ⟨⟨⟨#HI, -⟩, ⟨%W, HO⟩, ⟨Ht, Ht', #Hr, ⟨%fd, Hd⟩, #Hr'⟩, Hs⟩, Hk⟩
  ihave HIj := (inv_job X K c (w, h, r) hj) $$ HI
  icases HIj with ⟨#HIs, -⟩
  ihave HIk := (inv_job X K (nb w c) (w, h, r) hj) $$ HI
  icases HIk with ⟨-, #HIr⟩
  iapply (Rounds.wp_send_pointsTo 𝒱₀ ER (ringRd X) (c : Thread nD τ) none (c' := (nb w c : Thread nD τ)) (src := src) (dst := land (slot w h) r)
      (sS := .dma (sSem w h r)) (sem := .dma (rSem w h r)) (q := q) (fs := fs) (κ₁ := K (sCell c (w, h, r))) (κ₂ := K (rCell (nb w c) (w, h, r)))
      (r₁ := 0) (r₂ := 0) (d₁ := true) (d₂ := true) (fd := fd)
      (by rw [duties_s X c (w, h, r) hj]; exact Finset.mem_singleton_self _)
      (by rw [duties_r X (nb w c) (w, h, r) hj]; exact Finset.mem_singleton_self _)
      () () N rfl (amount_s X c (w, h, r) true) (amount_r X (nb w c) (w, h, r) true) O rfl (W := W)
      (Entails.of_eq (hpay.trans (payload_s X c (w, h, r) true).symm))
      (by
        rw [hread]
        exact Entails.of_eq ((pointsTo_congr (write_land (slot w h) r fd (G X (nb w c)))).trans (payload_r X (nb w c) (w, h, r) true).symm))) $$ [Hs Hd HO Ht Ht']
  · isplitr; · iexact HIs
    isplitr; · iexact HIr
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨HcS, HO⟩
  rw [wp_ret]
  imodintro
  iapply Hk
  isplitl [HO]; · iexists _; iexact HO
  iexact HcS

theorem send_spec (w : Bool) (h : Fin 16) (r : Fin 4) (hj : live w h.val r = true) (O : CellTallies nD τ sig Unit) :
    Spec c (sendOp (nb w c) w h r)
      iprop(Ctx X K ∗ OW c (O + gO c w h.val r) ∗ SK c (w, h, r) ∗ sendPay X c (w, h, r))
      iprop(OW c O ∗ Sent c (w, h, r)) := by
  obtain ⟨h, hh⟩ := h
  cases h with
  | zero =>
    exact send_core X K c w ⟨0, hh⟩ r hj O (seg r) (seg_words r) (wayShare w) (X c)
      (by unfold sendPay; rw [if_pos rfl]; rfl) (read_first X c (nb w c) (slot w 0) r (org_first w c)) _
  | succ n =>
    exact send_core X K c w ⟨n + 1, hh⟩ r hj O (land (slot w ⟨n, Nat.lt_of_succ_lt hh⟩) r) (land_words _ r) fullShare.left (G X c)
      (by unfold sendPay; rw [if_neg (Nat.succ_ne_zero n)]; rfl)
      (read_next X c (nb w c) (slot w ⟨n, Nat.lt_of_succ_lt hh⟩) (slot w ⟨n + 1, hh⟩) r (org_next w c ⟨n, Nat.lt_of_succ_lt_succ hh⟩)) _

end Cert.KernelIdeal.Ring

end
-- ==== Proof.KI.Step.lean ====
/- The transfers of one hop: a segment that landed goes on to the next device, one way and then the other; and the waits
   at the end for what was sent. -/
module

public import proofs.«01_k».proof.Proof.KI.Ops

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a transfer has, where there is one. -/
def atJ (P : Job → sProp 𝕄) (w : Bool) (h : Nat) (r : Fin 4) : sProp 𝕄 :=
  if hh : h < 16 then (bif live w h r then P (w, ⟨h, hh⟩, r) else iprop(emp)) else iprop(emp)

theorem atJ_live (P : Job → sProp 𝕄) {w : Bool} {h : Nat} {r : Fin 4} (hh : h < 16) (hj : live w h r = true) :
    atJ P w h r = P (w, ⟨h, hh⟩, r) := by
  unfold atJ; rw [dif_pos hh, hj]; rfl
theorem atJ_dead (P : Job → sProp 𝕄) {w : Bool} {h : Nat} {r : Fin 4} (hj : ¬ (h < 16 ∧ live w h r = true)) :
    atJ P w h r = iprop(emp) := by
  unfold atJ
  split
  · rename_i hh
    rw [Bool.eq_false_iff.mpr fun e => hj ⟨hh, e⟩]; rfl
  · rfl

theorem live_lt {w : Bool} {h : Nat} {r : Fin 4} (hj : live w h r = true) : h < 16 := by
  unfold live at hj
  by_cases h15 : h < 15
  · omega
  · by_cases he : h = 15
    · omega
    · rw [show Nat.blt h 15 = false from Bool.eq_false_iff.mpr fun e => h15 (Nat.le_of_ble_eq_true e),
        show (h == 15) = false from Bool.eq_false_iff.mpr fun e => he (beq_iff_eq.mp e)] at hj
      exact absurd hj Bool.false_ne_true

theorem live_of_lt {w : Bool} {h : Nat} {r : Fin 4} (hh : h < 15) : live w h r = true := by
  unfold live
  rw [show Nat.blt h 15 = true from Nat.ble_eq_true_of_le hh]; rfl

theorem live_pred {w : Bool} {h : Nat} {r : Fin 4} (hj : live w (h + 1) r = true) : live w h r = true :=
  live_of_lt (by have := live_lt hj; omega)

section Spec

variable (c : Dev nD)

theorem spec_onLive {p : (w : Bool) → (h : Fin 16) → (r : Fin 4) → Prog (TpuEff nD τ sig (Elt F) Λ₀ .tc) PUnit.{1}}
    (w : Bool) (h : Nat) (r : Fin 4) {P Q : sProp 𝕄}
    (hl : ∀ (hh : h < 16), live w h r = true → Spec c (p w ⟨h, hh⟩ r) P Q)
    (hd : ¬ (h < 16 ∧ live w h r = true) → P ⊢ Q) : Spec c (onLive w h r fun hh => p w ⟨h, hh⟩ r) P Q := by
  by_cases hj : live w h r = true
  · have hh := live_lt hj
    have e : (onLive w h r fun hh => p w ⟨h, hh⟩ r) = p w ⟨h, hh⟩ r := by
      unfold onLive; rw [dif_pos hh, hj]; rfl
    rw [e]
    exact hl hh hj
  · have e : (onLive w h r fun hh => p w ⟨h, hh⟩ r) = pure ⟨⟩ := by
      unfold onLive
      split
      · rw [Bool.eq_false_iff.mpr hj]; rfl
      · rfl
    rw [e]
    exact spec_conseq spec_pure .rfl (hd fun h => hj h.2)

end Spec

variable (X : Dev nD → S128x4096.Idx → Elt F .fp8e4m3) (K : GSem nD τ sig → ℕ) (c : Dev nD)

/-- What a landed segment leaves: its semaphore at rest, and the segment. -/
def Landed (j : Job) : sProp 𝕄 := iprop(semVal (rCell c j) 0 ∗ recvPay X c j)
/-- The half of it that does not go on, or all where nothing goes on. -/
def RD (j : Job) : sProp 𝕄 :=
  iprop(semVal (rCell c j) 0 ∗ landPts c (slot j.1 j.2.1) j.2.2 fullShare.right (G X c)
    ∗ (bif live j.1 (j.2.1.val + 1) j.2.2 then iprop(emp) else landPts c (slot j.1 j.2.1) j.2.2 fullShare.left (G X c)))
/-- What a transfer that has left gives back. -/
def Back (j : Job) : sProp 𝕄 := iprop(semVal (sCell c j) 0 ∗ sendPay X c j)

theorem land_halves (s : Fin 32) (r : Fin 4) (f : S32x128x4096.Idx → Elt F .fp8e4m3) :
    landPts c s r fullShare f ⊢ iprop(landPts c s r fullShare.left f ∗ landPts c s r fullShare.right f) := by
  unfold landPts
  exact (pointsTo_share (PosShare.mem_left_op_right fullShare)).1
theorem land_whole (s : Fin 32) (r : Fin 4) (f : S32x128x4096.Idx → Elt F .fp8e4m3) :
    iprop(landPts c s r fullShare.left f ∗ landPts c s r fullShare.right f) ⊢ landPts c s r fullShare f := by
  unfold landPts
  exact (pointsTo_share (PosShare.mem_left_op_right fullShare)).2

theorem sendPay_succ (w : Bool) (h : Nat) (hh : h + 1 < 16) (r : Fin 4) :
    sendPay X c (w, ⟨h + 1, hh⟩, r) = landPts c (slot w ⟨h, Nat.lt_of_succ_lt hh⟩) r fullShare.left (G X c) := by
  unfold sendPay; rw [if_neg (Nat.succ_ne_zero h)]; rfl

/-- A landed segment splits: what goes on, what stays. -/
theorem landed_split (w : Bool) (h : Nat) (r : Fin 4) :
    atJ (Landed X c) w h r ⊢ iprop(atJ (RD X c) w h r ∗ atJ (sendPay X c) w (h + 1) r) := by
  by_cases hj : live w h r = true
  · have hh := live_lt hj
    rw [atJ_live _ hh hj, atJ_live _ hh hj]
    unfold Landed RD recvPay
    by_cases hn : live w (h + 1) r = true
    · rw [atJ_live _ (live_lt hn) hn, sendPay_succ X c w h (live_lt hn) r]
      simp only [hn, cond_true]
      iintro ⟨Hz, Hl⟩
      ihave H := (land_halves c _ _ _) $$ Hl
      icases H with ⟨Ha, Hb⟩
      isplitr [Ha]
      · isplitl [Hz]; · iexact Hz
        isplitl [Hb]; · iexact Hb
        iempintro
      · iexact Ha
    · rw [atJ_dead _ fun h => hn h.2]
      simp only [Bool.eq_false_iff.mpr hn, cond_false]
      iintro ⟨Hz, Hl⟩
      ihave H := (land_halves c _ _ _) $$ Hl
      icases H with ⟨Ha, Hb⟩
      isplitl
      · isplitl [Hz]; · iexact Hz
        isplitl [Hb]; · iexact Hb
        iexact Ha
      · iempintro
  · rw [atJ_dead _ fun h => hj h.2, atJ_dead _ fun h => hj h.2, atJ_dead _ fun h => hj (live_pred h.2)]
    iintro -
    isplitl <;> iempintro

/-- One way of a segment's step, -/
theorem half_spec (w : Bool) (h : Fin 16) (r : Fin 4) (O : CellTallies nD τ sig Unit) (hO : Above (2 + h.val) O) (q : Dev nD) (hq : q = nb w c) :
    Spec c (onLive w h.val r (fun _ => recvOp w h r) >>= fun _ => onLive w (h.val + 1) r fun hh => sendOp q w ⟨h.val + 1, hh⟩ r)
      iprop(Ctx X K ∗ OW c (O + gO c w (h.val + 1) r) ∗ atJ (RK c) w h.val r ∗ atJ (SK c) w (h.val + 1) r)
      iprop(OW c O ∗ atJ (RD X c) w h.val r ∗ atJ (Sent c) w (h.val + 1) r) := by
  subst hq
  have h1 : Spec c (onLive w h.val r (fun _ => recvOp w h r))
      iprop(Ctx X K ∗ OW c (O + gO c w (h.val + 1) r) ∗ atJ (RK c) w h.val r)
      iprop(OW c (O + gO c w (h.val + 1) r) ∗ atJ (Landed X c) w h.val r) := by
    refine spec_onLive c (p := fun w h r => recvOp w h r) w h.val r ?_ ?_
    · intro hh hj
      rw [atJ_live _ hh hj, atJ_live _ hh hj]
      exact recv_spec X K c w ⟨h.val, hh⟩ r hj _ (above_add hO (above_gO c w (h.val + 1) r (Nat.lt_succ_self (2 + h.val))))
    · intro hd
      rw [atJ_dead _ hd, atJ_dead _ hd]
      iintro ⟨-, H, H'⟩
      isplitl [H]; · iexact H
      iexact H'
  have h2 : Spec c (onLive w (h.val + 1) r fun hh => sendOp (nb w c) w ⟨h.val + 1, hh⟩ r)
      iprop(Ctx X K ∗ OW c (O + gO c w (h.val + 1) r) ∗ atJ (SK c) w (h.val + 1) r ∗ atJ (sendPay X c) w (h.val + 1) r)
      iprop(OW c O ∗ atJ (Sent c) w (h.val + 1) r) := by
    refine spec_onLive c (p := fun w h r => sendOp (nb w c) w h r) w (h.val + 1) r ?_ ?_
    · intro hh hj
      rw [atJ_live _ hh hj, atJ_live _ hh hj, atJ_live _ hh hj]
      exact send_spec X K c w ⟨h.val + 1, hh⟩ r hj O
    · intro hd
      have e : gO c w (h.val + 1) r = 0 := by
        unfold gO
        split
        · rename_i hh
          rw [Bool.eq_false_iff.mpr fun e => hd ⟨hh, e⟩]; rfl
        · rfl
      rw [atJ_dead _ hd, atJ_dead _ hd, atJ_dead _ hd, e, add_zero]
      iintro ⟨-, H, H', -⟩
      isplitl [H]; · iexact H
      iexact H'
  refine spec_seq (spec_conseq (spec_frame iprop(Ctx X K ∗ atJ (SK c) w (h.val + 1) r) h1) ?_ .rfl)
    (spec_conseq (spec_frame (atJ (RD X c) w h.val r) h2) ?_ ?_)
  · iintro ⟨#HC, HO, HR, HS⟩
    isplitl [HO HR]
    · isplitr; · iexact HC
      isplitl [HO] <;> iassumption
    · isplitr; · iexact HC
      iexact HS
  · iintro ⟨⟨HO, HL⟩, #HC, HS⟩
    ihave H := (landed_split X c w h.val r) $$ HL
    icases H with ⟨HD, HP⟩
    isplitr [HD]
    · isplitr; · iexact HC
      isplitl [HO]; · iexact HO
      isplitl [HS] <;> iassumption
    · iexact HD
  · iintro ⟨⟨HO, HS⟩, HD⟩
    isplitl [HO]; · iexact HO
    isplitl [HD] <;> iassumption

/-- What a segment's step needs, -/
def stepA (h : Fin 16) (r : Fin 4) : sProp 𝕄 :=
  iprop((atJ (RK c) true h.val r ∗ atJ (SK c) true (h.val + 1) r) ∗ (atJ (RK c) false h.val r ∗ atJ (SK c) false (h.val + 1) r))
/-- and what it leaves. -/
def stepB (h : Fin 16) (r : Fin 4) : sProp 𝕄 :=
  iprop((atJ (RD X c) true h.val r ∗ atJ (Sent c) true (h.val + 1) r) ∗ (atJ (RD X c) false h.val r ∗ atJ (Sent c) false (h.val + 1) r))

variable (q : Bool → Dev nD) (hq : ∀ w, q w = nb w c)
include hq

theorem step_spec (h : Fin 16) (r : Fin 4) (O : CellTallies nD τ sig Unit) (hO : Above (2 + h.val) O) :
    Spec c (stepOp q h r) iprop((Ctx X K ∗ OW c (O + segO c (h.val + 1) r)) ∗ stepA c h r) iprop((Ctx X K ∗ OW c O) ∗ stepB X c h r) := by
  have e : stepOp (F := F) q h r
      = ((onLive true h.val r (fun _ => recvOp true h r) >>= fun _ => onLive true (h.val + 1) r fun hh => sendOp (q true) true ⟨h.val + 1, hh⟩ r)
        >>= fun _ => (onLive false h.val r (fun _ => recvOp false h r) >>= fun _ => onLive false (h.val + 1) r fun hh => sendOp (q false) false ⟨h.val + 1, hh⟩ r)) := by
    unfold stepOp
    rw [bind_assoc]
  rw [e]
  have e' : O + segO c (h.val + 1) r = (O + gO c false (h.val + 1) r) + gO c true (h.val + 1) r := by
    unfold segO; rw [add_comm (gO c true _ _), ← add_assoc]
  rw [e']
  unfold stepA stepB
  refine spec_seq (spec_conseq (spec_frame iprop(Ctx X K ∗ (atJ (RK c) false h.val r ∗ atJ (SK c) false (h.val + 1) r))
      (half_spec X K c true h r (O + gO c false (h.val + 1) r) (above_add hO (above_gO c false (h.val + 1) r (by omega))) (q true) (hq true))) ?_ .rfl)
    (spec_conseq (spec_frame iprop(Ctx X K ∗ (atJ (RD X c) true h.val r ∗ atJ (Sent c) true (h.val + 1) r)) (half_spec X K c false h r O hO (q false) (hq false))) ?_ ?_)
  · iintro ⟨⟨#HC, HO⟩, HT, HF⟩
    isplitl [HO HT]
    · isplitr; · iexact HC
      isplitl [HO] <;> iassumption
    · isplitr; · iexact HC
      iexact HF
  · iintro ⟨⟨HO, HT⟩, #HC, HF⟩
    isplitl [HO HF]
    · isplitr; · iexact HC
      isplitl [HO] <;> iassumption
    · isplitr; · iexact HC
      iexact HT
  · iintro ⟨⟨HO, HF⟩, #HC, HT⟩
    isplitl [HO]
    · isplitr; · iexact HC
      iexact HO
    · isplitl [HT] <;> iassumption

theorem segs4_nodup : segs4.Nodup := by decide
theorem segs4_univ : (Finset.univ : Finset (Fin 4)) = segs4.toFinset := by decide

omit hq in
theorem segsO_cons (h : Nat) (r : Fin 4) (l : List (Fin 4)) (O : CellTallies nD τ sig Unit) :
    O + segsO c h (r :: l) = (O + segsO c h l) + segO c h r := by
  unfold segsO; rw [List.map_cons, List.sum_cons, add_comm (segO c h r), ← add_assoc]

/-- All of a hop's steps. -/
theorem segs_spec (h : Fin 16) (O : CellTallies nD τ sig Unit) (hO : Above (2 + h.val) O) :
    Spec c (each (stepOp q h) segs4)
      iprop((Ctx X K ∗ OW c (O + segsO c (h.val + 1) segs4)) ∗ bigSep Finset.univ (stepA c h))
      iprop((Ctx X K ∗ OW c O) ∗ bigSep Finset.univ (stepB X c h)) := by
  have e : O = O + segsO c (h.val + 1) [] := by unfold segsO; simp
  have key := spec_all (c := c) (f := stepOp q h) (fun _ _ => True) (fun l => iprop(Ctx X K ∗ OW c (O + segsO c (h.val + 1) l)))
    (stepA c h) (stepB X c h) (fun r l _ => by
      rw [segsO_cons]
      exact step_spec X K c q hq h r _ (above_add hO (above_segsO c _ l (by omega))))
    segs4 (by decide) (by decide) (by decide)
  rw [← e] at key
  exact key

/-- The first sends. -/
theorem first_spec (O : CellTallies nD τ sig Unit) :
    Spec c (each (fun r => sendOp (q true) true 0 r >>= fun _ => sendOp (q false) false 0 r) segs4)
      iprop((Ctx X K ∗ OW c (O + segsO c 0 segs4)) ∗ bigSep Finset.univ fun r => iprop((SK c (true, 0, r) ∗ sendPay X c (true, 0, r)) ∗ (SK c (false, 0, r) ∗ sendPay X c (false, 0, r))))
      iprop((Ctx X K ∗ OW c O) ∗ bigSep Finset.univ fun r => iprop(Sent c (true, 0, r) ∗ Sent c (false, 0, r))) := by
  have e : O = O + segsO c 0 [] := by unfold segsO; simp
  have key := spec_all (c := c) (f := fun r => sendOp (F := F) (q true) true 0 r >>= fun _ => sendOp (q false) false 0 r) (fun _ _ => True)
    (fun l => iprop(Ctx X K ∗ OW c (O + segsO c 0 l)))
    (fun r => iprop((SK c (true, 0, r) ∗ sendPay X c (true, 0, r)) ∗ (SK c (false, 0, r) ∗ sendPay X c (false, 0, r))))
    (fun r => iprop(Sent c (true, 0, r) ∗ Sent c (false, 0, r))) (fun r l _ => by
      rw [segsO_cons]
      have e' : (O + segsO c 0 l) + segO c 0 r = ((O + segsO c 0 l) + gO c false (0 : Fin 16).val r) + gO c true (0 : Fin 16).val r := by
        unfold segO; rw [add_comm (gO c true _ _), ← add_assoc]; rfl
      rw [e', hq true, hq false]
      refine spec_seq (spec_conseq (spec_frame iprop(Ctx X K ∗ (SK c (false, 0, r) ∗ sendPay X c (false, 0, r)))
          (send_spec X K c true 0 r (live_of_lt (by decide)) (O + segsO c 0 l + gO c false (0 : Fin 16).val r))) ?_ .rfl)
        (spec_conseq (spec_frame iprop(Ctx X K ∗ Sent c (true, 0, r)) (send_spec X K c false 0 r (live_of_lt (by decide)) (O + segsO c 0 l))) ?_ ?_)
      · iintro ⟨⟨#HC, HO⟩, ⟨HT, HT'⟩, HF⟩
        isplitl [HO HT HT']
        · isplitr; · iexact HC
          isplitl [HO]; · iassumption
          isplitl [HT] <;> iassumption
        · isplitr; · iexact HC
          iexact HF
      · iintro ⟨⟨HO, HT⟩, #HC, HF, HF'⟩
        isplitl [HO HF HF']
        · isplitr; · iexact HC
          isplitl [HO]; · iassumption
          isplitl [HF] <;> iassumption
        · isplitr; · iexact HC
          iexact HT
      · iintro ⟨⟨HO, HF⟩, #HC, HT⟩
        isplitl [HO]
        · isplitr; · iexact HC
          iexact HO
        · isplitl [HT] <;> iassumption)
    segs4 (by decide) (by decide) (by decide)
  rw [← e] at key
  exact key

omit hq

/-- The waits for one way's transfers of a hop to have left, -/
theorem sentAll_spec (w : Bool) (h : Fin 16) :
    Spec c (sentAll w h)
      iprop((Ctx X K ∗ OW c 0) ∗ bigSep Finset.univ fun r => iprop(atJ (WK c) w h.val r ∗ atJ (Sent c) w h.val r))
      iprop((Ctx X K ∗ OW c 0) ∗ bigSep Finset.univ fun r => atJ (Back X c) w h.val r) := by
  refine spec_all (c := c) (fun _ _ => True) (fun _ => iprop(Ctx X K ∗ OW c 0)) _ _ (fun r l _ => ?_) segs4 (by decide) (by decide) (by decide)
  refine spec_onLive c (p := fun w h r => sentOp w h r) w h.val r ?_ ?_
  · intro hh hj
    rw [atJ_live _ hh hj, atJ_live _ hh hj, atJ_live _ hh hj]
    refine spec_conseq (spec_frame (Ctx X K) (sent_spec X K c w ⟨h.val, hh⟩ r hj)) ?_ ?_
    · iintro ⟨⟨#HC, HO⟩, HW, HS⟩
      isplitl
      · isplitr; · iexact HC
        isplitl [HO]; · iexact HO
        isplitl [HW] <;> iassumption
      · iexact HC
    · unfold Back
      iintro ⟨⟨HO, HB⟩, #HC⟩
      isplitl [HO]
      · isplitr; · iexact HC
        iexact HO
      · iexact HB
  · intro hd
    rw [atJ_dead _ hd, atJ_dead _ hd, atJ_dead _ hd]
    iintro ⟨H, -⟩
    isplitl [H]; · iexact H
    iempintro

/-- and of all hops. -/
theorem drain_spec (w : Bool) :
    Spec c (each (sentAll w) hops16)
      iprop((Ctx X K ∗ OW c 0) ∗ bigSep Finset.univ fun h : Fin 16 => bigSep Finset.univ fun r => iprop(atJ (WK c) w h.val r ∗ atJ (Sent c) w h.val r))
      iprop((Ctx X K ∗ OW c 0) ∗ bigSep Finset.univ fun h : Fin 16 => bigSep Finset.univ fun r => atJ (Back X c) w h.val r) :=
  spec_all (c := c) (fun _ _ => True) (fun _ => iprop(Ctx X K ∗ OW c 0)) _ _ (fun h _ _ => sentAll_spec X K c w h) hops16
    (by decide) (by decide) (by decide)

end Cert.KernelIdeal.Ring

end
-- ==== Proof.KI.Block.lean ====
/- The products: each block of rows multiplied into its rows of the result. -/
module

public import proofs.«01_k».proof.Proof.KI.Step

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev wL (c : Dev nD) : Loc nD τ sig := (c : Thread nD τ).loc cc0_stg1_0
abbrev scL (c : Dev nD) : Loc nD τ sig := (c : Thread nD τ).loc cc0_stg2_0
abbrev tabL (c : Dev nD) : Loc nD τ sig := (c : Thread nD τ).loc cc0_stg3_0
abbrev outL (c : Dev nD) : Loc nD τ sig := (c : Thread nD τ).loc cc0_stg4_0

/-! ## The tables -/

/-- The tables as the array that holds them. -/
def tabV : S4x32.Idx → Elt F .i32 := fun i => lit0 (S4x32.rowMajor i)

theorem tabV_ix (a : Fin 4) (t : Fin 32) : tabV (F := F) (ix2 a t) = tab a t := by
  unfold tabV tab
  congr 1
  apply Fin.ext
  show (S4x32.rowMajor (ix2 a t)).val = 32 * a.val + t.val
  rw [Shape.rowMajor_val_two]
  show a.val * 32 + t.val = 32 * a.val + t.val
  omega

theorem tab_read (a : Fin 4) (t : Fin 32) (off : Fin 2 → Nat) (inb : ∀ x, off x + S1x1.size x ≤ S4x32.size x)
    (h : off = ![a.val, t.val]) (x : S1x1.Idx) :
    ((tabM.access (Rect.unit (s := S4x32) off S1x1.size inb)).read (Elt F) (tabV (F := F)) x : Elt F .i32) = tab a t := by
  subst h
  rw [← tabV_ix (F := F)]
  refine congrArg (tabV (F := F)) ?_
  show (Rect.unit (s := S4x32) ![a.val, t.val] S1x1.size inb).emb x = ix2 a t
  funext k
  apply Fin.ext
  rw [ValueKit.rect_emb_unit_val]
  match k with
  | 0 => have : (x 0).val < 1 := (x 0).isLt; show a.val + (x 0).val = a.val; omega
  | 1 => have : (x 1).val < 1 := (x 1).isLt; show t.val + (x 1).val = t.val; omega

/-! ## The result -/

/-- The device whose rows a row of the result is among. -/
def rowDev (i : S4096x64.Idx) : Dev nD := ⟨(i 0).val / 128, by have : (i 0).val < 4096 := (i 0).isLt; show (i 0).val / 128 < 32; omega⟩
/-- The row within them. -/
def rowIx (i : S4096x64.Idx) : S128x64.Idx := ix2 (⟨(i 0).val % 128, Nat.mod_lt _ (by decide)⟩ : Fin 128) (⟨(i 1).val, (i 1).isLt⟩ : Fin 64)

/-- What the result is to be: on each device's rows the product of its block. -/
def Y (X : Dev nD → S128x4096.Idx → Elt F .fp8e4m3) (Wv : S4096x64.Idx → Elt F .fp8e5m2) (sc : Elt F .f32) : S4096x64.Idx → Elt F .f32 :=
  fun i => k0_pay1 sc (X (rowDev i)) Wv (rowIx i)

/-- Writing one device's rows leaves the others, and puts there what is written. -/
theorem write_rows (o : Dev nD) (off : Fin 2 → Nat) (inb : ∀ a, off a + S128x64.size a ≤ S4096x64.size a) (ho : off = ![128 * o.val, 0])
    (g : S4096x64.Idx → Elt F .f32) (v : S128x64.Idx → Elt F .f32) (i : S4096x64.Idx) :
    ((outM.access (Rect.unit (s := S4096x64) off S128x64.size inb)).write (Elt F) g v Finset.univ : S4096x64.Idx → Elt F .f32) i
      = if rowDev i = o then v (rowIx i) else g i := by
  subst ho
  have h1 : (i 1).val < 64 := (i 1).isLt
  have h0 : (i 0).val < 4096 := (i 0).isLt
  by_cases h : rowDev i = o
  · rw [if_pos h]
    have hv : (i 0).val / 128 = o.val := congrArg Fin.val h
    have e : (Rect.unit (s := S4096x64) ![128 * o.val, 0] S128x64.size inb).emb (rowIx i) = i := by
      funext a
      apply Fin.ext
      rw [ValueKit.rect_emb_unit_val]
      match a with
      | 0 => show 128 * o.val + (i 0).val % 128 = (i 0).val; omega
      | 1 => show 0 + (i 1).val = (i 1).val; omega
    have hw := View.write_emb_of_mem (v := outM.access (Rect.unit (s := S4096x64) ![128 * o.val, 0] S128x64.size inb)) (Val := Elt F) g v
      (Finset.mem_univ (rowIx i))
    exact (congrArg ((outM.access (Rect.unit (s := S4096x64) ![128 * o.val, 0] S128x64.size inb)).write (Elt F) g v Finset.univ) e.symm).trans hw
  · rw [if_neg h]
    refine View.write_of_not_mem (v := outM.access (Rect.unit (s := S4096x64) ![128 * o.val, 0] S128x64.size inb)) (Val := Elt F) g v Finset.univ
      fun hm => h ?_
    have hs : (outM.access (Rect.unit (s := S4096x64) ![128 * o.val, 0] S128x64.size inb)).set
        = (Rect.unit (s := S4096x64) ![128 * o.val, 0] S128x64.size inb).set := View.set_slice_whole _ _
    have hm' : i ∈ (Rect.unit (s := S4096x64) ![128 * o.val, 0] S128x64.size inb).set := by rw [← hs]; exact hm
    rw [Rect.mem_set_unit] at hm'
    have a := hm' 0
    have a' : 128 * o.val ≤ (i 0).val ∧ (i 0).val < 128 * o.val + 128 := a
    apply Fin.ext
    show (i 0).val / 128 = o.val
    omega

/-- A slot's contents as one block are its owner's block. -/
theorem pay_slot (X : Dev nD → S128x4096.Idx → Elt F .fp8e4m3) (c : Dev nD) (s : Fin 32) (sc : Elt F .f32) (wv : S4096x64.Idx → Elt F .fp8e5m2) :
    k0_pay2 sc ((commM.access (slotRect s)).read (Elt F) (G X c)) wv = k0_pay1 sc (X (org c s)) wv := by
  have e : shapeCast S128x4096 ((commM.access (slotRect s)).read (Elt F) (G X c) : Vec F S1x128x4096 .fp8e4m3) shapeCasts_S1x128x4096_S128x4096
      = shapeCast S128x4096 (X (org c s) : Vec F S128x4096 .fp8e4m3) shapeCasts_S128x4096_S128x4096 := by
    rw [shapeCast_self]
    funext i
    obtain ⟨p, k, rfl⟩ : ∃ (p : Fin 128) (k : Fin 4096), i = ix2 p k := ⟨i 0, i 1, eq_ix2 i⟩
    exact (shapeCast_1ab_ab_apply _ _ p k).trans (congrArg (G X c) (slot_emb s 0 p k))
  unfold k0_pay2 k0_pay1
  rw [e]

variable (X : Dev nD → S128x4096.Idx → Elt F .fp8e4m3) (Wv : S4096x64.Idx → Elt F .fp8e5m2) (sc : Elt F .f32) (c : Dev nD)

/-- The result so far: right on the rows of the devices in `D`. -/
def Out (D : Dev nD → Prop) : sProp 𝕄 :=
  iprop(∃ g : S4096x64.Idx → Elt F .f32, ⌜∀ i, D (rowDev i) → g i = Y X Wv sc i⌝ ∗ (outL c ↦{fullShare} g))
/-- What the products read beside the blocks. -/
def Ro : sProp 𝕄 := iprop((wL c ↦{fullShare} Wv) ∗ (tabL c ↦{fullShare} tabV (F := F)))

theorem out_mono {D D' : Dev nD → Prop} (h : ∀ o, D' o → D o) : Out X Wv sc c D ⊢ Out X Wv sc c D' := by
  unfold Out
  iintro ⟨%g, %hg, Ho⟩
  iexists g
  isplitr
  · ipureintro; exact fun i hi => hg i (h _ hi)
  · iexact Ho

theorem out_put {D : Dev nD → Prop} (o : Dev nD) (off : Fin 2 → Nat) (inb : ∀ a, off a + S128x64.size a ≤ S4096x64.size a) (ho : off = ![128 * o.val, 0])
    {g : S4096x64.Idx → Elt F .f32} (hg : ∀ i, D (rowDev i) → g i = Y X Wv sc i) {v : S128x64.Idx → Elt F .f32} (hv : v = k0_pay1 sc (X o) Wv) :
    ∀ i, (D (rowDev i) ∨ rowDev i = o) →
      ((outM.access (Rect.unit (s := S4096x64) off S128x64.size inb)).write (Elt F) g v Finset.univ : S4096x64.Idx → Elt F .f32) i = Y X Wv sc i := by
  intro i hi
  rw [write_rows o off inb ho]
  split
  · rename_i h
    unfold Y; rw [h, hv]
  · rename_i h
    exact hg i (hi.resolve_right h)

theorem zero2 : (![0, 0] : Fin 2 → Nat) = fun _ => 0 := by decide

/-- The own block's product. -/
theorem own_spec (D : Dev nD → Prop) (q : PosShare TreeShare) :
    Spec c (ownOp c sc) iprop(Ro Wv c ∗ Out X Wv sc c D ∗ (xL c ↦{q} X c))
      iprop(Ro Wv c ∗ Out X Wv sc c (fun o => D o ∨ o = c) ∗ (xL c ↦{q} X c)) := by
  intro Kt
  unfold ownOp Ro Out
  simp only [Prog.lift, Prog.bind_op, Prog.bind_ret, Prog.pure_eq_ret, Prog.bind_assoc]
  iintro ⟨⟨⟨Hw, Ht⟩, ⟨%g, %hg, Ho⟩, Hx⟩, Hk⟩
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  iapply (wp_load 𝒱₀ (c : Thread nD τ) none Set.univ (m := outM) (Finset.subset_univ _)) $$ Ho
  iintro Ho
  iapply (wp_store 𝒱₀ (c : Thread nD τ) none Set.univ (m := outM) (r := Rect.unit (s := S4096x64) (k0_off4 c) S128x64.size (k0_off4_inb c))
    (Finset.subset_univ _)) $$ Ho
  iintro Ho
  rw [wp_ret]
  imodintro
  iapply Hk
  isplitl [Hw Ht]
  · isplitl [Hw] <;> iassumption
  isplitr [Hx]
  · iexists _
    isplitr
    rotate_left
    · iexact Ho
    · ipureintro
      refine out_put X Wv sc (D := D) c (k0_off4 c) (k0_off4_inb c) (k0_off4_eq c) hg ?_
      exact congrArg₂ (k0_pay1 sc) (Memref.readAt_unit_zero (Elt F) cc0_stg0_0 zero2 _ (X c)) (Memref.readAt_unit_zero (Elt F) cc0_stg1_0 zero2 _ Wv)
  · iexact Hx

/-- The block in a slot, where all of it has landed. -/
theorem block_spec (D : Dev nD → Prop) (q : PosShare TreeShare) (pos : BitVec 32) (hp : k0_chk3 pos) (w : Bool) (h : Nat)
    (hh : h < bif w then 15 else 16) (s : Fin 32) (t : Fin 32) (hl : lookOff w h pos = ![0, t.val]) (ht : permD t = org c s) :
    Spec c (blockOp pos hp sc w h hh s) iprop(Ro Wv c ∗ Out X Wv sc c D ∗ (commL c ↦[slotS s]{q} G X c))
      iprop(Ro Wv c ∗ Out X Wv sc c (fun o => D o ∨ o = org c s) ∗ (commL c ↦[slotS s]{q} G X c)) := by
  intro Kt
  have hr := tab_read (F := F) 0 t (lookOff w h pos) (inbLook pos hp w h hh) hl
  have ho := tab0_of t
  rw [ht] at ho
  unfold blockOp Ro Out smemLoad
  simp only [Prog.lift, Prog.bind_op, Prog.bind_ret, Prog.pure_eq_ret, Prog.bind_assoc, smemLoadElt]
  iintro ⟨⟨⟨Hw, Ht⟩, ⟨%g, %hg, Ho⟩, Hx⟩, Hk⟩
  iapply (wp_load_rect 𝒱₀ (c : Thread nD τ) none Set.univ (m := tabM)
    (r := Rect.unit (s := S4x32) (lookOff w h pos) S1x1.size (inbLook pos hp w h hh)) (Finset.subset_univ _)) $$ Ht
  iintro Ht
  rw [hr, ho]
  iapply (wp_assume 𝒱₀ (c : Thread nD τ) none Set.univ (rowIn_of (org c s)))
  iapply (wp_load_rect 𝒱₀ (c : Thread nD τ) none Set.univ (m := commM) (r := slotRect s) (S := slotS s) (Finset.Subset.refl _)) $$ Hx
  iintro Hx
  iapply (wp_load 𝒱₀ (c : Thread nD τ) none Set.univ (m := wM) (Finset.subset_univ _)) $$ Hw
  iintro Hw
  iapply (wp_load 𝒱₀ (c : Thread nD τ) none Set.univ (m := outM) (Finset.subset_univ _)) $$ Ho
  iintro Ho
  iapply (wp_store 𝒱₀ (c : Thread nD τ) none Set.univ (m := outM)
    (r := Rect.unit (s := S4096x64) (rowOff (BitVec.ofNat 32 (org c s).val)) S128x64.size (rowIn_of (org c s))) (Finset.subset_univ _)) $$ Ho
  iintro Ho
  rw [wp_ret]
  imodintro
  iapply Hk
  isplitl [Hw Ht]
  · isplitl [Hw] <;> iassumption
  isplitr [Hx]
  · iexists _
    isplitr
    rotate_left
    · iexact Ho
    · ipureintro
      refine out_put X Wv sc (D := D) (org c s) _ (rowIn_of (org c s)) (rowOff_of (org c s)) hg ?_
      exact (congrArg (k0_pay2 sc _) (Memref.readAt_unit_zero (Elt F) cc0_stg1_0 zero2 _ Wv)).trans (pay_slot X c s sc Wv)
  · iexact Hx

end Cert.KernelIdeal.Ring

end
-- ==== Proof.KI.Round.lean ====
/- The rounds: the transfers of a hop, then the products of the blocks that are whole. -/
module

public import proofs.«01_k».proof.Proof.KI.Block

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the table says whose block a hop brought. -/
def lookT (w : Bool) (c : Dev nD) (h : Fin 16) : Fin 32 :=
  ⟨(if (bif w then h.val + 1 else h.val + 17) ≤ 16 then posN c + 32 - (bif w then h.val + 1 else h.val + 17)
    else posN c + (bif w then h.val + 1 else h.val + 17) - 16) % 32, Nat.mod_lt _ (by decide)⟩

theorem look_org : ∀ (w : Bool) (c : Dev nD) (h : Fin 16), permD (lookT w c h) = org c (slot w h) := by decide +kernel

variable (X : Dev nD → S128x4096.Idx → Elt F .fp8e4m3) (K : GSem nD τ sig → ℕ) (Wv : S4096x64.Idx → Elt F .fp8e5m2) (sc : Elt F .f32) (c : Dev nD)

/-! ## A landed slot as a whole -/

theorem each_mono {α : Type} {s : Finset α} {Φ Ψ : α → sProp 𝕄} (h : ∀ i ∈ s, (Φ i ⊢ Ψ i)) : (bigSep s Φ : sProp 𝕄) ⊢ bigSep s Ψ := bigSep_mono h
theorem sep_nil (P : sProp 𝕄) : iprop(P ∗ emp) = P := Idealize.SL.BI.equiv_iff.mp Idealize.SL.BI.sep_emp
theorem nil_sep (P : sProp 𝕄) : iprop(emp ∗ P) = P := Idealize.SL.BI.equiv_iff.mp Idealize.SL.BI.emp_sep

/-- A slot holding its owner's block. -/
def slotPts (s : Fin 32) (q : PosShare TreeShare) : sProp 𝕄 := commL c ↦[slotS s]{q} G X c

theorem slot_join (s : Fin 32) (q : PosShare TreeShare) :
    (bigSep Finset.univ fun r : Fin 4 => landPts c s r q (G X c)) = slotPts X c s q := by
  have h := pointsTo_biUnion (ℓ := commL c) (q := q) (f := G X c) (Finset.univ : Finset (Fin 4)) (landS s)
    (fun a _ b _ h => land_disj s s a b fun e => h (congrArg Prod.snd e)) (Ix := Unit) (Name := ℕ) (U := UU) (Lvl := ℕ)
  rw [land_cover s] at h
  exact h.symm

/-- The half that stays of a landed segment, -/
def half (j : Job) : sProp 𝕄 := landPts c (slot j.1 j.2.1) j.2.2 fullShare.right (G X c)
/-- and what else a landed segment leaves. -/
def RDr (j : Job) : sProp 𝕄 :=
  iprop(semVal (rCell c j) 0 ∗ (bif live j.1 (j.2.1.val + 1) j.2.2 then iprop(emp) else landPts c (slot j.1 j.2.1) j.2.2 fullShare.left (G X c)))

/-- The halves of a segment's step, -/
def stepH (h : Fin 16) (r : Fin 4) : sProp 𝕄 := iprop(atJ (half X c) true h.val r ∗ atJ (half X c) false h.val r)
/-- and the rest. -/
def stepR (h : Fin 16) (r : Fin 4) : sProp 𝕄 :=
  iprop((atJ (RDr X c) true h.val r ∗ atJ (Sent c) true (h.val + 1) r) ∗ (atJ (RDr X c) false h.val r ∗ atJ (Sent c) false (h.val + 1) r))

theorem rd_split (w : Bool) (h : Nat) (r : Fin 4) : atJ (RD X c) w h r ⊢ iprop(atJ (half X c) w h r ∗ atJ (RDr X c) w h r) := by
  by_cases hj : h < 16 ∧ live w h r = true
  · rw [atJ_live _ hj.1 hj.2, atJ_live _ hj.1 hj.2, atJ_live _ hj.1 hj.2]
    unfold RD half RDr
    iintro ⟨Hz, Hh, Hl⟩
    isplitl [Hh]; · iexact Hh
    isplitl [Hz] <;> iassumption
  · rw [atJ_dead _ hj, atJ_dead _ hj, atJ_dead _ hj]
    iintro -
    isplitl <;> iempintro
theorem rd_join (w : Bool) (h : Nat) (r : Fin 4) : iprop(atJ (half X c) w h r ∗ atJ (RDr X c) w h r) ⊢ atJ (RD X c) w h r := by
  by_cases hj : h < 16 ∧ live w h r = true
  · rw [atJ_live _ hj.1 hj.2, atJ_live _ hj.1 hj.2, atJ_live _ hj.1 hj.2]
    unfold RD half RDr
    iintro ⟨Hh, Hz, Hl⟩
    isplitl [Hz]; · iexact Hz
    isplitl [Hh] <;> iassumption
  · rw [atJ_dead _ hj, atJ_dead _ hj, atJ_dead _ hj]
    iintro -
    iempintro

theorem steps_split (h : Fin 16) : (bigSep Finset.univ (stepB X c h))
    ⊢ iprop((bigSep Finset.univ (stepH X c h)) ∗ bigSep Finset.univ (stepR X c h)) := by
  rw [← bigSep_sep']
  refine each_mono fun r _ => ?_
  unfold stepB stepH stepR
  iintro ⟨⟨HT, HT'⟩, HF, HF'⟩
  ihave H := (rd_split X c true h.val r) $$ HT
  ihave H' := (rd_split X c false h.val r) $$ HF
  icases H with ⟨Ha, Hb⟩
  icases H' with ⟨Ha', Hb'⟩
  isplitl [Ha Ha']
  · isplitl [Ha] <;> iassumption
  isplitl [Hb HT']
  · isplitl [Hb] <;> iassumption
  · isplitl [Hb'] <;> iassumption

theorem steps_join (h : Fin 16) : iprop((bigSep Finset.univ (stepH X c h)) ∗ bigSep Finset.univ (stepR X c h))
    ⊢ bigSep Finset.univ (stepB X c h) := by
  rw [← bigSep_sep']
  refine each_mono fun r _ => ?_
  unfold stepB stepH stepR
  iintro ⟨⟨Ha, Ha'⟩, ⟨Hb, HT'⟩, Hb', HF'⟩
  isplitl [Ha Hb HT']
  · isplitr [HT']
    · iapply (rd_join X c true h.val r)
      isplitl [Ha] <;> iassumption
    · iexact HT'
  · isplitr [HF']
    · iapply (rd_join X c false h.val r)
      isplitl [Ha'] <;> iassumption
    · iexact HF'

/-- Before the last hop both ways' slots are whole, -/
theorem halves_slots (h : Fin 16) (hh : h.val < 15) :
    bigSep Finset.univ (stepH X c h) = iprop(slotPts X c (slot true h) fullShare.right ∗ slotPts X c (slot false h) fullShare.right) := by
  rw [← slot_join, ← slot_join, ← bigSep_sep']
  refine bigSep_congr fun r _ => ?_
  unfold stepH
  rw [atJ_live _ h.isLt (live_of_lt hh), atJ_live _ h.isLt (live_of_lt hh)]
  rfl

theorem last_live : ∀ r : Fin 4, live true 15 r = !live false 15 r := by decide

/-- and at the last the two halves make one. -/
theorem halves_last : bigSep Finset.univ (stepH X c 15) = slotPts X c 16 fullShare.right := by
  rw [← slot_join]
  refine bigSep_congr fun r _ => ?_
  unfold stepH
  have hr := last_live r
  cases hf : live false 15 r
  · rw [hf] at hr
    rw [atJ_live (h := (15 : Fin 16).val) _ (by decide) hr, atJ_dead (h := (15 : Fin 16).val) _ (fun h => by rw [show live false (15 : Fin 16).val r = false from hf] at h; exact absurd h.2 Bool.false_ne_true)]
    exact sep_nil _
  · rw [hf] at hr
    rw [atJ_live (w := false) (h := (15 : Fin 16).val) _ (by decide) hf, atJ_dead (h := (15 : Fin 16).val) _ (fun h => by rw [show live true (15 : Fin 16).val r = false from hr] at h; exact absurd h.2 Bool.false_ne_true)]
    exact nil_sep _

/-! ## A round -/

/-- The devices whose rows are done, `l` being the hops to come. -/
def DoneR (l : List (Fin 15)) (o : Dev nD) : Prop :=
  o = c ∨ ∃ h : Fin 15, h ∉ l ∧ (o = org c (slot true ⟨h.val, by omega⟩) ∨ o = org c (slot false ⟨h.val, by omega⟩))

theorem done_step (h : Fin 15) (l : List (Fin 15)) (o : Dev nD) (ho : DoneR c l o) :
    (DoneR c (h :: l) o ∨ o = org c (slot true ⟨h.val, by omega⟩)) ∨ o = org c (slot false ⟨h.val, by omega⟩) := by
  rcases ho with ho | ⟨h', hn, ho⟩
  · exact .inl (.inl (.inl ho))
  · by_cases e : h' = h
    · subst e
      rcases ho with ho | ho
      · exact .inl (.inr ho)
      · exact .inr ho
    · exact .inl (.inl (.inr ⟨h', fun hm => (List.mem_cons.mp hm).elim e hn, ho⟩))

theorem roundsO_cons (h : Fin 15) (l : List (Fin 15)) : roundsO c (h :: l) = roundsO c l + segsO c (h.val + 1) segs4 := by
  unfold roundsO; rw [List.map_cons, List.sum_cons, add_comm]

variable (q : Bool → Dev nD) (hq : ∀ w, q w = nb w c) (hp : k0_chk3 (tab 1 c))
include hq

theorem round_spec (h : Fin 15) (l : List (Fin 15)) (hl : ∀ h' ∈ l, h < h') :
    Spec c (roundOp q (tab 1 c) hp sc h)
      iprop(((Ctx X K ∗ OW c (roundsO c (h :: l))) ∗ (Ro Wv c ∗ Out X Wv sc c (DoneR c (h :: l)))) ∗ bigSep Finset.univ (stepA c ⟨h.val, by omega⟩))
      iprop(((Ctx X K ∗ OW c (roundsO c l)) ∗ (Ro Wv c ∗ Out X Wv sc c (DoneR c l))) ∗ bigSep Finset.univ (stepB X c ⟨h.val, by omega⟩)) := by
  have hO : Above (2 + h.val) (roundsO c l) := above_roundsO c l fun h' hm => by have := hl h' hm; omega
  rw [roundsO_cons]
  have s1 := segs_spec X K c q hq ⟨h.val, by omega⟩ (roundsO c l) hO
  have s2 := block_spec X Wv sc c (DoneR c (h :: l)) fullShare.right (tab 1 c) hp true h.val h.isLt (slot true ⟨h.val, by omega⟩)
    (lookT true c ⟨h.val, by omega⟩) (look_off true c ⟨h.val, by omega⟩) (look_org true c ⟨h.val, by omega⟩)
  have s3 := block_spec X Wv sc c (fun o => DoneR c (h :: l) o ∨ o = org c (slot true ⟨h.val, by omega⟩)) fullShare.right (tab 1 c) hp false h.val
    (Nat.lt_succ_of_lt h.isLt) (slot false ⟨h.val, by omega⟩)
    (lookT false c ⟨h.val, by omega⟩) (look_off false c ⟨h.val, by omega⟩) (look_org false c ⟨h.val, by omega⟩)
  refine spec_seq (spec_conseq (spec_frame iprop(Ro Wv c ∗ Out X Wv sc c (DoneR c (h :: l))) s1) ?_ .rfl)
    (spec_seq (spec_conseq (spec_frame iprop((Ctx X K ∗ OW c (roundsO c l)) ∗ slotPts X c (slot false ⟨h.val, by omega⟩) fullShare.right
        ∗ bigSep Finset.univ (stepR X c ⟨h.val, by omega⟩)) s2) ?_ .rfl)
      (spec_conseq (spec_frame iprop((Ctx X K ∗ OW c (roundsO c l)) ∗ slotPts X c (slot true ⟨h.val, by omega⟩) fullShare.right
        ∗ bigSep Finset.univ (stepR X c ⟨h.val, by omega⟩)) s3) ?_ ?_))
  · iintro ⟨⟨HO, HR⟩, HA⟩
    isplitr [HR]
    · isplitl [HO] <;> iassumption
    · iexact HR
  · iintro ⟨⟨HO, HB⟩, HR, Ho⟩
    ihave H := (steps_split X c _) $$ HB
    rw [halves_slots X c _ h.isLt]
    icases H with ⟨⟨HT, HF⟩, Hr⟩
    isplitl [HR Ho HT]
    · isplitl [HR]; · iexact HR
      isplitl [Ho]; · iexact Ho
      unfold slotPts; iexact HT
    · isplitl [HO]; · iexact HO
      isplitl [HF] <;> iassumption
  · iintro ⟨⟨HR, Ho, HT⟩, HO, HF, Hr⟩
    isplitl [HR Ho HF]
    · isplitl [HR]; · iexact HR
      isplitl [Ho]; · iexact Ho
      unfold slotPts; iexact HF
    · isplitl [HO]; · iexact HO
      isplitl [HT]; · unfold slotPts; iexact HT
      iexact Hr
  · iintro ⟨⟨HR, Ho, HF⟩, HO, HT, Hr⟩
    isplitr [HT HF Hr]
    · isplitl [HO]; · iexact HO
      isplitl [HR]; · iexact HR
      iapply (out_mono X Wv sc c (fun o ho => done_step c h l o ho))
      iexact Ho
    · iapply (steps_join X c _)
      rw [halves_slots X c _ h.isLt]
      isplitr [Hr]
      · isplitl [HT]; · iexact HT
        unfold slotPts; iexact HF
      · iexact Hr

/-- All rounds but the last, -/
theorem rounds_spec :
    Spec c (each (roundOp q (tab 1 c) hp sc) hops15)
      iprop(((Ctx X K ∗ OW c (roundsO c hops15)) ∗ (Ro Wv c ∗ Out X Wv sc c (DoneR c hops15)))
        ∗ bigSep Finset.univ fun h : Fin 15 => bigSep Finset.univ (stepA c ⟨h.val, by omega⟩))
      iprop(((Ctx X K ∗ OW c 0) ∗ (Ro Wv c ∗ Out X Wv sc c (DoneR c [])))
        ∗ bigSep Finset.univ fun h : Fin 15 => bigSep Finset.univ (stepB X c ⟨h.val, by omega⟩)) :=
  spec_all (c := c) (f := roundOp q (tab 1 c) hp sc) (fun a b => a < b)
    (fun l => iprop((Ctx X K ∗ OW c (roundsO c l)) ∗ (Ro Wv c ∗ Out X Wv sc c (DoneR c l))))
    (fun h => bigSep Finset.univ (stepA c ⟨h.val, by omega⟩)) (fun h => bigSep Finset.univ (stepB X c ⟨h.val, by omega⟩))
    (fun h l hl => round_spec X K Wv sc c q hq hp h l hl) hops15 (by decide) (by decide) (by decide)

theorem segsO_16 : segsO c 16 segs4 = 0 := by
  have : ∀ r, segO c 16 r = 0 := fun r => by
    unfold segO gO; rw [dif_neg (by decide), dif_neg (by decide), add_zero]
  unfold segsO
  simp [this]

/-- and the last. -/
theorem last_spec :
    Spec c (each (stepOp q 15) segs4 >>= fun _ => blockOp (tab 1 c) hp sc false 15 (Nat.lt_succ_self 15) 16)
      iprop(((Ctx X K ∗ OW c 0) ∗ (Ro Wv c ∗ Out X Wv sc c (DoneR c []))) ∗ bigSep Finset.univ (stepA c 15))
      iprop(((Ctx X K ∗ OW c 0) ∗ (Ro Wv c ∗ Out X Wv sc c (fun _ => True))) ∗ bigSep Finset.univ (stepB X c 15)) := by
  have s1 := segs_spec X K c q hq 15 0 (above_zero _)
  rw [show (15 : Fin 16).val + 1 = 16 from rfl, segsO_16 c q hq, add_zero] at s1
  have s2 := block_spec X Wv sc c (DoneR c []) fullShare.right (tab 1 c) hp false 15 (Nat.lt_succ_self 15) 16
    (lookT false c 15) (look_off false c 15) (look_org false c 15)
  refine spec_seq (spec_conseq (spec_frame iprop(Ro Wv c ∗ Out X Wv sc c (DoneR c [])) s1) ?_ .rfl)
    (spec_conseq (spec_frame iprop((Ctx X K ∗ OW c 0) ∗ bigSep Finset.univ (stepR X c 15)) s2) ?_ ?_)
  · iintro ⟨⟨HO, HR⟩, HA⟩
    isplitr [HR]
    · isplitl [HO] <;> iassumption
    · iexact HR
  · iintro ⟨⟨HO, HB⟩, HR, Ho⟩
    ihave H := (steps_split X c _) $$ HB
    rw [halves_last X c]
    icases H with ⟨HT, Hr⟩
    isplitl [HR Ho HT]
    · isplitl [HR]; · iexact HR
      isplitl [Ho]; · iexact Ho
      unfold slotPts; iexact HT
    · isplitl [HO] <;> iassumption
  · iintro ⟨⟨HR, Ho, HF⟩, HO, Hr⟩
    isplitr [HF Hr]
    · isplitl [HO]; · iexact HO
      isplitl [HR]; · iexact HR
      iapply (out_mono X Wv sc c (D := fun o => DoneR c [] o ∨ o = org c 16) (fun o _ => by
        rcases org_all c o with h | ⟨h, e⟩ | ⟨h, e⟩ | h
        · exact .inl (.inl h)
        · exact .inl (.inr ⟨h, List.not_mem_nil, .inl e⟩)
        · exact .inl (.inr ⟨h, List.not_mem_nil, .inr e⟩)
        · exact .inr h))
      iexact Ho
    · iapply (steps_join X c _)
      rw [halves_last X c]
      isplitl [HF]; · unfold slotPts; iexact HF
      iexact Hr

end Cert.KernelIdeal.Ring

end
-- ==== Proof.KI.Run.lean ====
/- The transfers and products from start to end: what they need, and what they leave. -/
module

public import proofs.«01_k».proof.Proof.KI.Round

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the hops -/

theorem fin_first {n : ℕ} (Φ : Fin (n + 1) → sProp 𝕄) :
    bigSep Finset.univ Φ = iprop(Φ 0 ∗ bigSep Finset.univ fun h : Fin n => Φ h.succ) := by
  rw [Fin.univ_succ, Finset.cons_eq_insert, bigSep_insert (by simp), bigSep_map]; rfl
theorem fin_last {n : ℕ} (Φ : Fin (n + 1) → sProp 𝕄) :
    bigSep Finset.univ Φ = iprop(Φ (Fin.last n) ∗ bigSep Finset.univ fun h : Fin n => Φ h.castSucc) := by
  rw [Fin.univ_castSuccEmb, Finset.cons_eq_insert, bigSep_insert (by simp), bigSep_map]; rfl

/-- What all transfers of one way have, -/
def ways (P : Job → sProp 𝕄) (w : Bool) : sProp 𝕄 := bigSep Finset.univ fun h : Fin 16 => bigSep Finset.univ fun r : Fin 4 => atJ P w h.val r
/-- those of the first hop, -/
def firsts (P : Job → sProp 𝕄) (w : Bool) : sProp 𝕄 := bigSep Finset.univ fun r : Fin 4 => P (w, 0, r)
/-- and those of the later hops, each counted at the hop before. -/
def nexts (P : Job → sProp 𝕄) (w : Bool) : sProp 𝕄 := bigSep Finset.univ fun h : Fin 16 => bigSep Finset.univ fun r : Fin 4 => atJ P w (h.val + 1) r

theorem none_each {α : Type} (s : Finset α) : (bigSep s fun _ => (iprop(emp) : sProp 𝕄)) = iprop(emp) := by
  classical
  induction s using Finset.induction_on with
  | empty => exact bigSep_empty
  | insert a s ha ih => rw [bigSep_insert ha, ih]; exact nil_sep _

theorem ways_eq (P : Job → sProp 𝕄) (w : Bool) : ways P w = iprop(firsts P w ∗ nexts P w) := by
  have h1 : ways P w = iprop(firsts P w ∗ bigSep Finset.univ fun h : Fin 15 => bigSep Finset.univ fun r : Fin 4 => atJ P w (h.val + 1) r) := by
    unfold ways firsts
    rw [fin_first]
    refine congrArg (fun A => iprop(A ∗ _)) (bigSep_congr fun r _ => ?_)
    exact atJ_live P (h := 0) (by decide) (live_of_lt (by decide))
  have h2 : nexts P w = bigSep Finset.univ fun h : Fin 15 => bigSep Finset.univ fun r : Fin 4 => atJ P w (h.val + 1) r := by
    unfold nexts
    rw [fin_last]
    have e : (bigSep Finset.univ fun r : Fin 4 => atJ P w ((Fin.last 15).val + 1) r) = iprop(emp) := by
      refine (bigSep_congr fun r _ => ?_).trans (none_each _)
      exact atJ_dead P fun h => absurd h.1 (by decide)
    rw [e]
    exact nil_sep _
  rw [h1, h2]

theorem firsts_congr {P Q : Job → sProp 𝕄} {w : Bool} (h : ∀ r, P (w, 0, r) = Q (w, 0, r)) : firsts P w = firsts Q w :=
  bigSep_congr fun r _ => h r

theorem atJ_sep (P Q : Job → sProp 𝕄) (w : Bool) (h : Nat) (r : Fin 4) :
    atJ (fun j => iprop(P j ∗ Q j)) w h r = iprop(atJ P w h r ∗ atJ Q w h r) := by
  by_cases hj : h < 16 ∧ live w h r = true
  · rw [atJ_live _ hj.1 hj.2, atJ_live _ hj.1 hj.2, atJ_live _ hj.1 hj.2]
  · rw [atJ_dead _ hj, atJ_dead _ hj, atJ_dead _ hj]; exact (nil_sep _).symm

theorem ways_sep (P Q : Job → sProp 𝕄) (w : Bool) : ways (fun j => iprop(P j ∗ Q j)) w = iprop(ways P w ∗ ways Q w) := by
  unfold ways
  rw [← bigSep_sep']
  refine bigSep_congr fun h _ => ?_
  rw [← bigSep_sep']
  exact bigSep_congr fun r _ => atJ_sep P Q w h.val r

variable (X : Dev nD → S128x4096.Idx → Elt F .fp8e4m3) (K : GSem nD τ sig → ℕ) (Wv : S4096x64.Idx → Elt F .fp8e5m2) (sc : Elt F .f32) (c : Dev nD)

/-- All that the steps need, -/
theorem steps_in : iprop((ways (RK (F := F) c) true ∗ nexts (SK c) true) ∗ (ways (RK c) false ∗ nexts (SK c) false))
    ⊢ bigSep Finset.univ fun h : Fin 16 => bigSep Finset.univ (stepA c h) := by
  refine Entails.of_eq ?_
  unfold ways nexts
  rw [← bigSep_sep', ← bigSep_sep', ← bigSep_sep']
  refine bigSep_congr fun h _ => ?_
  rw [← bigSep_sep', ← bigSep_sep', ← bigSep_sep']
  rfl

/-- and all that they leave. -/
theorem steps_out : (bigSep Finset.univ fun h : Fin 16 => bigSep Finset.univ (stepB X c h))
    ⊢ iprop((ways (RD X c) true ∗ nexts (Sent c) true) ∗ (ways (RD X c) false ∗ nexts (Sent c) false)) := by
  refine Entails.of_eq (Eq.symm ?_)
  unfold ways nexts
  rw [← bigSep_sep', ← bigSep_sep', ← bigSep_sep']
  refine bigSep_congr fun h _ => ?_
  rw [← bigSep_sep', ← bigSep_sep', ← bigSep_sep']
  rfl

/-- The part that went on comes back to the part that stayed. -/
theorem landed_join (w : Bool) (h : Nat) (r : Fin 4) :
    iprop(atJ (RD X c) w h r ∗ atJ (sendPay X c) w (h + 1) r) ⊢ atJ (Landed X c) w h r := by
  by_cases hj : live w h r = true
  · have hh := live_lt hj
    rw [atJ_live _ hh hj, atJ_live _ hh hj]
    unfold Landed RD recvPay
    by_cases hn : live w (h + 1) r = true
    · rw [atJ_live _ (live_lt hn) hn, sendPay_succ X c w h (live_lt hn) r]
      simp only [hn, cond_true]
      iintro ⟨⟨Hz, Hb, -⟩, Ha⟩
      isplitl [Hz]; · iexact Hz
      iapply (land_whole c _ _ _)
      isplitl [Ha] <;> iassumption
    · rw [atJ_dead _ fun h => hn h.2]
      simp only [Bool.eq_false_iff.mpr hn, cond_false]
      iintro ⟨⟨Hz, Hb, Ha⟩, -⟩
      isplitl [Hz]; · iexact Hz
      iapply (land_whole c _ _ _)
      isplitl [Ha] <;> iassumption
  · rw [atJ_dead _ fun h => hj h.2, atJ_dead _ fun h => hj h.2, atJ_dead _ fun h => hj (live_pred h.2)]
    iintro -
    iempintro

theorem ways_landed (w : Bool) : iprop(ways (RD X c) w ∗ nexts (sendPay X c) w) ⊢ ways (Landed X c) w := by
  unfold ways nexts
  rw [← bigSep_sep']
  refine each_mono fun h _ => ?_
  rw [← bigSep_sep']
  exact each_mono fun r _ => landed_join X c w h.val r

/-- The own block by segments, at one way's share. -/
theorem own_segs (w : Bool) : firsts (sendPay X c) w = (xL c ↦{wayShare w} X c : sProp 𝕄) := by
  have e : firsts (sendPay X c) w = bigSep Finset.univ fun r : Fin 4 => segPts c r (wayShare w) (X c) :=
    bigSep_congr fun r _ => by unfold sendPay; exact if_pos rfl
  have h := pointsTo_biUnion (ℓ := xL c) (q := wayShare w) (f := X c) (Finset.univ : Finset (Fin 4)) segS
    (fun a _ b _ h => seg_disj a b h) (Ix := Unit) (Name := ℕ) (U := UU) (Lvl := ℕ)
  rw [seg_univ] at h
  exact e.trans h.symm

theorem own_split : (xL c ↦{fullShare} X c : sProp 𝕄)
    ⊢ iprop((firsts (sendPay X c) true ∗ firsts (sendPay X c) false) ∗ (xL c ↦{fullShare.right} X c)) := by
  rw [own_segs, own_segs]
  iintro H
  ihave H' := (pointsTo_share (PosShare.mem_left_op_right fullShare)).1 $$ H
  icases H' with ⟨Hl, Hr⟩
  ihave H' := (pointsTo_share (PosShare.mem_left_op_right fullShare.left)).1 $$ Hl
  isplitr [Hr]
  · iexact H'
  · iexact Hr
theorem own_join : iprop((firsts (sendPay X c) true ∗ firsts (sendPay X c) false) ∗ (xL c ↦{fullShare.right} X c))
    ⊢ (xL c ↦{fullShare} X c : sProp 𝕄) := by
  rw [own_segs, own_segs]
  iintro ⟨H, Hr⟩
  iapply (pointsTo_share (PosShare.mem_left_op_right fullShare)).2
  isplitr [Hr]
  · iapply (pointsTo_share (PosShare.mem_left_op_right fullShare.left)).2
    iexact H
  · iexact Hr

/-! ## From start to end -/

/-- A sender's semaphore at rest. -/
def SV (j : Job) : sProp 𝕄 := semVal (sCell c j) 0

theorem back_split (w : Bool) : ways (Back X c) w = iprop(ways (SV c) w ∗ (firsts (sendPay X c) w ∗ nexts (sendPay X c) w)) := by
  rw [← ways_eq]
  exact ways_sep (SV c) (sendPay X c) w

/-- What the transfers and products need once the neighbours' landing buffers are theirs, -/
def ringPre : sProp 𝕄 :=
  iprop((Ctx X K ∗ OW c (sendsO c)) ∗ (Ro Wv c ∗ Out X Wv sc c (fun _ => False)) ∗ (xL c ↦{fullShare} X c)
    ∗ ((ways (RK c) true ∗ ways (SK c) true ∗ ways (WK c) true) ∗ (ways (RK c) false ∗ ways (SK c) false ∗ ways (WK c) false)))
/-- and what they leave: everything landed and at rest, the result whole. -/
def ringPost : sProp 𝕄 :=
  iprop((Ctx X K ∗ OW c 0) ∗ (Ro Wv c ∗ Out X Wv sc c (fun _ => True)) ∗ (xL c ↦{fullShare} X c)
    ∗ ((ways (Landed X c) true ∗ ways (SV c) true) ∗ (ways (Landed X c) false ∗ ways (SV c) false)))

variable (q : Bool → Dev nD) (hq : ∀ w, q w = nb w c) (hp : k0_chk3 (tab 1 c))
include hq

/-- The first sends and the own block's product, -/
theorem phase1 :
    Spec c (each (fun r => sendOp (q true) true 0 r >>= fun _ => sendOp (q false) false 0 r) segs4 >>= fun _ => ownOp c sc)
      iprop((Ctx X K ∗ OW c (sendsO c)) ∗ (Ro Wv c ∗ Out X Wv sc c (fun _ => False)) ∗ (xL c ↦{fullShare} X c)
        ∗ (firsts (SK c) true ∗ firsts (SK c) false))
      iprop(((Ctx X K ∗ OW c (roundsO c hops15)) ∗ (Ro Wv c ∗ Out X Wv sc c (DoneR c hops15)))
        ∗ (xL c ↦{fullShare.right} X c) ∗ (firsts (Sent c) true ∗ firsts (Sent c) false)) := by
  have s1 := first_spec X K c q hq (roundsO c hops15)
  have s2 := own_spec X Wv sc c (fun _ => False) fullShare.right
  refine spec_seq (spec_conseq (spec_frame iprop((Ro Wv c ∗ Out X Wv sc c (fun _ => False)) ∗ (xL c ↦{fullShare.right} X c)) s1) ?_ .rfl)
    (spec_conseq (spec_frame iprop((Ctx X K ∗ OW c (roundsO c hops15)) ∗ bigSep Finset.univ fun r => iprop(Sent c (true, 0, r) ∗ Sent c (false, 0, r))) s2) ?_ ?_)
  · iintro ⟨HO, HR, Hx, HS, HS'⟩
    ihave H := (own_split X c) $$ Hx
    icases H with ⟨⟨Ha, Hb⟩, Hr⟩
    isplitl [HO HS HS' Ha Hb]
    · isplitl [HO]; · iexact HO
      iapply (Entails.of_eq (show iprop((firsts (SK c) true ∗ firsts (sendPay X c) true) ∗ (firsts (SK c) false ∗ firsts (sendPay X c) false)) = _ by
        unfold firsts; rw [← bigSep_sep', ← bigSep_sep', ← bigSep_sep']))
      isplitl [HS Ha]
      · isplitl [HS] <;> iassumption
      · isplitl [HS'] <;> iassumption
    · isplitl [HR] <;> iassumption
  · iintro ⟨⟨HO, HS⟩, ⟨HR, Ho⟩, Hx⟩
    isplitl [HR Ho Hx]
    · isplitl [HR]; · iexact HR
      isplitl [Ho] <;> iassumption
    · isplitl [HO] <;> iassumption
  · iintro ⟨⟨HR, Ho, Hx⟩, HO, HS⟩
    isplitl [HR Ho HO]
    · isplitl [HO]; · iexact HO
      isplitl [HR]; · iexact HR
      iapply (out_mono X Wv sc c (D := fun o => False ∨ o = c) (fun o ho => by
        rcases ho with h | ⟨h, hn, -⟩
        · exact .inr h
        · exact absurd (show h ∈ hops15 by revert h; decide) hn))
      iexact Ho
    · isplitl [Hx]; · iexact Hx
      iapply (Entails.of_eq (show (bigSep Finset.univ fun r => iprop(Sent c (true, 0, r) ∗ Sent c (false, 0, r)))
        = iprop(firsts (Sent c) true ∗ firsts (Sent c) false) by unfold firsts; rw [← bigSep_sep']))
      iexact HS

/-- all rounds, -/
theorem phase2 :
    Spec c (each (roundOp q (tab 1 c) hp sc) hops15 >>= fun _ =>
        (each (stepOp q 15) segs4 >>= fun _ => blockOp (tab 1 c) hp sc false 15 (Nat.lt_succ_self 15) 16))
      iprop(((Ctx X K ∗ OW c (roundsO c hops15)) ∗ (Ro Wv c ∗ Out X Wv sc c (DoneR c hops15)))
        ∗ bigSep Finset.univ fun h : Fin 16 => bigSep Finset.univ (stepA c h))
      iprop(((Ctx X K ∗ OW c 0) ∗ (Ro Wv c ∗ Out X Wv sc c (fun _ => True)))
        ∗ bigSep Finset.univ fun h : Fin 16 => bigSep Finset.univ (stepB X c h)) := by
  rw [fin_last (fun h : Fin 16 => bigSep Finset.univ (stepA c h)), fin_last (fun h : Fin 16 => bigSep Finset.univ (stepB X c h))]
  have s1 := rounds_spec X K Wv sc c q hq hp
  have s2 := last_spec X K Wv sc c q hq hp
  refine spec_seq (spec_conseq (spec_frame (bigSep Finset.univ (stepA c 15)) s1) ?_ .rfl)
    (spec_conseq (spec_frame (bigSep Finset.univ fun h : Fin 15 => bigSep Finset.univ (stepB X c h.castSucc)) s2) ?_ ?_)
  · iintro ⟨H, Hl, Hr⟩
    isplitr [Hl]
    · isplitl [H]; · iexact H
      iexact Hr
    · iexact Hl
  · iintro ⟨⟨H, Hr⟩, Hl⟩
    isplitr [Hr]
    · isplitl [H] <;> iassumption
    · iexact Hr
  · iintro ⟨⟨H, Hl⟩, Hr⟩
    isplitl [H]; · iexact H
    isplitl [Hl]; · iexact Hl
    iexact Hr

omit hq in
/-- and the waits for all that was sent. -/
theorem phase3 :
    Spec c (each (sentAll (F := F) true) hops16 >>= fun _ => each (sentAll false) hops16)
      iprop((Ctx X K ∗ OW c 0) ∗ ((ways (WK c) true ∗ ways (Sent c) true) ∗ (ways (WK c) false ∗ ways (Sent c) false)))
      iprop((Ctx X K ∗ OW c 0) ∗ (ways (Back X c) true ∗ ways (Back X c) false)) := by
  have e : ∀ w, (bigSep Finset.univ fun h : Fin 16 => bigSep Finset.univ fun r => iprop(atJ (WK (F := F) c) w h.val r ∗ atJ (Sent c) w h.val r))
      = iprop(ways (WK c) w ∗ ways (Sent c) w) := fun w => by
    rw [← ways_sep]; unfold ways
    exact bigSep_congr fun h _ => bigSep_congr fun r _ => (atJ_sep _ _ w h.val r).symm
  have s : ∀ w, Spec c (each (sentAll (F := F) w) hops16)
      iprop((Ctx X K ∗ OW c 0) ∗ (ways (WK c) w ∗ ways (Sent c) w)) iprop((Ctx X K ∗ OW c 0) ∗ ways (Back X c) w) := fun w => by
    have h := drain_spec X K c w
    rw [e] at h
    exact h
  have s1 := s true
  have s2 := s false
  refine spec_seq (spec_conseq (spec_frame iprop(ways (WK c) false ∗ ways (Sent c) false) s1) ?_ .rfl)
    (spec_conseq (spec_frame (ways (Back X c) true) s2) ?_ ?_)
  · iintro ⟨H, Ha, Hb⟩
    isplitr [Hb]
    · isplitl [H] <;> iassumption
    · iexact Hb
  · iintro ⟨⟨H, Ha⟩, Hb⟩
    isplitr [Ha]
    · isplitl [H] <;> iassumption
    · iexact Ha
  · iintro ⟨⟨H, Hb⟩, Ha⟩
    isplitl [H]; · iexact H
    isplitl [Ha] <;> iassumption

theorem ring_spec :
    Spec c ((each (fun r => sendOp (q true) true 0 r >>= fun _ => sendOp (q false) false 0 r) segs4 >>= fun _ => ownOp c sc) >>= fun _ =>
      ((each (roundOp q (tab 1 c) hp sc) hops15 >>= fun _ =>
        (each (stepOp q 15) segs4 >>= fun _ => blockOp (tab 1 c) hp sc false 15 (Nat.lt_succ_self 15) 16)) >>= fun _ =>
        (each (sentAll true) hops16 >>= fun _ => each (sentAll false) hops16)))
      (ringPre X K Wv sc c) (ringPost X K Wv sc c) := by
  unfold ringPre ringPost
  refine spec_seq (spec_conseq (spec_frame iprop((ways (WK c) true ∗ ways (WK c) false)
      ∗ bigSep Finset.univ fun h : Fin 16 => bigSep Finset.univ (stepA c h)) (phase1 X K Wv sc c q hq)) ?_ .rfl)
    (spec_seq (spec_conseq (spec_frame iprop((ways (WK c) true ∗ ways (WK c) false)
      ∗ (xL c ↦{fullShare.right} X c) ∗ (firsts (Sent c) true ∗ firsts (Sent c) false)) (phase2 X K Wv sc c q hq hp)) ?_ .rfl)
    (spec_conseq (spec_frame iprop((Ro Wv c ∗ Out X Wv sc c (fun _ => True)) ∗ (xL c ↦{fullShare.right} X c)
      ∗ (ways (RD X c) true ∗ ways (RD X c) false)) (phase3 X K c)) ?_ ?_))
  · rw [ways_eq (SK c), ways_eq (SK c)]
    iintro ⟨HO, HR, Hx, ⟨Hr, ⟨Hs, Hn⟩, Hw⟩, Hr', ⟨Hs', Hn'⟩, Hw'⟩
    isplitl [HO HR Hx Hs Hs']
    · isplitl [HO]; · iexact HO
      isplitl [HR]; · iexact HR
      isplitl [Hx]; · iexact Hx
      isplitl [Hs] <;> iassumption
    · isplitl [Hw Hw']
      · isplitl [Hw] <;> iassumption
      · iapply (steps_in c)
        isplitl [Hr Hn]
        · isplitl [Hr] <;> iassumption
        · isplitl [Hr'] <;> iassumption
  · iintro ⟨⟨HO, Hx, HS⟩, HW, HA⟩
    isplitl [HO HA]
    · isplitl [HO]; · iexact HO
      iexact HA
    · isplitl [HW]; · iexact HW
      isplitl [Hx] <;> iassumption
  · iintro ⟨⟨⟨HO, HR⟩, HB⟩, ⟨Hw, Hw'⟩, Hx, Hs, Hs'⟩
    ihave H := (steps_out X c) $$ HB
    icases H with ⟨⟨Hr, Hn⟩, Hr', Hn'⟩
    rw [ways_eq (Sent c), ways_eq (Sent c)]
    isplitl [HO Hw Hw' Hs Hs' Hn Hn']
    · isplitl [HO]; · iexact HO
      isplitl [Hw Hs Hn]
      · isplitl [Hw]; · iexact Hw
        isplitl [Hs] <;> iassumption
      · isplitl [Hw']; · iexact Hw'
        isplitl [Hs'] <;> iassumption
    · isplitl [HR]; · iexact HR
      isplitl [Hx]; · iexact Hx
      isplitl [Hr] <;> iassumption
  · rw [back_split, back_split]
    iintro ⟨⟨HO, ⟨Hv, Hs, Hn⟩, Hv', Hs', Hn'⟩, HR, Hx, Hr, Hr'⟩
    isplitl [HO]; · iexact HO
    isplitl [HR]; · iexact HR
    isplitl [Hs Hs' Hx]
    · iapply (own_join X c)
      isplitr [Hx]
      · isplitl [Hs] <;> iassumption
      · iexact Hx
    isplitl [Hr Hn Hv]
    · isplitr [Hv]
      · iapply (ways_landed X c true)
        isplitl [Hr] <;> iassumption
      · iexact Hv
    · isplitr [Hv']
      · iapply (ways_landed X c false)
        isplitl [Hr'] <;> iassumption
      · iexact Hv'

end Cert.KernelIdeal.Ring

end
-- ==== Proof.KI.Start.lean ====
/- The body from start to end: the tables read, the barrier with both neighbours, then the transfers and products. -/
module

public import proofs.«01_k».proof.Proof.KI.Run

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S128x4096.Idx → Elt F .fp8e4m3) (K : GSem nD τ sig → ℕ) (Wv : S4096x64.Idx → Elt F .fp8e5m2)
  (scA : S1.Idx → Elt F .f32) (c : Dev nD)

/-- What sending needs that is a device's own from launch. -/
def TK (j : Job) : sProp 𝕄 :=
  iprop(dutyTok ER (sCell c j) 0 true ∗ dutyTok ER (rCell (nb j.1 c) j) 0 true ∗ reached ER (sCell c j) 0)

/-- What the barrier needs: the place at the own, and the right to signal both neighbours'. -/
def BK : sProp 𝕄 :=
  iprop(atPos ER (barCell c) 0 ∅ 0 ∗ cred (tallyAt (barCell c) () 2)
    ∗ (dutyTok ER (barCell (nb false c)) 0 true ∗ reached ER (barCell (nb false c)) 0)
    ∗ (dutyTok ER (barCell (nb true c)) 0 false ∗ reached ER (barCell (nb true c)) 0))

theorem nb_true_false : nb true (nb false c) = c := by simpa using nb_nb false c
theorem nb_false_true : nb false (nb true c) = c := by simpa using nb_nb true c

theorem give_ways (d : Dev nD) (w : Bool) : give (F := F) d w = ways (giveSeg d) w := by
  unfold give ways
  refine bigSep_congr fun h _ => bigSep_congr fun r _ => ?_
  unfold atJ
  rw [dif_pos h.isLt]

/-- The neighbour's landing segments complete what sending needs. -/
theorem ways_SK (w : Bool) : iprop(ways (TK (F := F) c) w ∗ give (nb w c) w) ⊢ ways (SK c) w := by
  rw [give_ways]
  have e : ways (giveSeg (F := F) (nb w c)) w = ways (fun j => giveSeg (nb j.1 c) j) w := by
    unfold ways
    refine bigSep_congr fun h _ => bigSep_congr fun r _ => ?_
    by_cases hj : live w h.val r = true
    · rw [atJ_live _ h.isLt hj, atJ_live _ h.isLt hj]
    · rw [atJ_dead _ fun h => hj h.2, atJ_dead _ fun h => hj h.2]
  rw [e, ← ways_sep]
  unfold ways
  refine each_mono fun h _ => each_mono fun r _ => ?_
  by_cases hj : live w h.val r = true
  · rw [atJ_live _ h.isLt hj, atJ_live _ h.isLt hj]
    unfold TK SK
    iintro ⟨⟨H1, H2, H3⟩, H4⟩
    isplitl [H1]; · iexact H1
    isplitl [H2]; · iexact H2
    isplitl [H3] <;> iassumption
  · rw [atJ_dead _ fun h => hj h.2, atJ_dead _ fun h => hj h.2]

/-- The scale as the word the body loads. -/
def scOf : Elt F .f32 := scA (ix1 (0 : Fin 1))
theorem sc_read (x : S1.Idx) :
    ((scM.access (Rect.unit (s := S1) ![0] S1.size inb_S1_S1_0)).read (Elt F) scA x : Elt F .f32) = scOf scA := by
  refine congrArg scA ?_
  show (Rect.unit (s := S1) ![0] S1.size inb_S1_S1_0).emb x = ix1 (0 : Fin 1)
  funext k
  apply Fin.ext
  rw [ValueKit.rect_emb_unit_val]
  match k with
  | 0 => have : (x 0).val < 1 := (x 0).isLt; show 0 + (x 0).val = 0; omega

/-- What the body needs, -/
def bodyPre : sProp 𝕄 :=
  iprop((Ctx X K ∗ OW c (O₀ c)) ∗ BK c
    ∗ ((tabL c ↦{fullShare} tabV (F := F)) ∗ (scL c ↦{fullShare} scA) ∗ (wL c ↦{fullShare} Wv) ∗ (∃ g, outL c ↦{fullShare} g) ∗ (xL c ↦{fullShare} X c))
    ∗ (give c true ∗ give c false)
    ∗ ((ways (RK c) true ∗ ways (TK c) true ∗ ways (WK c) true) ∗ (ways (RK c) false ∗ ways (TK c) false ∗ ways (WK c) false)))
/-- and what it leaves. -/
def bodyPost : sProp 𝕄 :=
  iprop(OW c 0 ∗ semVal (barCell c) 0
    ∗ ((tabL c ↦{fullShare} tabV (F := F)) ∗ (scL c ↦{fullShare} scA) ∗ (wL c ↦{fullShare} Wv) ∗ (outL c ↦{fullShare} Y X Wv (scOf scA))
      ∗ (xL c ↦{fullShare} X c))
    ∗ ((ways (Landed X c) true ∗ ways (SV c) true) ∗ (ways (Landed X c) false ∗ ways (SV c) false)))

theorem ringOp_spec (q : Bool → Dev nD) (hq : ∀ w, q w = nb w c) (hp : k0_chk3 (tab 1 c)) :
    Spec c (ringOp c q (tab 1 c) hp) (bodyPre X K Wv scA c) (bodyPost X Wv scA c) := by
  intro Kt
  obtain rfl : q = fun w => nb w c := funext hq
  have hs := ring_spec X K Wv (scOf scA) c (fun w => nb w c) (fun _ => rfl) hp
  unfold Spec at hs
  simp only [Prog.bind_assoc] at hs
  unfold ringOp smemLoad bodyPre bodyPost BK OW
  simp only [semSignalWord, semWaitWord, Prog.lift, Prog.bind_op, Prog.bind_ret, Prog.pure_eq_ret, Prog.bind_assoc, smemLoadElt]
  iintro ⟨⟨⟨#HC, ⟨%W, HO⟩⟩, ⟨Hat, Hcr, ⟨HtF, #HrF⟩, HtT, #HrT⟩, ⟨Ht, Hsc, Hw, ⟨%g, Ho⟩, Hx⟩, ⟨HgT, HgF⟩,
    ⟨HR, HT, HW⟩, HR', HT', HW'⟩, Hk⟩
  ihave HC' := (show Ctx X K ⊢ iprop(invs X K ∗ levAts L lv) from .rfl) $$ HC
  icases HC' with ⟨#HI, #Hlev⟩
  ihave HIb := (inv_bar X K c) $$ HI
  icases HIb with #HIb
  ihave HIf := (inv_bar X K (nb false c)) $$ HI
  icases HIf with #HIf
  ihave HIt := (inv_bar X K (nb true c)) $$ HI
  icases HIt with #HIt
  iapply (Rounds.wp_signal 𝒱₀ ER (ringRd X) (c : Thread nD τ) none (dst := (nb false c : Thread nD τ)) (sem := barS) (r := 0) (d := true) (κ := K (barCell (nb false c)))
      (by rw [duties_bar]; exact Finset.mem_univ _) (amount_bar X (nb false c) true) () (sendsO c + tallyAt (barCell (nb true c)) () 1) rfl)
    $$ [HO HtF HgT]
  · isplitr; · iexact HIf
    isplitl [HO]; · iexact HO
    isplitl [HtF]; · iexact HtF
    isplitl [HgT]
    · rw [payload_bar]; unfold barPay; rw [nb_true_false]
      iexact HgT
    · iexact HrF
  iintro HO
  iapply (Rounds.wp_signal 𝒱₀ ER (ringRd X) (c : Thread nD τ) none (dst := (nb true c : Thread nD τ)) (sem := barS) (r := 0) (d := false) (κ := K (barCell (nb true c)))
      (by rw [duties_bar]; exact Finset.mem_univ _) (amount_bar X (nb true c) false) () (sendsO c) rfl)
    $$ [HO HtT HgF]
  · isplitr; · iexact HIt
    isplitl [HO]; · iexact HO
    isplitl [HtT]; · iexact HtT
    isplitl [HgF]
    · rw [payload_bar]; unfold barPay; rw [nb_false_true]
      iexact HgF
    · iexact HrT
  iintro HO
  iapply (Rounds.wp_wait_rest_token 𝒱₀ ER (ringRd X) (c : Thread nD τ) none (κ := K (barCell c))
      (wpE_semWait_eq 𝒱₀ (c : Thread nD τ) none Set.univ) (Set.mem_univ _) () (O := sendsO c) (W := W) (R := 0) (m := 0) (T := ∅)
      ((Nat.zero_add _).trans (expect_bar X c).symm)) $$ [Hcr HO Hat]
  · isplitr; · iexact HIb
    isplitl [Hcr]; · iexact Hcr
    isplitl [HO]; · iexact HO
    isplitr
    · iapply (mayWait c (.reg barS) (sendsO c) (by
        rw [lv_bar]
        exact above_add (above_roundsO c _ fun h _ => by omega) (above_segsO c _ _ (by decide))))
      iexact Hlev
    iexact Hat
  iintro ⟨HO, Hat, -, Hpay⟩
  ihave Hp := (Entails.of_eq (rest_bar X c)) $$ Hpay
  unfold barPay
  imod (close X (K (barCell c)) (barCell c)) $$ [Hat] with Hb0
  · isplitr; · iexact HIb
    iexact Hat
  icases Hp with ⟨HgF, HgT⟩
  iapply (wp_load_rect 𝒱₀ (c : Thread nD τ) none Set.univ (m := scM)
    (r := Rect.unit (s := S1) ![0] S1.size inb_S1_S1_0) (Finset.subset_univ _)) $$ Hsc
  iintro Hsc
  rw [sc_read scA]
  iapply (hs Kt)
  isplitr [Hk Hb0 Hsc]
  · unfold ringPre Ro Out OW
    isplitl [HO]
    · isplitr; · iexact HC
      iexists _; iexact HO
    isplitl [Hw Ht Ho]
    · isplitl [Hw Ht]
      · isplitl [Hw] <;> iassumption
      · iexists g
        isplitr
        · ipureintro; exact fun _ h => h.elim
        · iexact Ho
    isplitl [Hx]; · iexact Hx
    isplitl [HR HT HW HgT]
    · isplitl [HR]; · iexact HR
      isplitr [HW]
      · iapply (ways_SK c true); isplitl [HT] <;> iassumption
      · iexact HW
    · isplitl [HR']; · iexact HR'
      isplitr [HW']
      · iapply (ways_SK c false); isplitl [HT'] <;> iassumption
      · iexact HW'
  · unfold ringPost Ro Out
    iintro ⟨⟨-, HO⟩, ⟨⟨Hw, Ht⟩, ⟨%g', %hg', Ho⟩⟩, Hx, HL⟩
    obtain rfl : g' = Y X Wv (scOf scA) := funext fun i => hg' i trivial
    iapply Hk
    isplitl [HO]; · unfold OW; iexact HO
    isplitl [Hb0]; · iexact Hb0
    isplitl [Hw Ht Ho Hx Hsc]
    · isplitl [Ht]; · iexact Ht
      isplitl [Hsc]; · iexact Hsc
      isplitl [Hw]; · iexact Hw
      isplitl [Ho] <;> iassumption
    · iexact HL

/-- The whole body. -/
theorem bodyOp_spec : Spec c bodyOp (bodyPre X K Wv scA c) (bodyPost X Wv scA c) := by
  intro Kt
  unfold bodyOp smemLoad
  simp only [Prog.lift, Prog.bind_op, Prog.bind_ret, Prog.pure_eq_ret, Prog.bind_assoc, smemLoadElt, wp_deviceId]
  unfold bodyPre
  iintro ⟨⟨HO, HB, ⟨Ht, Hwin⟩, HR⟩, Hk⟩
  iapply (wp_load_rect 𝒱₀ (c : Thread nD τ) none Set.univ (m := tabM)
    (r := Rect.unit (s := S4x32) (k0_off1 c) S1x1.size (k0_off1_inb c)) (Finset.subset_univ _)) $$ Ht
  iintro Ht
  rw [tab_read (F := F) 1 c (k0_off1 c) (k0_off1_inb c) (k0_off1_eq c)]
  iapply (wp_assume 𝒱₀ (c : Thread nD τ) none Set.univ (chk3 c))
  iapply (wp_load_rect 𝒱₀ (c : Thread nD τ) none Set.univ (m := tabM)
    (r := Rect.unit (s := S4x32) (k0_off2 c) S1x1.size (k0_off2_inb c)) (Finset.subset_univ _)) $$ Ht
  iintro Ht
  rw [tab_read (F := F) 2 c (k0_off2 c) (k0_off2_inb c) (k0_off2_eq c)]
  iapply (wp_assume 𝒱₀ (c : Thread nD τ) none Set.univ (chk2 c))
  iapply (wp_load_rect 𝒱₀ (c : Thread nD τ) none Set.univ (m := tabM)
    (r := Rect.unit (s := S4x32) (k0_off3 c) S1x1.size (k0_off3_inb c)) (Finset.subset_univ _)) $$ Ht
  iintro Ht
  rw [tab_read (F := F) 3 c (k0_off3 c) (k0_off3_inb c) (k0_off3_eq c)]
  iapply (wp_assume 𝒱₀ (c : Thread nD τ) none Set.univ (chk1 c))
  iapply (ringOp_spec X K Wv scA c _ (fun w => by
    cases w
    · exact Fin.ext (dev1 c)
    · exact Fin.ext (dev2 c)) (chk3 c) Kt)
  isplitr [Hk]
  · unfold bodyPre
    isplitl [HO]; · iexact HO
    isplitl [HB]; · iexact HB
    isplitl [Ht Hwin]
    · isplitl [Ht] <;> iassumption
    · iexact HR
  · iexact Hk

end Cert.KernelIdeal.Ring

end
-- ==== Proof.KI.Ghost.lean ====
/- What a device holds before its body runs: the families over all transfers, the landing buffer cut into segments, the
   semaphores put under the protocol. -/
module

public import proofs.«01_k».proof.Proof.KI.Start
public import Idealize.ShloMosaic.Harness.Basic

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the transfers -/

/-- What every transfer has, -/
def jobs (P : Job → sProp 𝕄) : sProp 𝕄 := bigSep Finset.univ fun j : Job => if liv j = true then P j else iprop(emp)
/-- and what is left over of a family over all indices. -/
def dead (P : Job → sProp 𝕄) : sProp 𝕄 := bigSep Finset.univ fun j : Job => if liv j = true then iprop(emp) else P j

theorem jobs_dead (P : Job → sProp 𝕄) : bigSep Finset.univ P = iprop(jobs P ∗ dead P) := by
  unfold jobs dead
  rw [← bigSep_sep']
  refine bigSep_congr fun j _ => ?_
  by_cases hj : liv j = true
  · rw [if_pos hj, if_pos hj]; exact (sep_nil _).symm
  · rw [if_neg hj, if_neg hj]; exact (nil_sep _).symm

theorem jobs_sep (P Q : Job → sProp 𝕄) : jobs (fun j => iprop(P j ∗ Q j)) = iprop(jobs P ∗ jobs Q) := by
  unfold jobs
  rw [← bigSep_sep']
  refine bigSep_congr fun j _ => ?_
  by_cases hj : liv j = true
  · rw [if_pos hj, if_pos hj, if_pos hj]
  · rw [if_neg hj, if_neg hj, if_neg hj]; exact (nil_sep _).symm

theorem jobs_mono {P Q : Job → sProp 𝕄} (h : ∀ j, liv j = true → (P j ⊢ Q j)) : jobs P ⊢ jobs Q := by
  unfold jobs
  refine each_mono fun j _ => ?_
  by_cases hj : liv j = true
  · rw [if_pos hj, if_pos hj]; exact h j hj
  · rw [if_neg hj, if_neg hj]

theorem jobs_ways (P : Job → sProp 𝕄) : jobs P = iprop(ways P true ∗ ways P false) := by
  have e (w : Bool) : (bigSep Finset.univ fun p : Fin 16 × Fin 4 => if liv (w, p) = true then P (w, p) else iprop(emp)) = ways P w := by
    rw [bigSep_univ_prod]
    unfold ways
    refine bigSep_congr fun h _ => bigSep_congr fun r _ => ?_
    by_cases hj : live w h.val r = true
    · rw [atJ_live P h.isLt hj]; exact if_pos hj
    · rw [atJ_dead P fun h => hj h.2]; exact if_neg hj
  unfold jobs
  rw [bigSep_univ_prod, ← e, ← e]
  exact bigSep_univ_eq_bigSepL [true, false] (by decide) (by decide) _

/-! ## The landing buffer -/

/-- The transfer that fills a segment. -/
def filler (p : Fin 32 × Fin 4) : Job :=
  if p.1.val < 16 ∨ (p.1.val = 16 ∧ p.2.val < 2) then (true, ⟨(p.1.val - 1) % 16, Nat.mod_lt _ (by decide)⟩, p.2)
  else (false, ⟨(p.1.val - 1) % 16, Nat.mod_lt _ (by decide)⟩, p.2)

theorem filler_slot : ∀ j : Job, liv j = true → filler (slot j.1 j.2.1, j.2.2) = j ∧ (slot j.1 j.2.1).val ≠ 0 := by decide +kernel
theorem slot_filler : ∀ p : Fin 32 × Fin 4, p.1.val ≠ 0 → liv (filler p) = true ∧ (slot (filler p).1 (filler p).2.1, (filler p).2.2) = p := by
  decide +kernel

/-- The segments are those of slot 0 and one for each transfer. -/
theorem slots_split (P : Fin 32 × Fin 4 → sProp 𝕄) :
    bigSep Finset.univ P = iprop((bigSep Finset.univ fun r : Fin 4 => P (0, r)) ∗ jobs fun j => P (slot j.1 j.2.1, j.2.2)) := by
  rw [BI.bigSep_filter_split Finset.univ fun p : Fin 32 × Fin 4 => p.1.val = 0]
  have h1 : (Finset.univ.filter fun p : Fin 32 × Fin 4 => p.1.val = 0) = Finset.univ.image fun r : Fin 4 => ((0 : Fin 32), r) := by
    ext p
    simp only [Finset.mem_filter, Finset.mem_univ, true_and, Finset.mem_image]
    exact ⟨fun h => ⟨p.2, Prod.ext (Fin.ext h.symm) rfl⟩, by rintro ⟨r, rfl⟩; rfl⟩
  have h2 : (Finset.univ.filter fun p : Fin 32 × Fin 4 => ¬ p.1.val = 0)
      = (Finset.univ.filter fun j : Job => liv j = true).image fun j => (slot j.1 j.2.1, j.2.2) := by
    ext p
    simp only [Finset.mem_filter, Finset.mem_univ, true_and, Finset.mem_image]
    exact ⟨fun h => ⟨filler p, slot_filler p h⟩, by rintro ⟨j, hj, rfl⟩; exact (filler_slot j hj).2⟩
  have i1 : Set.InjOn (fun r : Fin 4 => ((0 : Fin 32), r)) (Finset.univ : Finset (Fin 4)) := fun a _ b _ h => congrArg Prod.snd h
  have i2 : Set.InjOn (fun j : Job => (slot j.1 j.2.1, j.2.2)) (Finset.univ.filter fun j : Job => liv j = true : Finset Job) := by
    intro a ha b hb h
    have ha' := (Finset.mem_filter.mp ha).2
    have hb' := (Finset.mem_filter.mp hb).2
    rw [← (filler_slot a ha').1, ← (filler_slot b hb').1]
    exact congrArg filler h
  rw [h1, h2, bigSep_image_of_injOn i1, bigSep_image_of_injOn i2, bigSep_filter]
  rfl

section Comm

variable (c : Dev nD)

/-- Slot 0, which nothing lands in. -/
def slot0 : sProp 𝕄 := bigSep Finset.univ fun r : Fin 4 => iprop(∃ f, landPts (F := F) c 0 r fullShare f)
/-- The segment a transfer fills. -/
def landAny (j : Job) : sProp 𝕄 := iprop(∃ f, landPts (F := F) c (slot j.1 j.2.1) j.2.2 fullShare f)

theorem land_apart (p p' : Fin 32 × Fin 4) (h : p ≠ p') : Disjoint (landS p.1 p.2) (landS p'.1 p'.2) := land_disj p.1 p'.1 p.2 p'.2 h

theorem comm_open (f : S32x128x4096.Idx → Elt F .fp8e4m3) : (commL c ↦{fullShare} f : sProp 𝕄) ⊢ iprop(slot0 c ∗ jobs (landAny c)) := by
  have h := Idealize.ShloMosaic.Ring.pointsTo_blocks (ℓ := commL c) (Val := Elt F) (Ix := Unit) (Name := ℕ) (U := UU) (Lvl := ℕ)
    (fun p : Fin 32 × Fin 4 => landS p.1 p.2) land_apart land_univ (q := fullShare) f
  rw [h]
  have e := slots_split (F := F) fun p => iprop(∃ f, landPts (F := F) c p.1 p.2 fullShare f)
  refine (each_mono fun p _ => ?_).trans (Entails.of_eq e)
  unfold landPts
  iintro H
  iexists f
  iexact H

theorem comm_close (f₀ : S32x128x4096.Idx → Elt F .fp8e4m3) : iprop(slot0 (F := F) c ∗ jobs (landAny c)) ⊢ (iprop(∃ f, commL c ↦{fullShare} f) : sProp 𝕄) := by
  have h := Idealize.ShloMosaic.Ring.pointsTo_blocks_join_exists (ℓ := commL c) (Val := Elt F) (Ix := Unit) (Name := ℕ) (U := UU) (Lvl := ℕ)
    (fun p : Fin 32 × Fin 4 => landS p.1 p.2) land_apart land_univ (q := fullShare) f₀
  have e := slots_split (F := F) fun p => iprop(∃ f, landPts (F := F) c p.1 p.2 fullShare f)
  exact (Entails.of_eq e.symm).trans h

end Comm

/-! ## The semaphores -/

/-- The semaphores the body owns: of each index the receiver's and the sender's. -/
def osem (k : Bool × Job) : SemLoc sig := bif k.1 then rL k.2 else sL k.2

theorem osem_facts : Pipeline.OwnSemFacts spec0 osem where
  isScoped := by decide +kernel
  inj := by
    have h : ∀ k, (match osem k with | .dma s => jobOf s | .reg _ => none) = some k := by
      rintro ⟨b, w, h, r⟩
      cases b
      · exact jobOf_s w h r
      · exact jobOf_r w h r
    intro a b hab
    have ha := h a
    rw [hab, h b] at ha
    exact (Option.some.inj ha).symm
  disj := by decide +kernel

theorem ownSems_eq (c : Dev nD) : (Pipeline.ownSems0 osem c : sProp 𝕄)
    = bigSep Finset.univ fun j : Job => iprop(semVal (rCell c j) 0 ∗ semVal (sCell c j) 0) := by
  unfold Pipeline.ownSems0
  rw [bigSep_univ_prod, bigSep_univ_comm]
  exact bigSep_congr fun j _ => bigSep_univ_eq_bigSepL [true, false] (by decide) (by decide) _

variable (X : Dev nD → S128x4096.Idx → Elt F .fp8e4m3) (K : GSem nD τ sig → ℕ) (c : Dev nD)

/-- The rights a device is dealt at launch: to put its semaphores under the protocol, to make its payments, to consume
    what the others owe it. -/
def rights (j : Job) : sProp 𝕄 :=
  iprop((openTok ER (sCell c j) ∗ openTok ER (rCell c j))
    ∗ (dutyTok ER (sCell c j) 0 true ∗ dutyTok ER (rCell (nb j.1 c) j) 0 true) ∗ cred (tallyAt (rCell c j) () N))
/-- What they give at the body. -/
def ready (j : Job) : sProp 𝕄 := iprop((RK c j ∗ TK c j ∗ WK c j) ∗ reached ER (rCell c j) 0)

def dealt : sProp 𝕄 := iprop((∃ K, invs X K) ∗ BK c ∗ jobs (rights c))
def opened : sProp 𝕄 :=
  iprop((∃ K, Ctx X K) ∗ BK c ∗ jobs (ready c) ∗ dead fun j => iprop(semVal (rCell c j) 0 ∗ semVal (sCell c j) 0))

theorem open_job (j : Job) (hj : liv j = true) :
    iprop(invs X K ∗ (rights c j ∗ (semVal (rCell c j) 0 ∗ semVal (sCell c j) 0))) ⊢ (|={Set.univ}=> ready c j : sProp 𝕄) := by
  unfold rights ready RK TK WK
  iintro ⟨HI, ⟨⟨HoS, HoR⟩, ⟨HtS, HtR⟩, Hcr⟩, HvR, HvS⟩
  ihave HI' := (inv_job X K c j hj) $$ HI
  icases HI' with ⟨#HIs, #HIr⟩
  imod (Rounds.cell_open ER (ringRd X) (g := sCell c j) (Set.mem_univ (K (sCell c j)))) $$ [HoS HvS] with ⟨HaS, #HrS⟩
  · isplitr; · iexact HIs
    isplitl [HoS] <;> iassumption
  imod (Rounds.cell_open ER (ringRd X) (g := rCell c j) (Set.mem_univ (K (rCell c j)))) $$ [HoR HvR] with ⟨HaR, #HrR⟩
  · isplitr; · iexact HIr
    isplitl [HoR] <;> iassumption
  imodintro
  isplitl [HaR Hcr HtS HtR HaS]
  · isplitl [HaR Hcr]; · isplitl [HaR] <;> iassumption
    isplitl [HtS HtR]
    · isplitl [HtS]; · iexact HtS
      isplitl [HtR]; · iexact HtR
      iexact HrS
    iexact HaS
  iexact HrR

theorem open_all : iprop(invs X K ∗ jobs fun j => iprop(rights c j ∗ (semVal (rCell c j) 0 ∗ semVal (sCell c j) 0)))
    ⊢ (|={Set.univ}=> jobs (ready c) : sProp 𝕄) := by
  unfold jobs
  refine (bigSep_with_persistent (R := invs X K) fun j _ => ?_).trans (bigSep_fupd _ _)
  by_cases hj : liv j = true
  · rw [if_pos hj, if_pos hj]; exact open_job X K c j hj
  · rw [if_neg hj, if_neg hj]
    iintro -
    imodintro
    iempintro

theorem open_launch : iprop(dealt X c ∗ Pipeline.ownSems0 osem c ∗ levAts L lv) ⊢ (|={Set.univ}=> opened X c : sProp 𝕄) := by
  rw [ownSems_eq, jobs_dead]
  unfold dealt opened
  iintro ⟨⟨⟨%K, #HI⟩, HB, HR⟩, ⟨Hv, Hd⟩, #Hlev⟩
  imod (open_all X K c) $$ [HR Hv] with Hr
  · isplitr; · iexact HI
    iapply (Entails.of_eq (jobs_sep (rights c) fun j => iprop(semVal (rCell c j) 0 ∗ semVal (sCell c j) 0)).symm)
    isplitl [HR] <;> iassumption
  imodintro
  isplitr
  · iexists K
    unfold Ctx
    isplitr; · iexact HI
    iexact Hlev
  isplitl [HB]; · iexact HB
  isplitl [Hr] <;> iassumption

/-- What the body starts from, with the windows' buffers, -/
theorem start_body (Wv : S4096x64.Idx → Elt F .fp8e5m2) (scA : S1.Idx → Elt F .f32) (f : S32x128x4096.Idx → Elt F .fp8e4m3) :
    iprop(OW c (O₀ c) ∗ Ctx X K ∗ BK c ∗ jobs (ready c) ∗ (commL c ↦{fullShare} f)
      ∗ ((tabL c ↦{fullShare} tabV (F := F)) ∗ (scL c ↦{fullShare} scA) ∗ (wL c ↦{fullShare} Wv) ∗ (∃ g, outL c ↦{fullShare} g) ∗ (xL c ↦{fullShare} X c)))
      ⊢ iprop(bodyPre X K Wv scA c ∗ slot0 c) := by
  have e : jobs (ready (F := F) c) = iprop((jobs (RK c) ∗ jobs (TK c) ∗ jobs (WK c)) ∗ jobs fun j => reached ER (rCell c j) 0) := by
    show jobs (fun j => iprop((RK c j ∗ TK c j ∗ WK c j) ∗ reached ER (rCell c j) 0)) = _
    rw [jobs_sep, jobs_sep, jobs_sep]
  have g : iprop(jobs (landAny (F := F) c) ∗ jobs fun j => reached ER (rCell c j) 0) = iprop(give c true ∗ give c false) := by
    rw [give_ways, give_ways, ← jobs_ways, ← jobs_sep]
    rfl
  rw [e]
  unfold bodyPre
  iintro ⟨HO, HC, HB, ⟨⟨HR, HT, HW⟩, Hre⟩, Hf, Hwin⟩
  ihave Hc := (comm_open c f) $$ Hf
  icases Hc with ⟨H0, Hl⟩
  ihave Hg := (Entails.of_eq g) $$ [Hl Hre]
  · isplitl [Hl] <;> iassumption
  ihave HR' := (Entails.of_eq (jobs_ways (RK c))) $$ HR
  ihave HT' := (Entails.of_eq (jobs_ways (TK c))) $$ HT
  ihave HW' := (Entails.of_eq (jobs_ways (WK c))) $$ HW
  icases HR' with ⟨HRt, HRf⟩
  icases HT' with ⟨HTt, HTf⟩
  icases HW' with ⟨HWt, HWf⟩
  isplitr [H0]
  · isplitl [HC HO]; · isplitl [HC] <;> iassumption
    isplitl [HB]; · iexact HB
    isplitl [Hwin]; · iexact Hwin
    isplitl [Hg]; · iexact Hg
    isplitl [HRt HTt HWt]
    · isplitl [HRt]; · iexact HRt
      isplitl [HTt] <;> iassumption
    isplitl [HRf]; · iexact HRf
    isplitl [HTf] <;> iassumption
  iexact H0

/-- and what it ends with. -/
theorem end_body (Wv : S4096x64.Idx → Elt F .fp8e5m2) (scA : S1.Idx → Elt F .f32) :
    iprop(bodyPost X Wv scA c ∗ slot0 c ∗ dead fun j => iprop(semVal (rCell c j) 0 ∗ semVal (sCell c j) 0))
      ⊢ iprop(OW c 0 ∗ semVal (barCell c) 0
        ∗ ((tabL c ↦{fullShare} tabV (F := F)) ∗ (scL c ↦{fullShare} scA) ∗ (wL c ↦{fullShare} Wv) ∗ (outL c ↦{fullShare} Y X Wv (scOf scA))
          ∗ (xL c ↦{fullShare} X c))
        ∗ Pipeline.ownSems0 osem c ∗ (∃ f, commL c ↦{fullShare} f)) := by
  rw [ownSems_eq, jobs_dead, jobs_sep]
  unfold bodyPost
  have eL : jobs (Landed (F := F) X c) = iprop((jobs fun j => semVal (rCell c j) 0) ∗ jobs (recvPay X c)) := by
    show jobs (fun j => iprop(semVal (rCell c j) 0 ∗ recvPay X c j)) = _
    rw [jobs_sep]
  iintro ⟨⟨HO, Hb, Hwin, ⟨HLt, HSt⟩, HLf, HSf⟩, H0, Hd⟩
  ihave HL := (Entails.of_eq (jobs_ways (Landed X c)).symm) $$ [HLt HLf]
  · isplitl [HLt] <;> iassumption
  ihave HS := (Entails.of_eq (jobs_ways (SV (F := F) c)).symm) $$ [HSt HSf]
  · isplitl [HSt] <;> iassumption
  ihave HL' := (Entails.of_eq eL) $$ HL
  icases HL' with ⟨Hr, Hp⟩
  ihave Hp' := (jobs_mono (P := recvPay X c) (Q := landAny c) fun j _ => by
    unfold recvPay landAny
    iintro H
    iexists G X c
    iexact H) $$ Hp
  isplitl [HO]; · iexact HO
  isplitl [Hb]; · iexact Hb
  isplitl [Hwin]; · iexact Hwin
  isplitr [H0 Hp']
  · isplitl [Hr HS]
    · isplitl [Hr]; · iexact Hr
      iexact HS
    iexact Hd
  iapply (comm_close c (G X c))
  isplitl [H0] <;> iassumption

end Cert.KernelIdeal.Ring

end
-- ==== Proof.KI.Credit.lean ====
/- What the devices owe a cell between them when they start. -/
module

public import proofs.«01_k».proof.Proof.KI.Ghost

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The sends counted as a sum over the transfers -/

theorem segs_sum {A : Type} [AddCommMonoid A] (f : Fin 4 → A) : (segs4.map f).sum = ∑ r, f r := by
  rw [show segs4 = List.finRange 4 by decide]; exact (Fin.sum_univ_def f).symm
theorem hops_sum {A : Type} [AddCommMonoid A] (f : Fin 15 → A) : (hops15.map f).sum = ∑ h, f h := by
  rw [show hops15 = List.finRange 15 by decide]; exact (Fin.sum_univ_def f).symm

theorem sends_sum (d : Dev nD) : sendsO d = ∑ h : Fin 16, ∑ r : Fin 4, segO d h.val r := by
  unfold sendsO roundsO segsO
  rw [hops_sum, Fin.sum_univ_succ, add_comm]
  simp only [segs_sum]
  rfl

/-- The transfer `j`'s credit, owed by `d`, at the cell `g`. -/
def owesAtJob (d : Dev nD) (g : GSem nD τ sig) (j : Job) : ℕ := gO d j.1 j.2.1.val j.2.2 g ()

theorem sends_at (d : Dev nD) (g : GSem nD τ sig) : sendsO d g () = ∑ j : Job, owesAtJob d g j := by
  rw [sends_sum, Fintype.sum_prod_type, Fintype.sum_bool, Fintype.sum_prod_type, Fintype.sum_prod_type,
    ← Finset.sum_add_distrib, Finset.sum_apply, Finsupp.finset_sum_apply]
  refine Finset.sum_congr rfl fun h _ => ?_
  rw [← Finset.sum_add_distrib, Finset.sum_apply, Finsupp.finset_sum_apply]
  exact Finset.sum_congr rfl fun r _ => rfl

theorem owes_live (d : Dev nD) (g : GSem nD τ sig) (j : Job) (hj : liv j = true) :
    owesAtJob d g j = if g = rCell (nb j.1 d) j then N else 0 := by
  obtain ⟨w, h, r⟩ := j
  unfold owesAtJob gO
  have hj' : live w h.val r = true := hj
  rw [dif_pos h.isLt, hj', cond_true, tallyAt_apply]
  simp only [and_true]
theorem owes_dead (d : Dev nD) (g : GSem nD τ sig) (j : Job) (hj : ¬ liv j = true) : owesAtJob d g j = 0 := by
  obtain ⟨w, h, r⟩ := j
  unfold owesAtJob gO
  have hj' : live w h.val r = false := by simpa using hj
  rw [dif_pos h.isLt, hj', cond_false]
  rfl

theorem rL_inj : Function.Injective rL := fun j j' h => by
  have e : jobOf (rSem j.1 j.2.1 j.2.2) = jobOf (rSem j'.1 j'.2.1 j'.2.2) := congrArg jobOf (SemLoc.dma.inj h)
  rw [jobOf_r, jobOf_r] at e
  simpa using e

theorem sends_bar (d c : Dev nD) : sendsO d (barCell c) () = 0 := by
  rw [sends_at]
  refine Finset.sum_eq_zero fun j _ => ?_
  by_cases hj : liv j = true
  · rw [owes_live _ _ _ hj, if_neg]
    intro h
    have := congrArg Prod.snd h
    cases this
  · exact owes_dead _ _ _ hj

theorem sends_r (d c : Dev nD) (j : Job) (hj : liv j = true) : sendsO d (rCell c j) () = if d = nb (!j.1) c then N else 0 := by
  rw [sends_at, Finset.sum_eq_single j]
  · rw [owes_live _ _ _ hj]
    refine if_congr ⟨fun h => ?_, fun h => ?_⟩ rfl rfl
    · have e : c = nb j.1 d := congrArg (fun g : GSem nD τ sig => g.1.1) h
      rw [e]; exact (nb_nb j.1 d).symm
    · rw [h, nb_nb']
  · intro j' _ hne
    by_cases hj' : liv j' = true
    · rw [owes_live _ _ _ hj', if_neg]
      intro h
      exact hne (rL_inj (congrArg Prod.snd h)).symm
    · exact owes_dead _ _ _ hj'
  · exact fun h => absurd (Finset.mem_univ j) h

theorem bar_one (d c : Dev nD) (w : Bool) :
    (tallyAt (barCell (nb w d)) () 1 : CellTallies nD τ sig Unit) (barCell c) () = if d = nb (!w) c then 1 else 0 := by
  rw [tallyAt_apply]
  refine if_congr ⟨fun h => ?_, fun h => ⟨?_, rfl⟩⟩ rfl rfl
  · have e : c = nb w d := congrArg (fun g : GSem nD τ sig => g.1.1) h.1
    rw [e]; exact (nb_nb w d).symm
  · rw [h, nb_nb']

theorem owed_bar (c : Dev nD) : ∑ d, O₀ d (barCell c) () = 2 := by
  have e (d : Dev nD) : O₀ d (barCell c) () = (if d = nb (!true) c then 1 else 0) + (if d = nb (!false) c then 1 else 0) := by
    rw [← bar_one, ← bar_one]
    unfold O₀
    rw [Pi.add_apply, Finsupp.add_apply, Pi.add_apply, Finsupp.add_apply, sends_bar, Nat.zero_add]
  rw [Finset.sum_congr rfl fun d _ => e d, Finset.sum_add_distrib, Finset.sum_ite_eq', Finset.sum_ite_eq', if_pos (Finset.mem_univ _),
    if_pos (Finset.mem_univ _)]

theorem owed_r (c : Dev nD) (j : Job) (hj : liv j = true) : ∑ d, O₀ d (rCell c j) () = N := by
  have ne (d : Dev nD) : rCell c j ≠ barCell d := fun h => by have := congrArg Prod.snd h; cases this
  have e (d : Dev nD) : O₀ d (rCell c j) () = if d = nb (!j.1) c then N else 0 := by
    rw [← sends_r _ _ _ hj]
    unfold O₀
    rw [Pi.add_apply, Finsupp.add_apply, Pi.add_apply, Finsupp.add_apply, tallyAt_ne_cell (ne _), tallyAt_ne_cell (ne _),
      Finsupp.zero_apply, Nat.add_zero, Nat.add_zero]
  rw [Finset.sum_congr rfl fun d _ => e d, Finset.sum_ite_eq', if_pos (Finset.mem_univ _)]

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same]
  exact owed_bar c
theorem launch_r (c : Dev nD) (j : Job) (hj : liv j = true) :
    tallyOn (rCell c j) (launchCredit (Pipeline.owing O₀) 0 (rCell c j)) = (tallyAt (rCell c j) () N : CellTallies nD τ sig Unit) := by
  unfold tallyAt
  refine congrArg _ (Finsupp.ext fun u => ?_)
  cases u
  rw [Pipeline.launchCredit_owing, Finsupp.single_eq_same]
  exact owed_r c j hj

/-- What a device may consume of its cells: the units its neighbours owe. -/
theorem creds (c : Dev nD) :
    (Pipeline.launchCred O₀ c : sProp 𝕄) ⊢ iprop(cred (tallyAt (barCell c) () 2) ∗ jobs fun j => cred (tallyAt (rCell c j) () N)) := by
  unfold Pipeline.launchCred
  rw [bigSep_univ_at _ (SemLoc.reg barS), launch_bar]
  refine sep_mono_right ?_
  have hsub : Finset.univ.map ⟨rL, rL_inj⟩ ⊆ (Finset.univ.erase (SemLoc.reg barS) : Finset (SemLoc sig)) := fun s hs => by
    obtain ⟨j, -, rfl⟩ := Finset.mem_map.mp hs
    exact Finset.mem_erase.mpr ⟨fun h => (by cases h), Finset.mem_univ _⟩
  refine (BI.bigSep_subset hsub).trans ?_
  rw [bigSep_map, jobs_dead]
  refine Laws.sep_elim_left.trans (jobs_mono fun j hj => ?_)
  rw [← launch_r c j hj]
  exact .rfl

end Cert.KernelIdeal.Ring

end
-- ==== Proof.KI.Deal.lean ====
/- The protocol's state made at launch and dealt to the devices. -/
module

public import proofs.«01_k».proof.Proof.KI.Credit

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

def barEmb : Dev nD ↪ GSem nD τ sig := ⟨fun c => barCell c, fun _ _ h => congrArg (fun g : GSem nD τ sig => g.1.1) h⟩
def scEmb : Dev nD × (Bool × Job) ↪ GSem nD τ sig :=
  ⟨fun ck => ((ck.1 : Thread nD τ), osem ck.2), fun _ _ h =>
    Prod.ext (congrArg (fun g : GSem nD τ sig => g.1.1) h) (osem_facts.inj (congrArg Prod.snd h))⟩
def barCells : Finset (GSem nD τ sig) := Finset.univ.map barEmb
def scCells : Finset (GSem nD τ sig) := Finset.univ.map scEmb

/-- A token of each neighbour's on each barrier, -/
def barTokEmb : Dev nD × Bool ↪ GSem nD τ sig × ℕ × Bool :=
  ⟨fun cb => (barCell cb.1, 0, cb.2), fun _ _ h =>
    Prod.ext (congrArg (fun t : GSem nD τ sig × ℕ × Bool => t.1.1.1) h) (congrArg (fun t : GSem nD τ sig × ℕ × Bool => t.2.2) h)⟩
/-- one on each transfer's semaphores. -/
def jobTokEmb : Dev nD × (Bool × Job) ↪ GSem nD τ sig × ℕ × Bool :=
  ⟨fun ck => (scEmb ck, 0, true), fun _ _ h => scEmb.injective (congrArg Prod.fst h)⟩
def toks : Finset (GSem nD τ sig × ℕ × Bool) := Finset.univ.map barTokEmb ∪ Finset.univ.map jobTokEmb

theorem osem_ne_bar (k : Bool × Job) : osem k ≠ .reg barS := by
  obtain ⟨b, j⟩ := k
  cases b <;> exact fun h => (by cases h)

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem disjoint_toks : Disjoint (Finset.univ.map barTokEmb) (Finset.univ.map jobTokEmb) := by
  rw [Finset.disjoint_left]
  rintro g h₁ h₂
  obtain ⟨c, -, rfl⟩ := Finset.mem_map.mp h₁
  obtain ⟨ck, -, h⟩ := Finset.mem_map.mp h₂
  exact osem_ne_bar ck.2 (congrArg (fun t : GSem nD τ sig × ℕ × Bool => t.1.2) h)

theorem bar_sum (Φ : GSem nD τ sig → sProp 𝕄) : bigSep barCells Φ = bigSep Finset.univ fun c : Dev nD => Φ (barCell c) := by
  unfold barCells
  rw [bigSep_map]
  rfl

theorem bar_mem (c : Dev nD) : barCell c ∈ (barCells ∪ scCells : Finset (GSem nD τ sig)) :=
  Finset.mem_union_left _ (Finset.mem_map_of_mem barEmb (Finset.mem_univ c))
theorem s_mem (c : Dev nD) (j : Job) : sCell c j ∈ (barCells ∪ scCells : Finset (GSem nD τ sig)) :=
  Finset.mem_union_right _ (Finset.mem_map_of_mem scEmb (Finset.mem_univ (c, (false, j))))
theorem r_mem (c : Dev nD) (j : Job) : rCell c j ∈ (barCells ∪ scCells : Finset (GSem nD τ sig)) :=
  Finset.mem_union_right _ (Finset.mem_map_of_mem scEmb (Finset.mem_univ (c, (true, j))))

/-! ## What every device may consult -/

section
variable (X : Dev nD → S128x4096.Idx → Elt F .fp8e4m3)

def records (κ : GSem nD τ sig → ℕ) : sProp 𝕄 :=
  iprop((bigSep (barCells ∪ scCells) fun g => cellInv ER (ringRd X) (κ g) g) ∗ bigSep barCells fun g => reached ER g 0)

instance records_persistent (κ : GSem nD τ sig → ℕ) : BI.Persistent (records X κ) := by unfold records; infer_instance

theorem inv_at (κ : GSem nD τ sig → ℕ) {g : GSem nD τ sig} (hg : g ∈ (barCells ∪ scCells : Finset (GSem nD τ sig))) :
    records X κ ⊢ cellInv ER (ringRd X) (κ g) g := by
  unfold records
  exact Laws.sep_elim_left.trans (bigSep_elim hg)
theorem reached_at (κ : GSem nD τ sig → ℕ) (c : Dev nD) : records X κ ⊢ reached ER (barCell c) 0 := by
  unfold records
  rw [bar_sum]
  exact Laws.sep_elim_right.trans (bigSep_elim (Finset.mem_univ c))

/-- What follows from the records for each follows for all. -/
theorem all_of {α : Type} [Fintype α] [DecidableEq α] (κ : GSem nD τ sig → ℕ) (Ψ : α → sProp 𝕄) (h : ∀ i, records X κ ⊢ Ψ i) :
    records X κ ⊢ bigSep Finset.univ Ψ := by
  have e : iprop(records X κ ∗ bigSep (Finset.univ : Finset α) fun _ => iprop(emp)) ⊢ bigSep Finset.univ Ψ :=
    bigSep_with_persistent fun i _ => Laws.sep_elim_left.trans (h i)
  refine .trans ?_ e
  rw [show (bigSep (Finset.univ : Finset α) fun _ => (iprop(emp) : sProp 𝕄)) = iprop(emp) from BI.bigSep_emp_const _]
  exact Entails.of_eq (sep_nil _).symm

theorem invs_of (κ : GSem nD τ sig → ℕ) : records X κ ⊢ invs X κ := by
  unfold invs
  refine all_of X κ _ fun c => ?_
  unfold devInvs
  iintro #H
  isplitr; · iapply (inv_at X κ (bar_mem c)); iexact H
  iapply (all_of X κ (fun j : Job => if liv j = true then
      iprop(cellInv ER (ringRd X) (κ (sCell c j)) (sCell c j) ∗ cellInv ER (ringRd X) (κ (rCell c j)) (rCell c j)) else iprop(emp)) fun j => by
    by_cases hj : liv j = true
    · rw [if_pos hj]
      iintro #H
      isplitr; · iapply (inv_at X κ (s_mem c j)); iexact H
      iapply (inv_at X κ (r_mem c j)); iexact H
    · rw [if_neg hj]
      iintro -
      iempintro)
  iexact H

/-! ## What one device is dealt -/

/-- A transfer's rights: to open its semaphores, and to pay. -/
def opens (c : Dev nD) (j : Job) : sProp 𝕄 := iprop(openTok ER (sCell c j) ∗ openTok ER (rCell c j))
def pays (c : Dev nD) (j : Job) : sProp 𝕄 := iprop(dutyTok ER (sCell c j) 0 true ∗ dutyTok ER (rCell (nb j.1 c) j) 0 true)
def barPays (c : Dev nD) : sProp 𝕄 := iprop(dutyTok ER (barCell (nb false c)) 0 true ∗ dutyTok ER (barCell (nb true c)) 0 false)

def linear (c : Dev nD) : sProp 𝕄 :=
  iprop(atPos ER (barCell c) 0 ∅ 0 ∗ (bigSep Finset.univ fun j : Job => opens c j) ∗ barPays c ∗ bigSep Finset.univ fun j : Job => pays c j)

theorem jobs_all (P : Job → sProp 𝕄) : bigSep Finset.univ P ⊢ jobs P := by
  rw [jobs_dead]
  exact Laws.sep_elim_left

theorem dealt_of (κ : GSem nD τ sig → ℕ) (c : Dev nD) :
    iprop(records X κ ∗ linear c ∗ cred (tallyAt (barCell c) () 2) ∗ jobs fun j => cred (tallyAt (rCell c j) () N)) ⊢ dealt X c := by
  unfold linear barPays dealt BK
  iintro ⟨#HR, ⟨Hat, Ho, ⟨HtT, HtF⟩, Hp⟩, Hcb, Hcj⟩
  isplitr
  · iexists κ
    iapply (invs_of X κ)
    iexact HR
  isplitl [Hat HtT HtF Hcb]
  · isplitl [Hat]; · iexact Hat
    isplitl [Hcb]; · iexact Hcb
    isplitl [HtT]
    · isplitl [HtT]; · iexact HtT
      iapply (reached_at X κ (nb false c)); iexact HR
    isplitl [HtF]; · iexact HtF
    iapply (reached_at X κ (nb true c)); iexact HR
  iapply (Entails.of_eq ((jobs_sep (opens c) fun j => iprop(pays c j ∗ cred (tallyAt (rCell c j) () N))).trans
    (congrArg (fun Z => iprop(jobs (opens c) ∗ Z)) (jobs_sep (pays c) fun j => cred (tallyAt (rCell c j) () N)))).symm)
  isplitl [Ho]; · iapply (jobs_all (opens c)); iexact Ho
  isplitl [Hp]; · iapply (jobs_all (pays c)); iexact Hp
  iexact Hcj

end

/-! ## The tokens dealt around -/

theorem opens_eq : bigSep scCells (fun g => (openTok ER g : sProp 𝕄))
    = bigSep Finset.univ fun c : Dev nD => bigSep Finset.univ fun j : Job => opens c j := by
  unfold scCells
  rw [bigSep_map, bigSep_univ_prod]
  refine bigSep_congr fun c _ => ?_
  rw [bigSep_univ_prod, bigSep_univ_comm]
  exact bigSep_congr fun j _ => bigSep_univ_eq_bigSepL [false, true] (by decide) (by decide) _

theorem bar_toks : bigSep (Finset.univ.map barTokEmb) (fun x => (dutyTok ER x.1 x.2.1 x.2.2 : sProp 𝕄)) = bigSep Finset.univ fun c : Dev nD => barPays c := by
  rw [bigSep_map, bigSep_univ_prod, bigSep_univ_comm,
    bigSep_univ_eq_bigSepL [true, false] (by decide) (by decide)]
  unfold barPays
  rw [bigSep_sep']
  exact congr (congrArg BIBase.sep (bigSep_univ_equiv (ringE false) (fun c : Dev nD => (dutyTok ER (barCell c) 0 true : sProp 𝕄))))
    (bigSep_univ_equiv (ringE true) (fun c : Dev nD => (dutyTok ER (barCell c) 0 false : sProp 𝕄)))

theorem job_toks : bigSep (Finset.univ.map jobTokEmb) (fun x => (dutyTok ER x.1 x.2.1 x.2.2 : sProp 𝕄))
    = bigSep Finset.univ fun c : Dev nD => bigSep Finset.univ fun j : Job => pays c j := by
  have e : bigSep (Finset.univ.map jobTokEmb) (fun x => (dutyTok ER x.1 x.2.1 x.2.2 : sProp 𝕄))
      = bigSep Finset.univ fun c : Dev nD => bigSep Finset.univ fun j : Job => iprop(dutyTok ER (sCell c j) 0 true ∗ dutyTok ER (rCell c j) 0 true) := by
    rw [bigSep_map, bigSep_univ_prod]
    refine bigSep_congr fun c _ => ?_
    rw [bigSep_univ_prod, bigSep_univ_comm]
    exact bigSep_congr fun j _ => bigSep_univ_eq_bigSepL [false, true] (by decide) (by decide) _
  rw [e, bigSep_univ_comm, bigSep_univ_comm (fun (c : Dev nD) (j : Job) => pays c j)]
  refine bigSep_congr fun j _ => ?_
  unfold pays
  rw [bigSep_sep', bigSep_sep', bigSep_univ_equiv (ringE j.1) (fun c : Dev nD => (dutyTok ER (rCell c j) 0 true : sProp 𝕄))]
  rfl

theorem toks_eq : bigSep toks (fun x => (dutyTok ER x.1 x.2.1 x.2.2 : sProp 𝕄))
    = iprop((bigSep Finset.univ fun c : Dev nD => barPays c) ∗ bigSep Finset.univ fun c : Dev nD => bigSep Finset.univ fun j : Job => pays c j) := by
  unfold toks
  rw [← bar_toks, ← job_toks]
  exact bigSep_union disjoint_toks

theorem linear_sum : (bigSep Finset.univ fun c : Dev nD => (linear c : sProp 𝕄))
    = iprop((bigSep Finset.univ fun c : Dev nD => atPos ER (barCell c) 0 ∅ 0) ∗ (bigSep Finset.univ fun c : Dev nD => bigSep Finset.univ fun j : Job => opens c j)
      ∗ (bigSep Finset.univ fun c : Dev nD => barPays c) ∗ bigSep Finset.univ fun c : Dev nD => bigSep Finset.univ fun j : Job => pays c j) := by
  unfold linear
  rw [bigSep_sep', bigSep_sep', bigSep_sep']

theorem funded (X : Dev nD → S128x4096.Idx → Elt F .fp8e4m3) :
    iprop(bigSep barCells (fun g => (semVal g 0 : sProp 𝕄)) ∗ BI.own (ER (launchOf barCells scCells toks)))
      ⊢ (|={Set.univ}=> ∃ κ : GSem nD τ sig → ℕ, ⌜Set.InjOn κ (barCells ∪ scCells : Finset (GSem nD τ sig)) ∧ ∀ g ∈ barCells ∪ scCells, κ g ∉ (∅ : Finset ℕ)⌝
          ∗ bigSep (barCells ∪ scCells) (fun g => cellInv ER (ringRd X) (κ g) g)
          ∗ bigSep barCells (fun g => reached ER g 0) ∗ bigSep barCells (fun g => atPos ER g 0 ∅ 0)
          ∗ bigSep scCells (fun g => openTok ER g)
          ∗ bigSep toks (fun x => dutyTok ER x.1 x.2.1 x.2.2) : sProp 𝕄) :=
  Rounds.fund_launch ER (ringRd X) disjoint_cells (fun g _ h => h) toks

theorem regroup (X : Dev nD → S128x4096.Idx → Elt F .fp8e4m3) (κ : GSem nD τ sig → ℕ) (P : Prop) :
    iprop(⌜P⌝ ∗ bigSep (barCells ∪ scCells) (fun g => cellInv ER (ringRd X) (κ g) g)
      ∗ bigSep barCells (fun g => reached ER g 0) ∗ bigSep barCells (fun g => atPos ER g 0 ∅ 0)
      ∗ bigSep scCells (fun g => openTok ER g)
      ∗ bigSep toks (fun x => dutyTok ER x.1 x.2.1 x.2.2))
    ⊢ (iprop(records X κ ∗ bigSep Finset.univ fun c : Dev nD => linear c) : sProp 𝕄) := by
  rw [linear_sum, toks_eq, opens_eq, bar_sum fun g => atPos ER g 0 ∅ 0]
  unfold records
  iintro ⟨-, Hinv, Hr, Hat, Ho, Ht⟩
  isplitl [Hinv Hr]
  · isplitl [Hinv] <;> iassumption
  isplitl [Hat]; · iexact Hat
  isplitl [Ho]; · iexact Ho
  iexact Ht

/-- The launch of the protocol: from the barriers at zero, what each device is dealt. -/
theorem fund (X : Dev nD → S128x4096.Idx → Elt F .fp8e4m3) :
    iprop((bigSep Finset.univ fun c : Dev nD => semVal (barCell c) 0) ∗ BI.own (ER (launchOf barCells scCells toks)))
      ⊢ (|={Set.univ}=> ∃ κ, records X κ ∗ bigSep Finset.univ fun c : Dev nD => linear c : sProp 𝕄) := by
  rw [← bar_sum fun g => semVal g 0]
  iintro H
  imod (funded X) $$ H with ⟨%κ, H⟩
  imodintro
  iexists κ
  iapply (regroup X κ _) $$ H

end Cert.KernelIdeal.Ring

end
-- ==== Proof.KI.Body.lean ====
/- The kernel's body is the program the other modules reason about. -/
module

public import proofs.«01_k».proof.Proof.KI.Prog

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-- Two programs with one first operation agree when what follows agrees. -/
theorem op_congr.{v} {E : Type → Type v} {α β : Type} (e : E β) {k k' : β → Prog E α} (h : ∀ x, k x = k' x) :
    Prog.op e k = Prog.op e k' := congrArg _ (funext h)

set_option maxRecDepth 100000 in
set_option maxHeartbeats 4000000 in
theorem body_eq (h1 h2 h3 h4) : cc0_body (F := F) xM hx wM h1 scM h2 tabM h3 outM h4 commM hcomm cc0_scratch1 cc0_scratch2 cc0_scratch3 cc0_scratch4
    = bodyOp := by
  repeat refine op_congr _ (fun _ => ?_)
  rfl

end Cert.KernelIdeal.Ring

end
-- ==== Proof.KI.Region.lean ====
/- The body as the pipeline calls it: the windows' contents at the one point, and the body's obligation there. -/
module

public import proofs.«01_k».proof.Proof.KI.Ghost
public import proofs.«01_k».proof.Proof.KI.Body
public import Idealize.ShloMosaic.Lib.Pipeline.ValueKit

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## The arrays where the region starts -/

/-- Each device's block of `x`, -/
def xOf (c : Dev nD) : S128x4096.Idx → Elt F .fp8e4m3 := m ((c : Thread nD τ).loc main_arg0)
/-- its columns of `w`, -/
def wOf (c : Dev nD) : S4096x64.Idx → Elt F .fp8e5m2 := m ((c : Thread nD τ).loc main_arg1)
/-- the scale. -/
def scAOf (c : Dev nD) : S1.Idx → Elt F .f32 :=
  mulf (m ((c : Thread nD τ).loc main_arg2)) (m ((c : Thread nD τ).loc main_arg3))
/-- The result. -/
def outOf (c : Dev nD) : S4096x64.Idx → Elt F .f32 := Y (xOf m) (wOf m c) (scOf (scAOf m c))

theorem V_c (c : Dev nD) : V m c main_c = tabV (F := F) := by
  show StableHlo.after hostOps0 (fun b => m (c, b)) (Proc.devRef .tc main_c) = _
  unfold hostOps0
  rw [StableHlo.after_cons, StableHlo.after_cons, StableHlo.after_nil]
  rw [StableHlo.binary_result_ne (h := by decide)]
  rw [StableHlo.nullary_result]
  rfl
theorem V_v1 (c : Dev nD) : V m c main_v1 = scAOf m c := by
  show StableHlo.after hostOps0 (fun b => m (c, b)) (Proc.devRef .tc main_v1) = _
  unfold hostOps0
  rw [StableHlo.after_cons, StableHlo.after_cons, StableHlo.after_nil]
  rw [StableHlo.binary_result]
  rfl

/-! A window's one block is its array. -/

theorem emb_x (t : Fin cfg0.N) (i : S128x4096.Idx) : (((cfg0.win 0).blk t).view.emb i : S128x4096.Idx) = i := by
  funext a; apply Fin.ext; blk_simp; show 0 * _ + _ = _; rw [Nat.zero_mul, Nat.zero_add]
theorem blk_x (c : Dev nD) (t) : (iblk m c 0 t : S128x4096.Idx → Elt F .fp8e4m3) = xOf m c := by
  funext i; unfold iblk; exact (congrArg (V m c main_arg0) (emb_x t i)).trans (congrFun (V_main_arg0 m c) i)

theorem emb_w (t : Fin cfg0.N) (i : S4096x64.Idx) : (((cfg0.win 1).blk t).view.emb i : S4096x64.Idx) = i := by
  funext a; apply Fin.ext; blk_simp; show 0 * _ + _ = _; rw [Nat.zero_mul, Nat.zero_add]
theorem blk_w (c : Dev nD) (t) : (iblk m c 1 t : S4096x64.Idx → Elt F .fp8e5m2) = wOf m c := by
  funext i; unfold iblk; exact (congrArg (V m c main_arg1) (emb_w t i)).trans (congrFun (V_main_arg1 m c) i)

theorem emb_sc (t : Fin cfg0.N) (i : S1.Idx) : (((cfg0.win 2).blk t).view.emb i : S1.Idx) = i := by
  funext a; apply Fin.ext; blk_simp; show 0 * _ + _ = _; rw [Nat.zero_mul, Nat.zero_add]
theorem blk_sc (c : Dev nD) (t) : (iblk m c 2 t : S1.Idx → Elt F .f32) = scAOf m c := by
  funext i; unfold iblk; exact (congrArg (V m c main_v1) (emb_sc t i)).trans (congrFun (V_v1 m c) i)

theorem emb_tab (t : Fin cfg0.N) (i : S4x32.Idx) : (((cfg0.win 3).blk t).view.emb i : S4x32.Idx) = i := by
  funext a; apply Fin.ext; blk_simp; show 0 * _ + _ = _; rw [Nat.zero_mul, Nat.zero_add]
theorem blk_tab (c : Dev nD) (t) : (iblk m c 3 t : S4x32.Idx → Elt F .i32) = tabV (F := F) := by
  funext i; unfold iblk; exact (congrArg (V m c main_c) (emb_tab t i)).trans (congrFun (V_c m c) i)

/-! ## What holds around the one point -/

def before0 (c : Dev nD) : sProp 𝕄 :=
  iprop(opened (xOf m) c ∗ (∃ f, commL c ↦{fullShare} f) ∗ ∃ r, prngReg c r)
def after0 (c : Dev nD) : sProp 𝕄 :=
  iprop(semVal (barCell c) 0 ∗ Pipeline.ownSems0 osem c ∗ (∃ f, commL c ↦{fullShare} f) ∗ ∃ r, prngReg c r)

def dat (c : Dev nD) : Dat τ (Elt F) Unit ℕ UU ℕ cfg0 c where
  A w := V m c (Pipeline.arrRef spec0 w)
  after w _ := match w with
    | ⟨0, _⟩ => xOf m c
    | ⟨1, _⟩ => wOf m c
    | ⟨2, _⟩ => scAOf m c
    | ⟨3, _⟩ => tabV (F := F)
    | ⟨4, _⟩ => outOf m c
    | ⟨_ + 5, h⟩ => absurd h (Nat.not_lt.2 (Nat.le_add_left _ _))
  Φ t := match t with
    | ⟨0, _⟩ => before0 m c
    | ⟨_ + 1, _⟩ => after0 c
  q _ := fullShare
  owed t := match t with
    | ⟨0, _⟩ => O₀ c
    | ⟨_ + 1, _⟩ => 0

theorem before_x (c : Dev nD) (d) : (dat m c).before 0 t0_0 d = xOf m c := by
  unfold Dat.before; rw [if_pos (fetch0_0 t0_0)]; exact blk_x m c t0_0
theorem before_w (c : Dev nD) (d) : (dat m c).before 1 t0_0 d = wOf m c := by
  unfold Dat.before; rw [if_pos (fetch0_1 t0_0)]; exact blk_w m c t0_0
theorem before_sc (c : Dev nD) (d) : (dat m c).before 2 t0_0 d = scAOf m c := by
  unfold Dat.before; rw [if_pos (fetch0_2 t0_0)]; exact blk_sc m c t0_0
theorem before_tab (c : Dev nD) (d) : (dat m c).before 3 t0_0 d = tabV (F := F) := by
  unfold Dat.before; rw [if_pos (fetch0_3 t0_0)]; exact blk_tab m c t0_0

theorem owes_out {c : Dev nD} (dt : Dat τ (Elt F) Unit ℕ UU ℕ cfg0 c) (t : Fin (cfg0.N + 1)) (O : CellTallies nD τ sig Unit) (h : dt.owed t = O) :
    dt.owesAt () t ⊢ OW c O := by
  unfold Dat.owesAt Pipeline.owesWithin OW
  rw [h]
  iintro ⟨%W, -, HO⟩
  iexists W
  iexact HO
theorem owes_in {c : Dev nD} (dt : Dat τ (Elt F) Unit ℕ UU ℕ cfg0 c) (t : Fin (cfg0.N + 1)) (O : CellTallies nD τ sig Unit) (h : dt.owed t = O)
    (hr : dt.recorded t = Set.univ) : OW c O ⊢ dt.owesAt () t := by
  unfold Dat.owesAt Pipeline.owesWithin Dat.bound OW
  rw [h, hr]
  iintro ⟨%W, HO⟩
  iexists W
  isplitr; · ipureintro; exact fun _ _ => Or.inl trivial
  iexact HO

/-! ## The body -/

/-- A staging buffer held whole at `f`. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

theorem owns_stg (c : Dev nD) (b : Ref sig .tc) (f : b.ty.Contents (Elt F)) :
    (owns (Ix := Unit) (Name := ℕ) (U := UU) (Lvl := ℕ) (c : Thread nD τ) (Memref.whole b) fullShare f : sProp 𝕄) = stg c b f := by
  unfold owns; simp only [Memref.view_whole, View.read_whole, View.set_whole]

theorem stg_in (c : Dev nD) (b : Ref sig .tc) (f : Buf (Elt F) (((c : Dev nD) : Thread nD τ).loc b)) :
    (((c : Thread nD τ).loc b) ↦{fullShare} f : sProp 𝕄) ⊢ stg c b f := by
  iintro H
  iexists f
  isplitr; · ipureintro; rfl
  iexact H

def pointPre (c : Dev nD) : sProp 𝕄 :=
  iprop(before0 m c ∗ (dat m c).owesAt () t0_0.castSucc
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d))
    ∗ (∃ d, stg c cc0_stg4_0 ((dat m c).before 4 t0_0 d)))
def pointPost (c : Dev nD) : sProp 𝕄 :=
  iprop(after0 c ∗ (dat m c).owesAt () t0_0.succ
    ∗ stg c cc0_stg0_0 (xOf m c) ∗ stg c cc0_stg1_0 (wOf m c) ∗ stg c cc0_stg2_0 (scAOf m c) ∗ stg c cc0_stg3_0 (tabV (F := F))
    ∗ stg c cc0_stg4_0 (outOf m c))

theorem point_run (c : Dev nD) : pointPre m c ⊢ wp frame (wpE (defs₀ (F := F)) 𝒱₀ (c : Thread nD τ) none) Set.univ bodyOp (fun _ => pointPost m c) := by
  unfold pointPre before0 opened
  simp only [before_x, before_w, before_sc, before_tab]
  iintro ⟨⟨⟨⟨%K, #HC⟩, HB, Hj, Hd⟩, ⟨%f, Hf⟩, Hp⟩, HO, ⟨%_, %fx, %hx, Hx⟩, ⟨%_, %fw, %hw, Hw⟩, ⟨%_, %fs, %hs, Hs⟩, ⟨%_, %ft, %ht, Ht⟩, ⟨%d, %fo, -, Ho⟩⟩
  subst hx hw hs ht
  ihave HO' := (owes_out (dat m c) _ (O₀ c) rfl) $$ HO
  ihave H := (start_body (xOf m) K c (wOf m c) (scAOf m c) f) $$ [HO' HB Hj Hf Ht Hs Hw Ho Hx]
  · isplitl [HO']; · iexact HO'
    isplitr; · iexact HC
    isplitl [HB]; · iexact HB
    isplitl [Hj]; · iexact Hj
    isplitl [Hf]; · iexact Hf
    isplitl [Ht]; · iexact Ht
    isplitl [Hs]; · iexact Hs
    isplitl [Hw]; · iexact Hw
    isplitl [Ho]; · iexists fo; iexact Ho
    iexact Hx
  icases H with ⟨Hpre, H0⟩
  iapply (bodyOp_spec (xOf m) K (wOf m c) (scAOf m c) c fun _ => pointPost m c)
  isplitl [Hpre]; · iexact Hpre
  iintro Hpost
  ihave H := (end_body (xOf m) c (wOf m c) (scAOf m c)) $$ [Hpost H0 Hd]
  · isplitl [Hpost]; · iexact Hpost
    isplitl [H0] <;> iassumption
  icases H with ⟨HO, Hb, ⟨Ht, Hs, Hw, Ho, Hx⟩, Hos, Hf⟩
  unfold pointPost after0
  isplitl [Hb Hos Hf Hp]
  · isplitl [Hb]; · iexact Hb
    isplitl [Hos]; · iexact Hos
    isplitl [Hf] <;> iassumption
  isplitl [HO]; · iapply (owes_in (dat m c) _ 0 rfl rfl); iexact HO
  isplitl [Hx]; · iapply (stg_in c cc0_stg0_0 (xOf m c)); iexact Hx
  isplitl [Hw]; · iapply (stg_in c cc0_stg1_0 (wOf m c)); iexact Hw
  isplitl [Hs]; · iapply (stg_in c cc0_stg2_0 (scAOf m c)); iexact Hs
  isplitl [Ht]; · iapply (stg_in c cc0_stg3_0 (tabV (F := F))); iexact Ht
  iapply (stg_in c cc0_stg4_0 (outOf m c)); iexact Ho

set_option maxRecDepth 40000 in
theorem body_all (c : Dev nD) : BodyObligation (dat m c) (defs₀ (F := F)) 𝒱₀ () Set.univ := fun t => by
  rw [fin_N0 t]
  rw [bigSep_W0, bigSep_W0]
  simp only [owns_stg]
  show pointPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      cc0_scratch1 cc0_scratch2 cc0_scratch3 cc0_scratch4) (fun _ => pointPost m c)
  have h := body_eq (F := F) (Memref.isWhole_whole _) (Memref.isWhole_whole _) (Memref.isWhole_whole _) (Memref.isWhole_whole _)
  exact h ▸ point_run m c

end Cert.KernelIdeal.Ring

end
-- ==== Proof.KI.Launch.lean ====
/- The kernel's run: the region, the launch, and what a run leaves in memory. -/
module

public import proofs.«01_k».proof.Proof.KI.Deal
public import proofs.«01_k».proof.Proof.KI.Region
public import Idealize.ShloMosaic.Lib.Pipeline.RegionTalk
public import Idealize.ShloMosaic.Harness.Basic

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

/-- The buffers where the region starts, and where it ends. -/
def V₁ (c : Dev nD) : Valuation τ sig (Elt F) := StableHlo.after hostOps0 (fun b => m (c, b))
def V₂ (c : Dev nD) : Valuation τ sig (Elt F) := Function.update (V₁ m c) (Proc.devRef .tc main_v2) (outOf m c)

theorem V₂_out (c : Dev nD) : V₂ m c (Proc.devRef .tc main_v2) = outOf m c := Function.update_self ..
theorem V₂_ne (c : Dev nD) (b : DevRef τ sig) (h : b ≠ Proc.devRef .tc main_v2) : V₂ m c b = V₁ m c b := Function.update_of_ne h _ _

abbrev arrs : Finset (DevRef τ sig) := Pipeline.arrRefs (τ := τ) spec0
abbrev rest : Finset (DevRef τ sig) := Pipeline.ucRefs τ sig \ arrs

theorem arrs_sub : arrs ⊆ Pipeline.ucRefs τ sig := Pipeline.arrRefs_sub_ucRefs spec0 (by decide)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_above (c : Dev nD) : Above 0 (O₀ c) := by
  have hb (d : Dev nD) : Above 0 (tallyAt (barCell d) () 1) := fun g u h => by
    rw [tallyAt_apply] at h
    split at h
    · next hg => rw [hg.1]; exact ⟨rfl, by rw [lv_bar]; decide⟩
    · exact absurd h (Nat.lt_irrefl 0)
  unfold O₀ sendsO
  exact above_add (above_add (above_add (above_roundsO c _ fun _ _ => by omega) (above_segsO c 0 _ (by omega))) (hb _)) (hb _)

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  obtain ⟨t, ht⟩ := t
  cases t with
  | zero =>
    obtain ⟨h1, h2⟩ := O₀_above c g i h
    exact ⟨by unfold L; rw [if_pos h1]; exact Finset.mem_singleton_self _, h2⟩
  | succ n => exact absurd h (Nat.lt_irrefl 0)

theorem lv_win (c : Dev nD) (w : Fin 5) (s) : lv ((c : Thread nD τ), .dma ((spec0 w).sem s)) () ≤ 0 := by
  show lvOf (.dma ((spec0 w).sem s)) ≤ 0
  revert s w; decide +kernel

theorem held_none (c : Dev nD) (W : Valuation τ sig (Elt F)) : (StableHlo.held (c : Thread nD τ) ∅ W : sProp 𝕄) = iprop(emp) := by
  unfold StableHlo.held
  exact BI.bigSep_empty

theorem enter (c : Dev nD) :
    iprop(Pipeline.scopedRest (Pipeline.pin (pcfgs (F := F)) adm 0).spec c ∗ (∃ r, prngReg c r) ∗ StableHlo.held (c.tc : Thread nD τ) ∅ (V₁ m c) ∗ opened (xOf m) c)
    ⊢ (pdats m 0 c).Φ 0 := by
  show _ ⊢ before0 m c
  rw [show (Pipeline.scopedRest (Pipeline.pin (pcfgs (F := F)) adm 0).spec c : sProp 𝕄) = _ from scopedRest0_eq c]
  unfold before0
  iintro ⟨Hs, Hp, -, HX⟩
  isplitl [HX]; · iexact HX
  isplitl [Hs]; · iexact Hs
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ semVal (barCell c) 0) := by
  show after0 c ⊢ _
  rw [show (Pipeline.scopedRest (Pipeline.pin (pcfgs (F := F)) adm 0).spec c : sProp 𝕄) = _ from scopedRest0_eq c, held_none]
  unfold after0
  iintro ⟨Hb, Hos, Hs, Hp⟩
  isplitl [Hs]; · iexact Hs
  isplitl [Hp]; · iexact Hp
  isplitr; · iempintro
  isplitl [Hos]; · iexact Hos
  iexact Hb

/-- The output's array is what the body wrote. -/
theorem out_whole (c : Dev nD) : (dat m c).arrAt 4 cfg0.N = outOf m c :=
  (dat m c).arrAt_eq_of_after_last 4 t0_0 (by decide +kernel) (outOf m c) fun j => by
    refine congrArg (outOf m c) (funext fun a => Fin.ext ?_)
    blk_simp

theorem arr_first (c : Dev nD) (w : Fin 5) : (pdats m 0 c).arrAt w 0 = V₁ m c (Proc.devRef .tc (Pipeline.arrRef spec0 w)) := rfl
theorem arr_last (c : Dev nD) (w : Fin 5) :
    (pdats m 0 c).arrAt w cfg0.N = V₂ m c (Proc.devRef .tc (Pipeline.arrRef spec0 w)) := by
  match w with
  | 0 => exact ((dat m c).arrAt_in 0 rfl _).trans (V₂_ne m c (Proc.devRef .tc main_arg0) (by decide)).symm
  | 1 => exact ((dat m c).arrAt_in 1 rfl _).trans (V₂_ne m c (Proc.devRef .tc main_arg1) (by decide)).symm
  | 2 => exact ((dat m c).arrAt_in 2 rfl _).trans (V₂_ne m c (Proc.devRef .tc main_v1) (by decide)).symm
  | 3 => exact ((dat m c).arrAt_in 3 rfl _).trans (V₂_ne m c (Proc.devRef .tc main_c) (by decide)).symm
  | 4 => exact (out_whole m c).trans (V₂_out m c).symm

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts ∅ rest (Finset.empty_subset _) kit rfl
    (fun c => (body_all m c).loose) (fun _ => 0) O₀ (fun c => (zero_add (O₀ c)).symm) (fun _ => rfl) (fun _ => rfl)
    (fun c w => by unfold Dat.share; split <;> rfl) (V₁ m) (V₂ m)
    (fun c b hb => V₂_ne m c b fun h => (Finset.mem_sdiff.mp (Finset.mem_sdiff.mp hb).1).2 (by rw [h]; decide))
    (dealt (xOf m)) (fun c => semVal (barCell c) 0) (opened (xOf m)) (fun c => semVal (barCell c) 0)
    (open_launch (xOf m)) (enter m) (leave m) (fun c => by iintro H; imodintro; iexact H) (fun _ => 0)
    ⟨fun c w s => by rw [L_tc]; exact Finset.mem_singleton_self _, fun c w s => lv_win c w s, fun c t g i h => cut m c t g i h⟩
    (fun _ => iprop(emp)) (arr_first m) (arr_last m)

/-! ## The program as its two segments -/

/-- What rides beside the buffers up to the region. -/
def R (c : Dev nD) : sProp 𝕄 := iprop(dealt (xOf m) c ∗ (∃ r, prngReg c r) ∗ ∃ W, owes (c : Thread nD τ) (O₀ c) W)

def V₀ (c : Dev nD) : Valuation τ sig (Elt F) := fun b => m (c, b)

def host : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (List.forall_iff_forall_mem.mp hostOps0_fresh) (V₀ m) (R m)

def segs : List (Pipeline.Seg (pcfgs (F := F)) adm (pdats m) () defs₀ 𝒱₀ L lv) := [.host (host m), .region (region m)]

theorem main_eq (c : Dev nD) : main (F := F) c = Pipeline.Seg.run (segs m) :=
  main_segs adm (pdats m) () 𝒱₀ L lv (host m) (region m) rfl c

theorem region_pre (c : Dev nD) : iprop(StableHlo.held (c : Thread nD τ) (Pipeline.ucRefs τ sig) (V₁ m c) ∗ R m c) ⊢ (region m).pre c := by
  show _ ⊢ iprop(StableHlo.held (c.tc : Thread nD τ) arrs (V₁ m c) ∗ (∃ r, prngReg c r)
    ∗ (StableHlo.held (c.tc : Thread nD τ) rest (V₁ m c) ∗ emp) ∗ dealt (xOf m) c ∗ ∃ Wd, owes (c : Thread nD τ) (0 + O₀ c) Wd)
  rw [zero_add, StableHlo.held_sub_split (c : Thread nD τ) arrs_sub (V₁ m c)]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

def Tₙ (c : Dev nD) : sProp 𝕄 := iprop(StableHlo.held (c : Thread nD τ) (Pipeline.ucRefs τ sig) (V₂ m c) ∗ semVal (barCell c) 0)

theorem region_post (c : Dev nD) : (region m).post c ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) rest (V₂ m c) ∗ emp) ∗ semVal (barCell c) 0 ∗ ∃ Wd, owes (c : Thread nD τ) (0 : CellTallies nD τ sig Unit) Wd) ⊢ _
  unfold Tₙ
  rw [StableHlo.held_sub_split (c : Thread nD τ) arrs_sub (V₂ m c)]
  iintro ⟨Ha, -, ⟨Hr, -⟩, Hb, HO⟩
  isplitr [HO]
  · isplitl [Ha Hr]
    · isplitl [Ha] <;> iassumption
    iexact Hb
  iexact HO

/-! ## The launch -/

def u₀ : UU :=
  (initOf (Pipeline.cells (Pipeline.pin (pcfgs (F := F)) adm) cellOf_inj) (Pipeline.launchToks (Pipeline.pin (pcfgs (F := F)) adm) cellOf_inj),
    launchOf barCells scCells toks)

/-- A resource held as a family over the devices: all of it at the first. -/
def atZero (P : sProp 𝕄) (c : Dev nD) : sProp 𝕄 := if c = 0 then P else iprop(emp)
theorem atZero_sum (P : sProp 𝕄) : bigSep Finset.univ (atZero P) = P := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero
  rw [if_pos rfl]
  exact sep_nil P

/-- The protocol's share of the launch, kept at the first device till it is dealt. -/
def pool : Dev nD → sProp 𝕄 := atZero (BI.own (ER (launchOf barCells scCells toks)))

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

def T₀ (c : Dev nD) : sProp 𝕄 := iprop(StableHlo.held (c : Thread nD τ) (Pipeline.ucRefs τ sig) (V₀ m c) ∗ R m c)

/-- What a device has at launch beside the protocol's state. -/
def bundle (c : Dev nD) : sProp 𝕄 :=
  iprop(StableHlo.held (c : Thread nD τ) (Pipeline.ucRefs τ sig) (V₀ m c) ∗ Pipeline.launchCred O₀ c ∗ owes (c : Thread nD τ) (O₀ c) ∅ ∗ prngReg c (ρ c))

theorem T₀_intro (κ : GSem nD τ sig → ℕ) (c : Dev nD) : iprop(records (xOf m) κ ∗ (linear c ∗ bundle m ρ c)) ⊢ T₀ m c := by
  unfold bundle T₀ R
  iintro ⟨#HR, Hl, Hh, Hc, HO, Hp⟩
  isplitl [Hh]; · iexact Hh
  isplitl [Hl Hc]
  · iapply (dealt_of (xOf m) κ c)
    isplitr; · iexact HR
    isplitl [Hl]; · iexact Hl
    iapply (creds c); iexact Hc
  isplitl [Hp]; · iexists (ρ c); iexact Hp
  iexists ∅; iexact HO

def cores (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ pool c)

theorem core_split (c : Dev nD) : cores m ρ c ⊢ (iprop(bundle m ρ c ∗ (semVal (barCell c) 0 ∗ pool c)) : sProp 𝕄) := by
  unfold cores bundle
  rw [show unscopedBufs c (fun b => m ((c : Thread nD τ).loc b)) = StableHlo.held (c : Thread nD τ) (Pipeline.ucRefs τ sig) (V₀ m c) from Pipeline.unscopedBufs_held c (V₀ m c),
    unscopedSems_eq]
  iintro ⟨Hh, Hus, HO, Hcr, Hp, HG⟩
  isplitl [Hh HO Hcr Hp]
  · isplitl [Hh]; · iexact Hh
    isplitl [Hcr]; · iexact Hcr
    isplitl [HO] <;> iassumption
  isplitl [Hus] <;> iassumption

theorem init : iprop((bigSep Finset.univ (cores m ρ)) ∗ levAts L lv) ⊢ (|={Set.univ}=> bigSep Finset.univ (T₀ m) : sProp 𝕄) := by
  have h1 : bigSep Finset.univ (cores m ρ) ⊢ iprop(bigSep Finset.univ (bundle m ρ)
      ∗ (bigSep Finset.univ fun c : Dev nD => semVal (barCell c) 0) ∗ BI.own (ER (launchOf barCells scCells toks))) := by
    refine (each_mono fun c _ => core_split m ρ c).trans (Entails.of_eq ?_)
    rw [bigSep_sep', bigSep_sep']
    unfold pool
    rw [atZero_sum]
  iintro ⟨H, -⟩
  ihave H' := h1 $$ H
  icases H' with ⟨HB, HF⟩
  imod (fund (xOf m)) $$ HF with ⟨%κ, #HR, Hl⟩
  imodintro
  iapply (bigSep_with_persistent (R := records (xOf m) κ) (Φ := fun c => iprop(linear c ∗ bundle m ρ c)) fun c _ => T₀_intro m ρ κ c)
  isplitr; · iexact HR
  iapply (Entails.of_eq (bigSep_sep' Finset.univ (fun c : Dev nD => linear c) (bundle m ρ)).symm)
  isplitl [Hl] <;> iassumption

end Cert.KernelIdeal.Ring

end
-- ==== Proof.KI.Main.lean ====
/- What every run of the kernel leaves in memory. -/
module

public import proofs.«01_k».proof.Proof.KI.Launch

@[expose] public section

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

theorem uc_eq (c : Dev nD) (W : Valuation τ sig (Elt F)) : (StableHlo.held (c : Thread nD τ) (Pipeline.ucRefs τ sig) W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_v2) ↦{fullShare} W (Proc.devRef .tc main_v2))
      ∗ (((c : Thread nD τ).loc main_c) ↦{fullShare} W (Proc.devRef .tc main_c)) ∗ (((c : Thread nD τ).loc main_v1) ↦{fullShare} W (Proc.devRef .tc main_v1))) := by
  unfold StableHlo.held
  rw [bigSep_eq_bigSepL_of_eq [Proc.devRef .tc main_arg0, Proc.devRef .tc main_arg1, Proc.devRef .tc main_arg2, Proc.devRef .tc main_arg3,
    Proc.devRef .tc main_v2, Proc.devRef .tc main_c, Proc.devRef .tc main_v1] (by decide) (by decide)]
  rfl

/-- The arguments as given and the result as computed. -/
def Ends (m' : (ℓ : Loc nD τ sig) → Buf (Elt F) ℓ) (c : Dev nD) : Prop :=
  m' ((c : Thread nD τ).loc main_arg0) = m ((c : Thread nD τ).loc main_arg0) ∧ m' ((c : Thread nD τ).loc main_arg1) = m ((c : Thread nD τ).loc main_arg1)
    ∧ m' ((c : Thread nD τ).loc main_arg2) = m ((c : Thread nD τ).loc main_arg2) ∧ m' ((c : Thread nD τ).loc main_arg3) = m ((c : Thread nD τ).loc main_arg3)
    ∧ m' ((c : Thread nD τ).loc main_v2) = outOf m c

theorem V₂_arg0 (c : Dev nD) : V₂ m c (Proc.devRef .tc main_arg0) = m ((c : Thread nD τ).loc main_arg0) := (V₂_ne m c _ (by decide)).trans (V_main_arg0 m c)
theorem V₂_arg1 (c : Dev nD) : V₂ m c (Proc.devRef .tc main_arg1) = m ((c : Thread nD τ).loc main_arg1) := (V₂_ne m c _ (by decide)).trans (V_main_arg1 m c)
theorem V₂_arg2 (c : Dev nD) : V₂ m c (Proc.devRef .tc main_arg2) = m ((c : Thread nD τ).loc main_arg2) := (V₂_ne m c _ (by decide)).trans (V_main_arg2 m c)
theorem V₂_arg3 (c : Dev nD) : V₂ m c (Proc.devRef .tc main_arg3) = m ((c : Thread nD τ).loc main_arg3) := (V₂_ne m c _ (by decide)).trans (V_main_arg3 m c)

theorem reads (c : Dev nD) (s' : Phys nD τ sig (Elt F)) :
    iprop(Tₙ m c ∗ SI s') ⊢ (|={Set.univ}=> iprop(⌜Ends m s'.mem.mem c ∧ s'.mem.sem (barCell c) = 0⌝ ∗ SI s') : sProp 𝕄) := by
  unfold Tₙ
  rw [uc_eq, V₂_arg0, V₂_arg1, V₂_arg2, V₂_arg3, V₂_out]
  iintro ⟨⟨⟨H0, H1, H2, H3, Ho, -⟩, Hb⟩, HSI⟩
  icombine HSI H0 gives %h0
  icombine HSI H1 gives %h1
  icombine HSI H2 gives %h2
  icombine HSI H3 gives %h3
  icombine HSI Ho gives %ho
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ ho⟩, by simpa using hb⟩
  iexact HSI

theorem unscoped_bar : ∀ sm : SemLoc sig, sm.isScoped .tc = false → sm = .reg barS := by decide +kernel

set_option backward.isDefEq.respectTransparency.types false in
/-- Every run ends, with the arguments unchanged, each device's result computed, and every semaphore at zero. -/
theorem run_main : θ_run defs (onTc (τ := τ) (main (F := F))) ⟨m, fun _ => 0, ρ⟩
    (fun r => (∀ c : Dev nD, Ends m r.2.mem c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := pool) (u₀ := u₀)
    (hu₀ := by
      unfold u₀ pool
      iintro Hu
      ihave H := (ownU_pair _ _) $$ Hu
      icases H with ⟨HP, HX⟩
      imodintro
      isplitl [HP]; · iexact HP
      rw [atZero_sum]; iexact HX)
    (T₀ := T₀ m) (Tₙ := Tₙ m)
    (hch := ⟨fun c => .rfl, fun c => region_pre m c, fun c => region_post m c⟩)
    (hinit := init m ρ)
    (QY := fun c s => Ends m s.mem c ∧ s.sem (barCell c) = 0)
    (hfin := fun c s' => reads m c s')
    (hQ := fun s h hs => ⟨fun c => (h c).1, sem_eq_zero hs fun c sm hsm => by
      obtain rfl := unscoped_bar sm hsm
      exact (h c).2⟩)

end Cert.KernelIdeal.Ring

end
-- ==== Proof.RI.Value.lean ====
/- What the reference leaves in its result: its payload of the four arguments, whole. -/
module

public import proofs.«01_k».proof.Proof.Gen.ReferenceIdeal.Value
public import Idealize.ShloMosaic.Lib.Pipeline.ValueKit

@[expose] public section

noncomputable section

namespace Cert.ReferenceIdeal.Whole

open Cert.ReferenceIdeal Cert.ReferenceIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (c : Dev nD)

/-! ## The four arguments -/

def xOf : S4096x4096.Idx → Elt F .fp8e4m3 := m ((c : Thread nD τ).loc main_arg0)
def wOf : S4096x2048.Idx → Elt F .fp8e5m2 := m ((c : Thread nD τ).loc main_arg1)
def sxOf : S1.Idx → Elt F .f32 := m ((c : Thread nD τ).loc main_arg2)
def swOf : S1.Idx → Elt F .f32 := m ((c : Thread nD τ).loc main_arg3)

/-- The result as one function of them. -/
def outOf : S4096x2048.Idx → Elt F .f32 :=
  k0_pay1 (xOf m c) (wOf m c) (sxOf m c (ValueIdx.ix1 (0 : Fin 1))) (swOf m c (ValueIdx.ix1 (0 : Fin 1)))

/-! ## The one grid point's blocks are the arrays -/

theorem emb_x (t : Fin cfg0.N) (i : S4096x4096.Idx) : (((cfg0.win 0).blk t).view.emb i : S4096x4096.Idx) = i := by
  funext a; apply Fin.ext; blk_simp; show 0 * _ + _ = _; rw [Nat.zero_mul, Nat.zero_add]
theorem blk_x (t : Fin cfg0.N) : (iblk m c 0 t : S4096x4096.Idx → Elt F .fp8e4m3) = xOf m c := by
  funext i; unfold iblk; exact congrArg (xOf m c) (emb_x t i)
theorem emb_w (t : Fin cfg0.N) (i : S4096x2048.Idx) : (((cfg0.win 1).blk t).view.emb i : S4096x2048.Idx) = i := by
  funext a; apply Fin.ext; blk_simp; show 0 * _ + _ = _; rw [Nat.zero_mul, Nat.zero_add]
theorem blk_w (t : Fin cfg0.N) : (iblk m c 1 t : S4096x2048.Idx → Elt F .fp8e5m2) = wOf m c := by
  funext i; unfold iblk; exact congrArg (wOf m c) (emb_w t i)
/-- An index into one word names that word. -/
theorem one_word (i : S1.Idx) : i = ValueIdx.ix1 (0 : Fin 1) := by
  funext a; apply Fin.ext
  have h : (i a).val < S1.size a := (i a).isLt
  match a with
  | ⟨0, _⟩ => exact Nat.lt_one_iff.1 h
theorem blk_sx (t : Fin cfg0.N) : (iblk m c 2 t : S1.Idx → Elt F .f32) = sxOf m c := by
  funext i; unfold iblk; exact congrArg (sxOf m c) ((one_word _).trans (one_word i).symm)
theorem blk_sw (t : Fin cfg0.N) : (iblk m c 3 t : S1.Idx → Elt F .f32) = swOf m c := by
  funext i; unfold iblk; exact congrArg (swOf m c) ((one_word _).trans (one_word i).symm)

/-! ## The result -/

/-- What the body leaves in its result's buffer. -/
theorem outs (t : Fin cfg0.N) : outsAt0 m c t = outOf m c := by
  unfold outsAt0
  rw [blk_x, blk_w, blk_sx, blk_sw]
  frame_out
  exact congr (congr (congr (congrArg k0_pay1 ((hs0_0 t).read_unread _)) ((hs0_1 t).read_unread _))
    ((congrFun ((hs0_2 t).read_unread _) _).trans (congrArg (sxOf m c) (one_word _))))
    ((congrFun ((hs0_3 t).read_unread _) _).trans (congrArg (swOf m c) (one_word _)))

theorem out_whole : (dats m 0 c).arrAt 4 cfg0.N = outOf m c :=
  (dats m 0 c).arrAt_eq_of_after_last 4 t0_0 (by decide +kernel) (outOf m c) fun j => by
    rw [after0_4, outs]
    refine congrArg (outOf m c) (funext fun a => Fin.ext ?_)
    blk_simp

/-- Every run of the reference ends with the result at `outOf`, the arguments as they were. -/
theorem run_main (ρ : Dev nD → PrngReg) : θ_run defs (onTc (τ := τ) (main (F := F))) ⟨m, fun _ => 0, ρ⟩ fun r => ∀ c : Dev nD,
      r.2.mem ((c : Thread nD τ).loc main_v0) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (out_whole m c), (h c).2⟩) (Value.run_blocks m ρ)

end Cert.ReferenceIdeal.Whole

end
-- ==== Proof.Value.lean ====
/- The two programs' results at the extended reals: each device's result is its block of columns of the reference's. -/
module

public import proofs.«01_k».proof.Proof.KI.Block
public import proofs.«01_k».proof.Proof.RI.Value
public import Idealize.ShloMosaic.PureOps.Ideal.Laws
public import Idealize.ShloMosaic.Lib.Layout

@[expose] public section

noncomputable section

namespace Cert.Blocks

open Idealize.ShloMosaic Idealize.ShloMosaic.TcCoe

/-- A device's rows of `x`, its columns of `w`, the whole of each, and the two results. -/
abbrev XB : Shape := ⟨2, ![128, 4096]⟩
abbrev XW : Shape := ⟨2, ![4096, 4096]⟩
abbrev WB : Shape := ⟨2, ![4096, 64]⟩
abbrev WW : Shape := ⟨2, ![4096, 2048]⟩

/-- What both programs make of one element `p` of the product and the scale `s`: `y / (1 + exp (0 − y'))`, where
    `y = p · s` and `y'` is `y` held between −60 and 60. -/
def gate (s p : Ideal .f32) : Ideal .f32 :=
  FloatOps.divf (FloatOps.mulf p s)
    (FloatOps.addf (FloatOps.ofBits .f32 0x3F800000#32)
      (FloatOps.exp (FloatOps.subf (FloatOps.ofBits .f32 0x00000000#32)
        (FloatOps.minimumf (FloatOps.ofBits .f32 0x42700000#32)
          (FloatOps.maximumf (FloatOps.ofBits .f32 0xC2700000#32) (FloatOps.mulf p s))))))

/-- The kernel's payload at an index: the gate of a row times a column. -/
theorem pay_block (s : Ideal .f32) (x : XB.Idx → Ideal .fp8e4m3) (w : WB.Idx → Ideal .fp8e5m2) (i : KernelIdeal.S128x64.Idx) :
    KernelIdeal.Gen.k0_pay1 (F := Ideal) s x w i
      = gate s (∑ k : KernelIdeal.dot_S128x4096_S4096x64_S128x64_1_0_0_1_n_n.contr.Idx,
          x (KernelIdeal.dot_S128x4096_S4096x64_S128x64_1_0_0_1_n_n.lhsIdx i k)
            * w (KernelIdeal.dot_S128x4096_S4096x64_S128x64_1_0_0_1_n_n.rhsIdx i k)) := by
  unfold KernelIdeal.Gen.k0_pay1
  rw [shapeCast_self, shapeCast_self]
  exact congrArg (gate s) (Ideal.matmul_constant_zero_apply _ _ x w i)

/-- The reference's payload at an index likewise. -/
theorem pay_whole (a b : Ideal .f32) (x : XW.Idx → Ideal .fp8e4m3) (w : WW.Idx → Ideal .fp8e5m2) (i : WW.Idx) :
    ReferenceIdeal.Gen.k0_pay1 (F := Ideal) x w a b i
      = gate (FloatOps.mulf a b) (∑ k : ReferenceIdeal.dot_S4096x4096_S4096x2048_S4096x2048_1_0_0_1_n_n.contr.Idx,
          x (ReferenceIdeal.dot_S4096x4096_S4096x2048_S4096x2048_1_0_0_1_n_n.lhsIdx i k)
            * w (ReferenceIdeal.dot_S4096x4096_S4096x2048_S4096x2048_1_0_0_1_n_n.rhsIdx i k)) := by
  unfold ReferenceIdeal.Gen.k0_pay1
  exact congrArg (gate (FloatOps.mulf a b)) (Ideal.matmul_constant_zero_apply _ _ x w i)

theorem tiles_x : Layout.Tiles XB XW 0 32 := by decide
theorem tiles_w : Layout.Tiles WB WW 1 32 := by decide

/-- Row `i % 128` of the block of rows that holds row `i` is row `i`. -/
theorem row_at (c : Fin 32) (i : WB.Idx) (k) :
    tiles_x.idx (KernelIdeal.Ring.rowDev i) (KernelIdeal.dot_S128x4096_S4096x64_S128x64_1_0_0_1_n_n.lhsIdx (KernelIdeal.Ring.rowIx i) k)
      = ReferenceIdeal.dot_S4096x4096_S4096x2048_S4096x2048_1_0_0_1_n_n.lhsIdx (tiles_w.idx c i) k := by
  funext a
  apply Fin.ext
  match a with
  | ⟨0, _⟩ =>
    show (i 0).val / 128 * 128 + (i 0).val % 128 = (i 0).val
    omega
  | ⟨1, _⟩ => rfl

/-- Column `j` of block `c` of the columns is column `64 c + j`. -/
theorem col_at (c : Fin 32) (i : WB.Idx) (k) :
    tiles_w.idx c (KernelIdeal.dot_S128x4096_S4096x64_S128x64_1_0_0_1_n_n.rhsIdx (KernelIdeal.Ring.rowIx i) k)
      = ReferenceIdeal.dot_S4096x4096_S4096x2048_S4096x2048_1_0_0_1_n_n.rhsIdx (tiles_w.idx c i) k := by
  funext a
  apply Fin.ext
  match a with
  | ⟨0, _⟩ => rfl
  | ⟨1, _⟩ => rfl

/-- The blocks' product, gated, is the block of the whole's: where each device holds its rows of `x` and its columns of
    `w`, the ring's result on device `c` is block `c` of the reference's. -/
theorem block_eq (c : Fin 32) (x : XW.Idx → Ideal .fp8e4m3) (w : WW.Idx → Ideal .fp8e5m2) (a b : Ideal .f32) :
    KernelIdeal.Ring.Y (F := Ideal) (fun d => Layout.block XB XW 0 32 d x tiles_x) (Layout.block WB WW 1 32 c w tiles_w) (FloatOps.mulf a b)
      = Layout.block WB WW 1 32 c (ReferenceIdeal.Gen.k0_pay1 (F := Ideal) x w a b) tiles_w := by
  funext i
  unfold KernelIdeal.Ring.Y
  rw [Layout.block_apply, pay_block, pay_whole]
  refine congrArg (gate _) (Finset.sum_congr rfl fun k _ => ?_)
  exact congr (congrArg _ (congrArg x (row_at c i k))) (congrArg w (col_at c i k))

end Cert.Blocks

end
-- ==== Proof.lean ====
/- The claim: the ring kernel runs and comes to rest, at the machine's words and at the extended reals, and what it leaves
   on each device at the extended reals is that device's block of the reference's result. -/
module

public import proofs.«01_k».proof.Defs
public import proofs.«01_k».proof.Proof.K.Main
public import proofs.«01_k».proof.Proof.KI.Main
public import proofs.«01_k».proof.Proof.RI.Value
public import proofs.«01_k».proof.Proof.Value

@[expose] public section

noncomputable section

namespace Cert.Proof

open Idealize.ShloMosaic Idealize.SL.Sem

/-- The kernel's run at the machine's words. -/
theorem kernel_rests : Cert.quiescent_Kernel := fun m g _ =>
  (θ_run _ _ _).mono (fun _ h => ⟨fun c => ⟨(h.1 c).1, (h.1 c).2.1, (h.1 c).2.2.1, (h.1 c).2.2.2.1⟩, h.2⟩) (Kernel.Ring.run_main m g)

/-- The same at the extended reals. -/
theorem ideal_rests : Cert.quiescent_KernelIdeal := fun m g _ =>
  (θ_run _ _ _).mono (fun _ h => ⟨fun c => ⟨(h.1 c).1, (h.1 c).2.1, (h.1 c).2.2.1, (h.1 c).2.2.2.1⟩, h.2⟩) (KernelIdeal.Ring.run_main m g)

/-- A device's result, where the devices hold their parts of the reference's arguments, is its block of the reference's
    result. -/
theorem out_block (m : (ℓ : Loc KernelIdeal.nD KernelIdeal.τ KernelIdeal.sig) → Buf (Elt Ideal) ℓ)
    (x : Blocks.XW.Idx → Ideal .fp8e4m3) (w : Blocks.WW.Idx → Ideal .fp8e5m2) (a b : KernelIdeal.S1.Idx → Ideal .f32)
    (c : Dev KernelIdeal.nD)
    (hx : KernelIdeal.Ring.xOf m = fun d => Layout.block Blocks.XB Blocks.XW 0 32 d x Blocks.tiles_x)
    (hw : KernelIdeal.Ring.wOf m c = Layout.block Blocks.WB Blocks.WW 1 32 c w Blocks.tiles_w)
    (hs : KernelIdeal.Ring.scAOf m c = mulf a b) :
    KernelIdeal.Ring.outOf m c
      = Layout.block Blocks.WB Blocks.WW 1 32 c
          (ReferenceIdeal.Gen.k0_pay1 (F := Ideal) x w (a (ValueIdx.ix1 (0 : Fin 1))) (b (ValueIdx.ix1 (0 : Fin 1)))) Blocks.tiles_w := by
  unfold KernelIdeal.Ring.outOf
  rw [hx, hw, hs]
  exact Blocks.block_eq c x w _ _

/-- The two programs' results, part by part. -/
theorem results_agree : Cert.algebraic_KernelIdeal_ReferenceIdeal := fun m g m' g' _ hargs =>
  ⟨ReferenceIdeal.Whole.outOf m' 0,
    (θ_run _ _ _).mono (fun _ h c => ⟨(h.1 c).2.2.2.2.trans
        (out_block m (ReferenceIdeal.Whole.xOf m' 0) (ReferenceIdeal.Whole.wOf m' 0) (ReferenceIdeal.Whole.sxOf m' 0)
          (ReferenceIdeal.Whole.swOf m' 0) c (funext fun d => (hargs d).1) (hargs c).2.1
          (congr (congrArg mulf (hargs c).2.2.1) (hargs c).2.2.2)),
        (h.1 c).1, (h.1 c).2.1, (h.1 c).2.2.1, (h.1 c).2.2.2.1⟩) (KernelIdeal.Ring.run_main m g),
    (θ_run _ _ _).mono (fun _ h => h 0) (ReferenceIdeal.Whole.run_main m' g')⟩

theorem claim : Cert.Claim :=
  ⟨Cert.Kernel.Gen.facts, Cert.KernelIdeal.Gen.facts, Cert.ReferenceIdeal.Gen.facts,
    kernel_rests, ideal_rests, fun m g _ => ReferenceIdeal.Gen.frame m g, trivial, results_agree⟩

end Cert.Proof

end
